-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x32 : Shape := ⟨2, ![256, 32]⟩
abbrev S512x2 : Shape := ⟨2, ![512, 2]⟩
abbrev S2x256x512 : Shape := ⟨3, ![2, 256, 512]⟩
abbrev S_ : Shape := ⟨0, ![]⟩

class Facts : Prop where
  bcast_S_S512x2 : S_.BroadcastsInDim S512x2 (![] : Fin 0 → Fin S512x2.rank)
  bitsLt_bf16_f32 : FTy.bits .bf16 < FTy.bits .f32
  bcast_S_S512x256 : S_.BroadcastsInDim S512x256 (![] : Fin 0 → Fin S512x256.rank)
  bcast_S_S256x32 : S_.BroadcastsInDim S256x32 (![] : Fin 0 → Fin S256x32.rank)

variable [Facts]

def fn {F : FTy → Type} [FloatOps F] (main_arg0 : FVec F S512x256 .bf16) (main_arg1 : FVec F S256x32 .bf16) (main_arg2 : IVec S512x2 32) (main_arg3 : FVec F S2x256x512 .bf16) : IVec S512x2 1 × IVec S512x256 1 × IVec S256x32 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 32#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_v5 : FVec F S512x256 .f32 := (extf .f32 · bitsLt_bf16_f32) main_arg0
  let main_v6 : FVec F S512x256 .f32 := Host.absf main_v5
  let main_cst : FVec F S_ .f32 := constant S_ .f32 0x7F800000#32
  let main_v7 : FVec F S512x256 .f32 := broadcastInDim S512x256 ![] bcast_S_S512x256 main_cst
  let main_v8 : IVec S512x256 1 := cmpf .olt main_v6 main_v7
  let main_v9 : FVec F S256x32 .f32 := (extf .f32 · bitsLt_bf16_f32) main_arg1
  let main_v10 : FVec F S256x32 .f32 := Host.absf main_v9
  let main_cst_1 : FVec F S_ .f32 := constant S_ .f32 0x7F800000#32
  let main_v11 : FVec F S256x32 .f32 := broadcastInDim S256x32 ![] bcast_S_S256x32 main_cst_1
  let main_v12 : IVec S256x32 1 := cmpf .olt main_v10 main_v11
  (main_v4, main_v8, main_v12)
-- ==== Pre_routed_ReferenceIdeal.lean ====
abbrev S512x256 : Shape := ⟨2, ![512, 256]⟩
abbrev S256x32 : Shape := ⟨2, ![256, 32]⟩
abbrev S512x2 : Shape := ⟨2, ![512, 2]⟩
abbrev S32x256x512 : Shape := ⟨3, ![32, 256, 512]⟩
abbrev S_ : Shape := ⟨0, ![]⟩

class Facts : Prop where
  bcast_S_S512x2 : S_.BroadcastsInDim S512x2 (![] : Fin 0 → Fin S512x2.rank)
  bitsLt_bf16_f32 : FTy.bits .bf16 < FTy.bits .f32
  bcast_S_S512x256 : S_.BroadcastsInDim S512x256 (![] : Fin 0 → Fin S512x256.rank)
  bcast_S_S256x32 : S_.BroadcastsInDim S256x32 (![] : Fin 0 → Fin S256x32.rank)

variable [Facts]

def fn {F : FTy → Type} [FloatOps F] (main_arg0 : FVec F S512x256 .bf16) (main_arg1 : FVec F S256x32 .bf16) (main_arg2 : IVec S512x2 32) (main_arg3 : FVec F S32x256x512 .bf16) : IVec S512x2 1 × IVec S512x256 1 × IVec S256x32 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 32#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_v5 : FVec F S512x256 .f32 := (extf .f32 · bitsLt_bf16_f32) main_arg0
  let main_v6 : FVec F S512x256 .f32 := Host.absf main_v5
  let main_cst : FVec F S_ .f32 := constant S_ .f32 0x7F800000#32
  let main_v7 : FVec F S512x256 .f32 := broadcastInDim S512x256 ![] bcast_S_S512x256 main_cst
  let main_v8 : IVec S512x256 1 := cmpf .olt main_v6 main_v7
  let main_v9 : FVec F S256x32 .f32 := (extf .f32 · bitsLt_bf16_f32) main_arg1
  let main_v10 : FVec F S256x32 .f32 := Host.absf main_v9
  let main_cst_1 : FVec F S_ .f32 := constant S_ .f32 0x7F800000#32
  let main_v11 : FVec F S256x32 .f32 := broadcastInDim S256x32 ![] bcast_S_S256x32 main_cst_1
  let main_v12 : IVec S256x32 1 := cmpf .olt main_v10 main_v11
  (main_v4, main_v8, main_v12)
-- ==== Kernel.lean ====
abbrev S512x256 : Shape := ⟨2, ![512, 256]⟩
abbrev S256x32 : Shape := ⟨2, ![256, 32]⟩
abbrev S512x2 : Shape := ⟨2, ![512, 2]⟩
abbrev S2x256x512 : Shape := ⟨3, ![2, 256, 512]⟩
abbrev S32x512 : Shape := ⟨2, ![32, 512]⟩
abbrev S512x1 : Shape := ⟨2, ![512, 1]⟩
abbrev S512x512 : Shape := ⟨2, ![512, 512]⟩
abbrev S3x32x512 : Shape := ⟨3, ![3, 32, 512]⟩
abbrev S4x4x32x512 : Shape := ⟨4, ![4, 4, 32, 512]⟩
abbrev S4x32x512 : Shape := ⟨3, ![4, 32, 512]⟩
abbrev S4x4 : Shape := ⟨2, ![4, 4]⟩
abbrev S4 : Shape := ⟨1, ![4]⟩
abbrev S_ : Shape := ⟨0, ![]⟩
abbrev S512x32 : Shape := ⟨2, ![512, 32]⟩
abbrev S512 : Shape := ⟨1, ![512]⟩
abbrev S1x256x512 : Shape := ⟨3, ![1, 256, 512]⟩
abbrev S256x512 : Shape := ⟨2, ![256, 512]⟩
abbrev S128x256 : Shape := ⟨2, ![128, 256]⟩
abbrev S128x1 : Shape := ⟨2, ![128, 1]⟩
abbrev S128x512 : Shape := ⟨2, ![128, 512]⟩
abbrev S1x1 : Shape := ⟨2, ![1, 1]⟩
abbrev S1x1x32x512 : Shape := ⟨4, ![1, 1, 32, 512]⟩
abbrev S1x32x512 : Shape := ⟨3, ![1, 32, 512]⟩
abbrev S1 : Shape := ⟨1, ![1]⟩

abbrev nBuf : Space → Nat
  | .hbm => 5
  | .vmem => 11
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x2, .i32⟩
  | .hbm, ⟨3, _⟩ => ⟨S2x256x512, .bf16⟩
  | .hbm, ⟨4, _⟩ => ⟨S32x512, .f32⟩
  | .local _ .vmem, ⟨0, _⟩ => ⟨S512x256, .bf16⟩
  | .local _ .vmem, ⟨1, _⟩ => ⟨S256x32, .bf16⟩
  | .local _ .vmem, ⟨2, _⟩ => ⟨S512x2, .i32⟩
  | .local _ .vmem, ⟨3, _⟩ => ⟨S2x256x512, .bf16⟩
  | .local _ .vmem, ⟨4, _⟩ => ⟨S32x512, .f32⟩
  | .local _ .vmem, ⟨5, _⟩ => ⟨S512x1, .f32⟩
  | .local _ .vmem, ⟨6, _⟩ => ⟨S512x1, .f32⟩
  | .local _ .vmem, ⟨7, _⟩ => ⟨S512x512, .bf16⟩
  | .local _ .vmem, ⟨8, _⟩ => ⟨S3x32x512, .bf16⟩
  | .local _ .vmem, ⟨9, _⟩ => ⟨S4x4x32x512, .bf16⟩
  | .local _ .vmem, ⟨10, _⟩ => ⟨S4x32x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v31 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v32 : BitVec 32 := Scalar.addi v29 c1_i32_12
  let c4_i32_13 : BitVec 32 := 4#32
  let c0_i32_14 : BitVec 32 := 0#32
  let v33 : BitVec 1 := Scalar.cmpi .eq c4_i32_13 c0_i32_14
  let c1_i32_15 : BitVec 32 := 1#32
  let v34 : BitVec 32 := Scalar.select v33 c1_i32_15 c4_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let v43 : BitVec 32 := Scalar.addi v31 v42
  let c1_i32_20 : BitVec 32 := 1#32
  let v44 : BitVec 32 := Scalar.muli v43 c1_i32_20
  let v45 : BitVec 32 := Scalar.addi c0_i32_21 v44
  v45.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_22 : BitVec 32 := 4#32
  let v46 : BitVec 32 := Scalar.muli v19 c4_i32_22
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v47 : BitVec 32 := Scalar.addi v29 c2_i32
  let c4_i32_23 : BitVec 32 := 4#32
  let c0_i32_24 : BitVec 32 := 0#32
  let v48 : BitVec 1 := Scalar.cmpi .eq c4_i32_23 c0_i32_24
  let c1_i32_25 : BitVec 32 := 1#32
  let v49 : BitVec 32 := Scalar.select v48 c1_i32_25 c4_i32_23
  let v50 : BitVec 32 := Scalar.remsi v47 v49
  let c0_i32_27 : BitVec 32 := 0#32
  let v52 : BitVec 1 := Scalar.cmpi .slt v50 c0_i32_27
  let c0_i32_28 : BitVec 32 := 0#32
  let v53 : BitVec 1 := Scalar.cmpi .slt v49 c0_i32_28
  let v54 : BitVec 1 := Scalar.xori v52 v53
  let c0_i32_26 : BitVec 32 := 0#32
  let v51 : BitVec 1 := Scalar.cmpi .ne v50 c0_i32_26
  let v55 : BitVec 1 := Scalar.andi v54 v51
  let v56 : BitVec 32 := Scalar.addi v50 v49
  let v57 : BitVec 32 := Scalar.select v55 v56 v50
  let v58 : BitVec 32 := Scalar.addi v46 v57
  let c1_i32_30 : BitVec 32 := 1#32
  let v59 : BitVec 32 := Scalar.muli v58 c1_i32_30
  let v60 : BitVec 32 := Scalar.addi c0_i32_31 v59
  v60.toNat
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_32 : BitVec 32 := 4#32
  let v61 : BitVec 32 := Scalar.muli v19 c4_i32_32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v62 : BitVec 32 := Scalar.addi v29 c3_i32
  let c4_i32_33 : BitVec 32 := 4#32
  let c0_i32_34 : BitVec 32 := 0#32
  let v63 : BitVec 1 := Scalar.cmpi .eq c4_i32_33 c0_i32_34
  let c1_i32_35 : BitVec 32 := 1#32
  let v64 : BitVec 32 := Scalar.select v63 c1_i32_35 c4_i32_33
  let v65 : BitVec 32 := Scalar.remsi v62 v64
  let c0_i32_37 : BitVec 32 := 0#32
  let v67 : BitVec 1 := Scalar.cmpi .slt v65 c0_i32_37
  let c0_i32_38 : BitVec 32 := 0#32
  let v68 : BitVec 1 := Scalar.cmpi .slt v64 c0_i32_38
  let v69 : BitVec 1 := Scalar.xori v67 v68
  let c0_i32_36 : BitVec 32 := 0#32
  let v66 : BitVec 1 := Scalar.cmpi .ne v65 c0_i32_36
  let v70 : BitVec 1 := Scalar.andi v69 v66
  let v71 : BitVec 32 := Scalar.addi v65 v64
  let v72 : BitVec 32 := Scalar.select v70 v71 v65
  let v73 : BitVec 32 := Scalar.addi v61 v72
  let c1_i32_40 : BitVec 32 := 1#32
  let v74 : BitVec 32 := Scalar.muli v73 c1_i32_40
  let v75 : BitVec 32 := Scalar.addi c0_i32_41 v74
  v75.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_42 : BitVec 32 := 1#32
  let v76 : BitVec 32 := Scalar.addi v19 c1_i32_42
  let c4_i32_43 : BitVec 32 := 4#32
  let c0_i32_44 : BitVec 32 := 0#32
  let v77 : BitVec 1 := Scalar.cmpi .eq c4_i32_43 c0_i32_44
  let c1_i32_45 : BitVec 32 := 1#32
  let v78 : BitVec 32 := Scalar.select v77 c1_i32_45 c4_i32_43
  let v79 : BitVec 32 := Scalar.remsi v76 v78
  let c0_i32_47 : BitVec 32 := 0#32
  let v81 : BitVec 1 := Scalar.cmpi .slt v79 c0_i32_47
  let c0_i32_48 : BitVec 32 := 0#32
  let v82 : BitVec 1 := Scalar.cmpi .slt v78 c0_i32_48
  let v83 : BitVec 1 := Scalar.xori v81 v82
  let c0_i32_46 : BitVec 32 := 0#32
  let v80 : BitVec 1 := Scalar.cmpi .ne v79 c0_i32_46
  let v84 : BitVec 1 := Scalar.andi v83 v80
  let v85 : BitVec 32 := Scalar.addi v79 v78
  let v86 : BitVec 32 := Scalar.select v84 v85 v79
  let c4_i32_49 : BitVec 32 := 4#32
  let v87 : BitVec 32 := Scalar.muli v86 c4_i32_49
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v88 : BitVec 32 := Scalar.addi v87 v29
  let c1_i32_51 : BitVec 32 := 1#32
  let v89 : BitVec 32 := Scalar.muli v88 c1_i32_51
  let v90 : BitVec 32 := Scalar.addi c0_i32_52 v89
  v90.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_53 : BitVec 32 := 2#32
  let v91 : BitVec 32 := Scalar.addi v19 c2_i32_53
  let c4_i32_54 : BitVec 32 := 4#32
  let c0_i32_55 : BitVec 32 := 0#32
  let v92 : BitVec 1 := Scalar.cmpi .eq c4_i32_54 c0_i32_55
  let c1_i32_56 : BitVec 32 := 1#32
  let v93 : BitVec 32 := Scalar.select v92 c1_i32_56 c4_i32_54
  let v94 : BitVec 32 := Scalar.remsi v91 v93
  let c0_i32_58 : BitVec 32 := 0#32
  let v96 : BitVec 1 := Scalar.cmpi .slt v94 c0_i32_58
  let c0_i32_59 : BitVec 32 := 0#32
  let v97 : BitVec 1 := Scalar.cmpi .slt v93 c0_i32_59
  let v98 : BitVec 1 := Scalar.xori v96 v97
  let c0_i32_57 : BitVec 32 := 0#32
  let v95 : BitVec 1 := Scalar.cmpi .ne v94 c0_i32_57
  let v99 : BitVec 1 := Scalar.andi v98 v95
  let v100 : BitVec 32 := Scalar.addi v94 v93
  let v101 : BitVec 32 := Scalar.select v99 v100 v94
  let c4_i32_60 : BitVec 32 := 4#32
  let v102 : BitVec 32 := Scalar.muli v101 c4_i32_60
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v103 : BitVec 32 := Scalar.addi v102 v29
  let c1_i32_62 : BitVec 32 := 1#32
  let v104 : BitVec 32 := Scalar.muli v103 c1_i32_62
  let v105 : BitVec 32 := Scalar.addi c0_i32_63 v104
  v105.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_64 : BitVec 32 := 3#32
  let v106 : BitVec 32 := Scalar.addi v19 c3_i32_64
  let c4_i32_65 : BitVec 32 := 4#32
  let c0_i32_66 : BitVec 32 := 0#32
  let v107 : BitVec 1 := Scalar.cmpi .eq c4_i32_65 c0_i32_66
  let c1_i32_67 : BitVec 32 := 1#32
  let v108 : BitVec 32 := Scalar.select v107 c1_i32_67 c4_i32_65
  let v109 : BitVec 32 := Scalar.remsi v106 v108
  let c0_i32_69 : BitVec 32 := 0#32
  let v111 : BitVec 1 := Scalar.cmpi .slt v109 c0_i32_69
  let c0_i32_70 : BitVec 32 := 0#32
  let v112 : BitVec 1 := Scalar.cmpi .slt v108 c0_i32_70
  let v113 : BitVec 1 := Scalar.xori v111 v112
  let c0_i32_68 : BitVec 32 := 0#32
  let v110 : BitVec 1 := Scalar.cmpi .ne v109 c0_i32_68
  let v114 : BitVec 1 := Scalar.andi v113 v110
  let v115 : BitVec 32 := Scalar.addi v109 v108
  let v116 : BitVec 32 := Scalar.select v114 v115 v109
  let c4_i32_71 : BitVec 32 := 4#32
  let v117 : BitVec 32 := Scalar.muli v116 c4_i32_71
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v118 : BitVec 32 := Scalar.addi v117 v29
  let c1_i32_73 : BitVec 32 := 1#32
  let v119 : BitVec 32 := Scalar.muli v118 c1_i32_73
  let v120 : BitVec 32 := Scalar.addi c0_i32_74 v119
  v120.toNat
def k0_off1 (d0 : Dev nD) (c0_i32_107 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_106 : BitVec 32 := 1#32
  let v184 : BitVec 32 := Scalar.addi v19 c1_i32_106
  let v185 : BitVec 32 := Scalar.addi v184 c0_i32_107
  let c4_i32_108 : BitVec 32 := 4#32
  let c0_i32_109 : BitVec 32 := 0#32
  let v186 : BitVec 1 := Scalar.cmpi .eq c4_i32_108 c0_i32_109
  let c1_i32_110 : BitVec 32 := 1#32
  let v187 : BitVec 32 := Scalar.select v186 c1_i32_110 c4_i32_108
  let v188 : BitVec 32 := Scalar.remsi v185 v187
  let c0_i32_112 : BitVec 32 := 0#32
  let v190 : BitVec 1 := Scalar.cmpi .slt v188 c0_i32_112
  let c0_i32_113 : BitVec 32 := 0#32
  let v191 : BitVec 1 := Scalar.cmpi .slt v187 c0_i32_113
  let v192 : BitVec 1 := Scalar.xori v190 v191
  let c0_i32_111 : BitVec 32 := 0#32
  let v189 : BitVec 1 := Scalar.cmpi .ne v188 c0_i32_111
  let v193 : BitVec 1 := Scalar.andi v192 v189
  let v194 : BitVec 32 := Scalar.addi v188 v187
  let v195 : BitVec 32 := Scalar.select v193 v194 v188
  let c128_i32 : BitVec 32 := 128#32
  let v196 : BitVec 32 := Scalar.muli v195 c128_i32
  let v197 : Index := Scalar.indexCast v196
  let c0_114 : Index := 0#32
  ![v197.toNat, 0]
def k0_off2 (d0 : Dev nD) (c0_i32_107 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_106 : BitVec 32 := 1#32
  let v184 : BitVec 32 := Scalar.addi v19 c1_i32_106
  let v185 : BitVec 32 := Scalar.addi v184 c0_i32_107
  let c4_i32_108 : BitVec 32 := 4#32
  let c0_i32_109 : BitVec 32 := 0#32
  let v186 : BitVec 1 := Scalar.cmpi .eq c4_i32_108 c0_i32_109
  let c1_i32_110 : BitVec 32 := 1#32
  let v187 : BitVec 32 := Scalar.select v186 c1_i32_110 c4_i32_108
  let v188 : BitVec 32 := Scalar.remsi v185 v187
  let c0_i32_112 : BitVec 32 := 0#32
  let v190 : BitVec 1 := Scalar.cmpi .slt v188 c0_i32_112
  let c0_i32_113 : BitVec 32 := 0#32
  let v191 : BitVec 1 := Scalar.cmpi .slt v187 c0_i32_113
  let v192 : BitVec 1 := Scalar.xori v190 v191
  let c0_i32_111 : BitVec 32 := 0#32
  let v189 : BitVec 1 := Scalar.cmpi .ne v188 c0_i32_111
  let v193 : BitVec 1 := Scalar.andi v192 v189
  let v194 : BitVec 32 := Scalar.addi v188 v187
  let v195 : BitVec 32 := Scalar.select v193 v194 v188
  let c128_i32 : BitVec 32 := 128#32
  let v196 : BitVec 32 := Scalar.muli v195 c128_i32
  let v200 : Index := Scalar.indexCast v196
  let c0_115 : Index := 0#32
  ![v200.toNat, 0]
def k0_off3 (d0 : Dev nD) (c0_i32_107 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_106 : BitVec 32 := 1#32
  let v184 : BitVec 32 := Scalar.addi v19 c1_i32_106
  let v185 : BitVec 32 := Scalar.addi v184 c0_i32_107
  let c4_i32_108 : BitVec 32 := 4#32
  let c0_i32_109 : BitVec 32 := 0#32
  let v186 : BitVec 1 := Scalar.cmpi .eq c4_i32_108 c0_i32_109
  let c1_i32_110 : BitVec 32 := 1#32
  let v187 : BitVec 32 := Scalar.select v186 c1_i32_110 c4_i32_108
  let v188 : BitVec 32 := Scalar.remsi v185 v187
  let c0_i32_112 : BitVec 32 := 0#32
  let v190 : BitVec 1 := Scalar.cmpi .slt v188 c0_i32_112
  let c0_i32_113 : BitVec 32 := 0#32
  let v191 : BitVec 1 := Scalar.cmpi .slt v187 c0_i32_113
  let v192 : BitVec 1 := Scalar.xori v190 v191
  let c0_i32_111 : BitVec 32 := 0#32
  let v189 : BitVec 1 := Scalar.cmpi .ne v188 c0_i32_111
  let v193 : BitVec 1 := Scalar.andi v192 v189
  let v194 : BitVec 32 := Scalar.addi v188 v187
  let v195 : BitVec 32 := Scalar.select v193 v194 v188
  let c128_i32 : BitVec 32 := 128#32
  let v196 : BitVec 32 := Scalar.muli v195 c128_i32
  let v216 : Index := Scalar.indexCast v196
  let c0_119 : Index := 0#32
  ![v216.toNat, 0]
def k0_off4 (d0 : Dev nD) (c0_i32_107 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_106 : BitVec 32 := 1#32
  let v184 : BitVec 32 := Scalar.addi v19 c1_i32_106
  let v185 : BitVec 32 := Scalar.addi v184 c0_i32_107
  let c4_i32_108 : BitVec 32 := 4#32
  let c0_i32_109 : BitVec 32 := 0#32
  let v186 : BitVec 1 := Scalar.cmpi .eq c4_i32_108 c0_i32_109
  let c1_i32_110 : BitVec 32 := 1#32
  let v187 : BitVec 32 := Scalar.select v186 c1_i32_110 c4_i32_108
  let v188 : BitVec 32 := Scalar.remsi v185 v187
  let c0_i32_112 : BitVec 32 := 0#32
  let v190 : BitVec 1 := Scalar.cmpi .slt v188 c0_i32_112
  let c0_i32_113 : BitVec 32 := 0#32
  let v191 : BitVec 1 := Scalar.cmpi .slt v187 c0_i32_113
  let v192 : BitVec 1 := Scalar.xori v190 v191
  let c0_i32_111 : BitVec 32 := 0#32
  let v189 : BitVec 1 := Scalar.cmpi .ne v188 c0_i32_111
  let v193 : BitVec 1 := Scalar.andi v192 v189
  let v194 : BitVec 32 := Scalar.addi v188 v187
  let v195 : BitVec 32 := Scalar.select v193 v194 v188
  ![v29.toNat, v195.toNat]
def k0_off5 (d0 : Dev nD) (c0_i32_107 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_106 : BitVec 32 := 1#32
  let v184 : BitVec 32 := Scalar.addi v19 c1_i32_106
  let v185 : BitVec 32 := Scalar.addi v184 c0_i32_107
  let c4_i32_108 : BitVec 32 := 4#32
  let c0_i32_109 : BitVec 32 := 0#32
  let v186 : BitVec 1 := Scalar.cmpi .eq c4_i32_108 c0_i32_109
  let c1_i32_110 : BitVec 32 := 1#32
  let v187 : BitVec 32 := Scalar.select v186 c1_i32_110 c4_i32_108
  let v188 : BitVec 32 := Scalar.remsi v185 v187
  let c0_i32_112 : BitVec 32 := 0#32
  let v190 : BitVec 1 := Scalar.cmpi .slt v188 c0_i32_112
  let c0_i32_113 : BitVec 32 := 0#32
  let v191 : BitVec 1 := Scalar.cmpi .slt v187 c0_i32_113
  let v192 : BitVec 1 := Scalar.xori v190 v191
  let c0_i32_111 : BitVec 32 := 0#32
  let v189 : BitVec 1 := Scalar.cmpi .ne v188 c0_i32_111
  let v193 : BitVec 1 := Scalar.andi v192 v189
  let v194 : BitVec 32 := Scalar.addi v188 v187
  let v195 : BitVec 32 := Scalar.select v193 v194 v188
  let c0_i32_133 : BitVec 32 := 0#32
  let c0_i32_134 : BitVec 32 := 0#32
  ![v29.toNat, v195.toNat, 0, 0]
def k0_off6 (d0 : Dev nD) (c0_i32_107 : BitVec 32) (c1_i32_120 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_106 : BitVec 32 := 1#32
  let v184 : BitVec 32 := Scalar.addi v19 c1_i32_106
  let v185 : BitVec 32 := Scalar.addi v184 c0_i32_107
  let c4_i32_108 : BitVec 32 := 4#32
  let c0_i32_109 : BitVec 32 := 0#32
  let v186 : BitVec 1 := Scalar.cmpi .eq c4_i32_108 c0_i32_109
  let c1_i32_110 : BitVec 32 := 1#32
  let v187 : BitVec 32 := Scalar.select v186 c1_i32_110 c4_i32_108
  let v188 : BitVec 32 := Scalar.remsi v185 v187
  let c0_i32_112 : BitVec 32 := 0#32
  let v190 : BitVec 1 := Scalar.cmpi .slt v188 c0_i32_112
  let c0_i32_113 : BitVec 32 := 0#32
  let v191 : BitVec 1 := Scalar.cmpi .slt v187 c0_i32_113
  let v192 : BitVec 1 := Scalar.xori v190 v191
  let c0_i32_111 : BitVec 32 := 0#32
  let v189 : BitVec 1 := Scalar.cmpi .ne v188 c0_i32_111
  let v193 : BitVec 1 := Scalar.andi v192 v189
  let v194 : BitVec 32 := Scalar.addi v188 v187
  let v195 : BitVec 32 := Scalar.select v193 v194 v188
  let c4_i32_127 : BitVec 32 := 4#32
  let v231 : BitVec 32 := Scalar.muli v195 c4_i32_127
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v220 : BitVec 32 := Scalar.addi v29 c1_i32_120
  let c4_i32_121 : BitVec 32 := 4#32
  let c0_i32_122 : BitVec 32 := 0#32
  let v221 : BitVec 1 := Scalar.cmpi .eq c4_i32_121 c0_i32_122
  let c1_i32_123 : BitVec 32 := 1#32
  let v222 : BitVec 32 := Scalar.select v221 c1_i32_123 c4_i32_121
  let v223 : BitVec 32 := Scalar.remsi v220 v222
  let c0_i32_125 : BitVec 32 := 0#32
  let v225 : BitVec 1 := Scalar.cmpi .slt v223 c0_i32_125
  let c0_i32_126 : BitVec 32 := 0#32
  let v226 : BitVec 1 := Scalar.cmpi .slt v222 c0_i32_126
  let v227 : BitVec 1 := Scalar.xori v225 v226
  let c0_i32_124 : BitVec 32 := 0#32
  let v224 : BitVec 1 := Scalar.cmpi .ne v223 c0_i32_124
  let v228 : BitVec 1 := Scalar.andi v227 v224
  let v229 : BitVec 32 := Scalar.addi v223 v222
  let v230 : BitVec 32 := Scalar.select v228 v229 v223
  let v232 : BitVec 32 := Scalar.addi v231 v230
  let c32_i32 : BitVec 32 := 32#32
  let v233 : BitVec 32 := Scalar.muli v232 c32_i32
  let c0_i32_135 : BitVec 32 := 0#32
  ![v233.toNat, 0]
def k0_dev7 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_128 : BitVec 32 := 4#32
  let v234 : BitVec 32 := Scalar.muli v19 c4_i32_128
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_120 : BitVec 32 := 1#32
  let v220 : BitVec 32 := Scalar.addi v29 c1_i32_120
  let c4_i32_121 : BitVec 32 := 4#32
  let c0_i32_122 : BitVec 32 := 0#32
  let v221 : BitVec 1 := Scalar.cmpi .eq c4_i32_121 c0_i32_122
  let c1_i32_123 : BitVec 32 := 1#32
  let v222 : BitVec 32 := Scalar.select v221 c1_i32_123 c4_i32_121
  let v223 : BitVec 32 := Scalar.remsi v220 v222
  let c0_i32_125 : BitVec 32 := 0#32
  let v225 : BitVec 1 := Scalar.cmpi .slt v223 c0_i32_125
  let c0_i32_126 : BitVec 32 := 0#32
  let v226 : BitVec 1 := Scalar.cmpi .slt v222 c0_i32_126
  let v227 : BitVec 1 := Scalar.xori v225 v226
  let c0_i32_124 : BitVec 32 := 0#32
  let v224 : BitVec 1 := Scalar.cmpi .ne v223 c0_i32_124
  let v228 : BitVec 1 := Scalar.andi v227 v224
  let v229 : BitVec 32 := Scalar.addi v223 v222
  let v230 : BitVec 32 := Scalar.select v228 v229 v223
  let v235 : BitVec 32 := Scalar.addi v234 v230
  let c1_i32_131 : BitVec 32 := 1#32
  let v236 : BitVec 32 := Scalar.muli v235 c1_i32_131
  let v237 : BitVec 32 := Scalar.addi c0_i32_132 v236
  v237.toNat
def k0_dev8 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_145 : BitVec 32 := 4#32
  let v259 : BitVec 32 := Scalar.muli v19 c4_i32_145
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_136 : BitVec 32 := 2#32
  let v245 : BitVec 32 := Scalar.addi v29 c2_i32_136
  let c4_i32_137 : BitVec 32 := 4#32
  let c0_i32_138 : BitVec 32 := 0#32
  let v246 : BitVec 1 := Scalar.cmpi .eq c4_i32_137 c0_i32_138
  let c1_i32_139 : BitVec 32 := 1#32
  let v247 : BitVec 32 := Scalar.select v246 c1_i32_139 c4_i32_137
  let v248 : BitVec 32 := Scalar.remsi v245 v247
  let c0_i32_141 : BitVec 32 := 0#32
  let v250 : BitVec 1 := Scalar.cmpi .slt v248 c0_i32_141
  let c0_i32_142 : BitVec 32 := 0#32
  let v251 : BitVec 1 := Scalar.cmpi .slt v247 c0_i32_142
  let v252 : BitVec 1 := Scalar.xori v250 v251
  let c0_i32_140 : BitVec 32 := 0#32
  let v249 : BitVec 1 := Scalar.cmpi .ne v248 c0_i32_140
  let v253 : BitVec 1 := Scalar.andi v252 v249
  let v254 : BitVec 32 := Scalar.addi v248 v247
  let v255 : BitVec 32 := Scalar.select v253 v254 v248
  let v260 : BitVec 32 := Scalar.addi v259 v255
  let c1_i32_148 : BitVec 32 := 1#32
  let v261 : BitVec 32 := Scalar.muli v260 c1_i32_148
  let v262 : BitVec 32 := Scalar.addi c0_i32_149 v261
  v262.toNat
def k0_dev9 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_162 : BitVec 32 := 4#32
  let v284 : BitVec 32 := Scalar.muli v19 c4_i32_162
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_153 : BitVec 32 := 3#32
  let v270 : BitVec 32 := Scalar.addi v29 c3_i32_153
  let c4_i32_154 : BitVec 32 := 4#32
  let c0_i32_155 : BitVec 32 := 0#32
  let v271 : BitVec 1 := Scalar.cmpi .eq c4_i32_154 c0_i32_155
  let c1_i32_156 : BitVec 32 := 1#32
  let v272 : BitVec 32 := Scalar.select v271 c1_i32_156 c4_i32_154
  let v273 : BitVec 32 := Scalar.remsi v270 v272
  let c0_i32_158 : BitVec 32 := 0#32
  let v275 : BitVec 1 := Scalar.cmpi .slt v273 c0_i32_158
  let c0_i32_159 : BitVec 32 := 0#32
  let v276 : BitVec 1 := Scalar.cmpi .slt v272 c0_i32_159
  let v277 : BitVec 1 := Scalar.xori v275 v276
  let c0_i32_157 : BitVec 32 := 0#32
  let v274 : BitVec 1 := Scalar.cmpi .ne v273 c0_i32_157
  let v278 : BitVec 1 := Scalar.andi v277 v274
  let v279 : BitVec 32 := Scalar.addi v273 v272
  let v280 : BitVec 32 := Scalar.select v278 v279 v273
  let v285 : BitVec 32 := Scalar.addi v284 v280
  let c1_i32_165 : BitVec 32 := 1#32
  let v286 : BitVec 32 := Scalar.muli v285 c1_i32_165
  let v287 : BitVec 32 := Scalar.addi c0_i32_166 v286
  v287.toNat
def k0_dev10 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_194 : BitVec 32 := 4#32
  let v345 : BitVec 32 := Scalar.muli v19 c4_i32_194
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_185 : BitVec 32 := 1#32
  let v331 : BitVec 32 := Scalar.addi v29 c1_i32_185
  let c4_i32_186 : BitVec 32 := 4#32
  let c0_i32_187 : BitVec 32 := 0#32
  let v332 : BitVec 1 := Scalar.cmpi .eq c4_i32_186 c0_i32_187
  let c1_i32_188 : BitVec 32 := 1#32
  let v333 : BitVec 32 := Scalar.select v332 c1_i32_188 c4_i32_186
  let v334 : BitVec 32 := Scalar.remsi v331 v333
  let c0_i32_190 : BitVec 32 := 0#32
  let v336 : BitVec 1 := Scalar.cmpi .slt v334 c0_i32_190
  let c0_i32_191 : BitVec 32 := 0#32
  let v337 : BitVec 1 := Scalar.cmpi .slt v333 c0_i32_191
  let v338 : BitVec 1 := Scalar.xori v336 v337
  let c0_i32_189 : BitVec 32 := 0#32
  let v335 : BitVec 1 := Scalar.cmpi .ne v334 c0_i32_189
  let v339 : BitVec 1 := Scalar.andi v338 v335
  let v340 : BitVec 32 := Scalar.addi v334 v333
  let v341 : BitVec 32 := Scalar.select v339 v340 v334
  let v346 : BitVec 32 := Scalar.addi v345 v341
  let c1_i32_197 : BitVec 32 := 1#32
  let v347 : BitVec 32 := Scalar.muli v346 c1_i32_197
  let v348 : BitVec 32 := Scalar.addi c0_i32_198 v347
  v348.toNat
def k0_dev11 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_211 : BitVec 32 := 4#32
  let v370 : BitVec 32 := Scalar.muli v19 c4_i32_211
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_202 : BitVec 32 := 2#32
  let v356 : BitVec 32 := Scalar.addi v29 c2_i32_202
  let c4_i32_203 : BitVec 32 := 4#32
  let c0_i32_204 : BitVec 32 := 0#32
  let v357 : BitVec 1 := Scalar.cmpi .eq c4_i32_203 c0_i32_204
  let c1_i32_205 : BitVec 32 := 1#32
  let v358 : BitVec 32 := Scalar.select v357 c1_i32_205 c4_i32_203
  let v359 : BitVec 32 := Scalar.remsi v356 v358
  let c0_i32_207 : BitVec 32 := 0#32
  let v361 : BitVec 1 := Scalar.cmpi .slt v359 c0_i32_207
  let c0_i32_208 : BitVec 32 := 0#32
  let v362 : BitVec 1 := Scalar.cmpi .slt v358 c0_i32_208
  let v363 : BitVec 1 := Scalar.xori v361 v362
  let c0_i32_206 : BitVec 32 := 0#32
  let v360 : BitVec 1 := Scalar.cmpi .ne v359 c0_i32_206
  let v364 : BitVec 1 := Scalar.andi v363 v360
  let v365 : BitVec 32 := Scalar.addi v359 v358
  let v366 : BitVec 32 := Scalar.select v364 v365 v359
  let v371 : BitVec 32 := Scalar.addi v370 v366
  let c1_i32_214 : BitVec 32 := 1#32
  let v372 : BitVec 32 := Scalar.muli v371 c1_i32_214
  let v373 : BitVec 32 := Scalar.addi c0_i32_215 v372
  v373.toNat
def k0_dev12 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_228 : BitVec 32 := 4#32
  let v395 : BitVec 32 := Scalar.muli v19 c4_i32_228
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_219 : BitVec 32 := 3#32
  let v381 : BitVec 32 := Scalar.addi v29 c3_i32_219
  let c4_i32_220 : BitVec 32 := 4#32
  let c0_i32_221 : BitVec 32 := 0#32
  let v382 : BitVec 1 := Scalar.cmpi .eq c4_i32_220 c0_i32_221
  let c1_i32_222 : BitVec 32 := 1#32
  let v383 : BitVec 32 := Scalar.select v382 c1_i32_222 c4_i32_220
  let v384 : BitVec 32 := Scalar.remsi v381 v383
  let c0_i32_224 : BitVec 32 := 0#32
  let v386 : BitVec 1 := Scalar.cmpi .slt v384 c0_i32_224
  let c0_i32_225 : BitVec 32 := 0#32
  let v387 : BitVec 1 := Scalar.cmpi .slt v383 c0_i32_225
  let v388 : BitVec 1 := Scalar.xori v386 v387
  let c0_i32_223 : BitVec 32 := 0#32
  let v385 : BitVec 1 := Scalar.cmpi .ne v384 c0_i32_223
  let v389 : BitVec 1 := Scalar.andi v388 v385
  let v390 : BitVec 32 := Scalar.addi v384 v383
  let v391 : BitVec 32 := Scalar.select v389 v390 v384
  let v396 : BitVec 32 := Scalar.addi v395 v391
  let c1_i32_231 : BitVec 32 := 1#32
  let v397 : BitVec 32 := Scalar.muli v396 c1_i32_231
  let v398 : BitVec 32 := Scalar.addi c0_i32_232 v397
  v398.toNat
def k0_dev13 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_260 : BitVec 32 := 4#32
  let v456 : BitVec 32 := Scalar.muli v19 c4_i32_260
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_251 : BitVec 32 := 1#32
  let v442 : BitVec 32 := Scalar.addi v29 c1_i32_251
  let c4_i32_252 : BitVec 32 := 4#32
  let c0_i32_253 : BitVec 32 := 0#32
  let v443 : BitVec 1 := Scalar.cmpi .eq c4_i32_252 c0_i32_253
  let c1_i32_254 : BitVec 32 := 1#32
  let v444 : BitVec 32 := Scalar.select v443 c1_i32_254 c4_i32_252
  let v445 : BitVec 32 := Scalar.remsi v442 v444
  let c0_i32_256 : BitVec 32 := 0#32
  let v447 : BitVec 1 := Scalar.cmpi .slt v445 c0_i32_256
  let c0_i32_257 : BitVec 32 := 0#32
  let v448 : BitVec 1 := Scalar.cmpi .slt v444 c0_i32_257
  let v449 : BitVec 1 := Scalar.xori v447 v448
  let c0_i32_255 : BitVec 32 := 0#32
  let v446 : BitVec 1 := Scalar.cmpi .ne v445 c0_i32_255
  let v450 : BitVec 1 := Scalar.andi v449 v446
  let v451 : BitVec 32 := Scalar.addi v445 v444
  let v452 : BitVec 32 := Scalar.select v450 v451 v445
  let v457 : BitVec 32 := Scalar.addi v456 v452
  let c1_i32_263 : BitVec 32 := 1#32
  let v458 : BitVec 32 := Scalar.muli v457 c1_i32_263
  let v459 : BitVec 32 := Scalar.addi c0_i32_264 v458
  v459.toNat
def k0_dev14 (d0 : Dev nD) : Nat :=
  let c0_i32_281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_277 : BitVec 32 := 4#32
  let v481 : BitVec 32 := Scalar.muli v19 c4_i32_277
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_268 : BitVec 32 := 2#32
  let v467 : BitVec 32 := Scalar.addi v29 c2_i32_268
  let c4_i32_269 : BitVec 32 := 4#32
  let c0_i32_270 : BitVec 32 := 0#32
  let v468 : BitVec 1 := Scalar.cmpi .eq c4_i32_269 c0_i32_270
  let c1_i32_271 : BitVec 32 := 1#32
  let v469 : BitVec 32 := Scalar.select v468 c1_i32_271 c4_i32_269
  let v470 : BitVec 32 := Scalar.remsi v467 v469
  let c0_i32_273 : BitVec 32 := 0#32
  let v472 : BitVec 1 := Scalar.cmpi .slt v470 c0_i32_273
  let c0_i32_274 : BitVec 32 := 0#32
  let v473 : BitVec 1 := Scalar.cmpi .slt v469 c0_i32_274
  let v474 : BitVec 1 := Scalar.xori v472 v473
  let c0_i32_272 : BitVec 32 := 0#32
  let v471 : BitVec 1 := Scalar.cmpi .ne v470 c0_i32_272
  let v475 : BitVec 1 := Scalar.andi v474 v471
  let v476 : BitVec 32 := Scalar.addi v470 v469
  let v477 : BitVec 32 := Scalar.select v475 v476 v470
  let v482 : BitVec 32 := Scalar.addi v481 v477
  let c1_i32_280 : BitVec 32 := 1#32
  let v483 : BitVec 32 := Scalar.muli v482 c1_i32_280
  let v484 : BitVec 32 := Scalar.addi c0_i32_281 v483
  v484.toNat
def k0_dev15 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_294 : BitVec 32 := 4#32
  let v506 : BitVec 32 := Scalar.muli v19 c4_i32_294
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_285 : BitVec 32 := 3#32
  let v492 : BitVec 32 := Scalar.addi v29 c3_i32_285
  let c4_i32_286 : BitVec 32 := 4#32
  let c0_i32_287 : BitVec 32 := 0#32
  let v493 : BitVec 1 := Scalar.cmpi .eq c4_i32_286 c0_i32_287
  let c1_i32_288 : BitVec 32 := 1#32
  let v494 : BitVec 32 := Scalar.select v493 c1_i32_288 c4_i32_286
  let v495 : BitVec 32 := Scalar.remsi v492 v494
  let c0_i32_290 : BitVec 32 := 0#32
  let v497 : BitVec 1 := Scalar.cmpi .slt v495 c0_i32_290
  let c0_i32_291 : BitVec 32 := 0#32
  let v498 : BitVec 1 := Scalar.cmpi .slt v494 c0_i32_291
  let v499 : BitVec 1 := Scalar.xori v497 v498
  let c0_i32_289 : BitVec 32 := 0#32
  let v496 : BitVec 1 := Scalar.cmpi .ne v495 c0_i32_289
  let v500 : BitVec 1 := Scalar.andi v499 v496
  let v501 : BitVec 32 := Scalar.addi v495 v494
  let v502 : BitVec 32 := Scalar.select v500 v501 v495
  let v507 : BitVec 32 := Scalar.addi v506 v502
  let c1_i32_297 : BitVec 32 := 1#32
  let v508 : BitVec 32 := Scalar.muli v507 c1_i32_297
  let v509 : BitVec 32 := Scalar.addi c0_i32_298 v508
  v509.toNat
def k0_dev16 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_326 : BitVec 32 := 4#32
  let v567 : BitVec 32 := Scalar.muli v19 c4_i32_326
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_317 : BitVec 32 := 1#32
  let v553 : BitVec 32 := Scalar.addi v29 c1_i32_317
  let c4_i32_318 : BitVec 32 := 4#32
  let c0_i32_319 : BitVec 32 := 0#32
  let v554 : BitVec 1 := Scalar.cmpi .eq c4_i32_318 c0_i32_319
  let c1_i32_320 : BitVec 32 := 1#32
  let v555 : BitVec 32 := Scalar.select v554 c1_i32_320 c4_i32_318
  let v556 : BitVec 32 := Scalar.remsi v553 v555
  let c0_i32_322 : BitVec 32 := 0#32
  let v558 : BitVec 1 := Scalar.cmpi .slt v556 c0_i32_322
  let c0_i32_323 : BitVec 32 := 0#32
  let v559 : BitVec 1 := Scalar.cmpi .slt v555 c0_i32_323
  let v560 : BitVec 1 := Scalar.xori v558 v559
  let c0_i32_321 : BitVec 32 := 0#32
  let v557 : BitVec 1 := Scalar.cmpi .ne v556 c0_i32_321
  let v561 : BitVec 1 := Scalar.andi v560 v557
  let v562 : BitVec 32 := Scalar.addi v556 v555
  let v563 : BitVec 32 := Scalar.select v561 v562 v556
  let v568 : BitVec 32 := Scalar.addi v567 v563
  let c1_i32_329 : BitVec 32 := 1#32
  let v569 : BitVec 32 := Scalar.muli v568 c1_i32_329
  let v570 : BitVec 32 := Scalar.addi c0_i32_330 v569
  v570.toNat
def k0_dev17 (d0 : Dev nD) : Nat :=
  let c0_i32_347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_343 : BitVec 32 := 4#32
  let v592 : BitVec 32 := Scalar.muli v19 c4_i32_343
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_334 : BitVec 32 := 2#32
  let v578 : BitVec 32 := Scalar.addi v29 c2_i32_334
  let c4_i32_335 : BitVec 32 := 4#32
  let c0_i32_336 : BitVec 32 := 0#32
  let v579 : BitVec 1 := Scalar.cmpi .eq c4_i32_335 c0_i32_336
  let c1_i32_337 : BitVec 32 := 1#32
  let v580 : BitVec 32 := Scalar.select v579 c1_i32_337 c4_i32_335
  let v581 : BitVec 32 := Scalar.remsi v578 v580
  let c0_i32_339 : BitVec 32 := 0#32
  let v583 : BitVec 1 := Scalar.cmpi .slt v581 c0_i32_339
  let c0_i32_340 : BitVec 32 := 0#32
  let v584 : BitVec 1 := Scalar.cmpi .slt v580 c0_i32_340
  let v585 : BitVec 1 := Scalar.xori v583 v584
  let c0_i32_338 : BitVec 32 := 0#32
  let v582 : BitVec 1 := Scalar.cmpi .ne v581 c0_i32_338
  let v586 : BitVec 1 := Scalar.andi v585 v582
  let v587 : BitVec 32 := Scalar.addi v581 v580
  let v588 : BitVec 32 := Scalar.select v586 v587 v581
  let v593 : BitVec 32 := Scalar.addi v592 v588
  let c1_i32_346 : BitVec 32 := 1#32
  let v594 : BitVec 32 := Scalar.muli v593 c1_i32_346
  let v595 : BitVec 32 := Scalar.addi c0_i32_347 v594
  v595.toNat
def k0_dev18 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_360 : BitVec 32 := 4#32
  let v617 : BitVec 32 := Scalar.muli v19 c4_i32_360
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_351 : BitVec 32 := 3#32
  let v603 : BitVec 32 := Scalar.addi v29 c3_i32_351
  let c4_i32_352 : BitVec 32 := 4#32
  let c0_i32_353 : BitVec 32 := 0#32
  let v604 : BitVec 1 := Scalar.cmpi .eq c4_i32_352 c0_i32_353
  let c1_i32_354 : BitVec 32 := 1#32
  let v605 : BitVec 32 := Scalar.select v604 c1_i32_354 c4_i32_352
  let v606 : BitVec 32 := Scalar.remsi v603 v605
  let c0_i32_356 : BitVec 32 := 0#32
  let v608 : BitVec 1 := Scalar.cmpi .slt v606 c0_i32_356
  let c0_i32_357 : BitVec 32 := 0#32
  let v609 : BitVec 1 := Scalar.cmpi .slt v605 c0_i32_357
  let v610 : BitVec 1 := Scalar.xori v608 v609
  let c0_i32_355 : BitVec 32 := 0#32
  let v607 : BitVec 1 := Scalar.cmpi .ne v606 c0_i32_355
  let v611 : BitVec 1 := Scalar.andi v610 v607
  let v612 : BitVec 32 := Scalar.addi v606 v605
  let v613 : BitVec 32 := Scalar.select v611 v612 v606
  let v618 : BitVec 32 := Scalar.addi v617 v613
  let c1_i32_363 : BitVec 32 := 1#32
  let v619 : BitVec 32 := Scalar.muli v618 c1_i32_363
  let v620 : BitVec 32 := Scalar.addi c0_i32_364 v619
  v620.toNat
def k0_off7 (d0 : Dev nD) (c0_i32_369 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_368 : BitVec 32 := 1#32
  let v628 : BitVec 32 := Scalar.addi v19 c1_i32_368
  let v629 : BitVec 32 := Scalar.addi v628 c0_i32_369
  let c4_i32_370 : BitVec 32 := 4#32
  let c0_i32_371 : BitVec 32 := 0#32
  let v630 : BitVec 1 := Scalar.cmpi .eq c4_i32_370 c0_i32_371
  let c1_i32_372 : BitVec 32 := 1#32
  let v631 : BitVec 32 := Scalar.select v630 c1_i32_372 c4_i32_370
  let v632 : BitVec 32 := Scalar.remsi v629 v631
  let c0_i32_374 : BitVec 32 := 0#32
  let v634 : BitVec 1 := Scalar.cmpi .slt v632 c0_i32_374
  let c0_i32_375 : BitVec 32 := 0#32
  let v635 : BitVec 1 := Scalar.cmpi .slt v631 c0_i32_375
  let v636 : BitVec 1 := Scalar.xori v634 v635
  let c0_i32_373 : BitVec 32 := 0#32
  let v633 : BitVec 1 := Scalar.cmpi .ne v632 c0_i32_373
  let v637 : BitVec 1 := Scalar.andi v636 v633
  let v638 : BitVec 32 := Scalar.addi v632 v631
  let v639 : BitVec 32 := Scalar.select v637 v638 v632
  let c4_i32_376 : BitVec 32 := 4#32
  let v640 : BitVec 32 := Scalar.muli v639 c4_i32_376
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v641 : BitVec 32 := Scalar.addi v640 v29
  let c32_i32_377 : BitVec 32 := 32#32
  let v642 : BitVec 32 := Scalar.muli v641 c32_i32_377
  let v643 : Index := Scalar.indexCast v642
  let c0_378 : Index := 0#32
  ![v643.toNat, 0]
def k0_off8 (d0 : Dev nD) (c1_i32_379 : BitVec 32) (c0_i32_369 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v646 : BitVec 32 := Scalar.addi v29 c1_i32_379
  let c4_i32_380 : BitVec 32 := 4#32
  let c0_i32_381 : BitVec 32 := 0#32
  let v647 : BitVec 1 := Scalar.cmpi .eq c4_i32_380 c0_i32_381
  let c1_i32_382 : BitVec 32 := 1#32
  let v648 : BitVec 32 := Scalar.select v647 c1_i32_382 c4_i32_380
  let v649 : BitVec 32 := Scalar.remsi v646 v648
  let c0_i32_384 : BitVec 32 := 0#32
  let v651 : BitVec 1 := Scalar.cmpi .slt v649 c0_i32_384
  let c0_i32_385 : BitVec 32 := 0#32
  let v652 : BitVec 1 := Scalar.cmpi .slt v648 c0_i32_385
  let v653 : BitVec 1 := Scalar.xori v651 v652
  let c0_i32_383 : BitVec 32 := 0#32
  let v650 : BitVec 1 := Scalar.cmpi .ne v649 c0_i32_383
  let v654 : BitVec 1 := Scalar.andi v653 v650
  let v655 : BitVec 32 := Scalar.addi v649 v648
  let v656 : BitVec 32 := Scalar.select v654 v655 v649
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_368 : BitVec 32 := 1#32
  let v628 : BitVec 32 := Scalar.addi v19 c1_i32_368
  let v629 : BitVec 32 := Scalar.addi v628 c0_i32_369
  let c4_i32_370 : BitVec 32 := 4#32
  let c0_i32_371 : BitVec 32 := 0#32
  let v630 : BitVec 1 := Scalar.cmpi .eq c4_i32_370 c0_i32_371
  let c1_i32_372 : BitVec 32 := 1#32
  let v631 : BitVec 32 := Scalar.select v630 c1_i32_372 c4_i32_370
  let v632 : BitVec 32 := Scalar.remsi v629 v631
  let c0_i32_374 : BitVec 32 := 0#32
  let v634 : BitVec 1 := Scalar.cmpi .slt v632 c0_i32_374
  let c0_i32_375 : BitVec 32 := 0#32
  let v635 : BitVec 1 := Scalar.cmpi .slt v631 c0_i32_375
  let v636 : BitVec 1 := Scalar.xori v634 v635
  let c0_i32_373 : BitVec 32 := 0#32
  let v633 : BitVec 1 := Scalar.cmpi .ne v632 c0_i32_373
  let v637 : BitVec 1 := Scalar.andi v636 v633
  let v638 : BitVec 32 := Scalar.addi v632 v631
  let v639 : BitVec 32 := Scalar.select v637 v638 v632
  ![v656.toNat, v639.toNat]
def k0_off9 (d0 : Dev nD) (c1_i32_379 : BitVec 32) (c0_i32_369 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v646 : BitVec 32 := Scalar.addi v29 c1_i32_379
  let c4_i32_380 : BitVec 32 := 4#32
  let c0_i32_381 : BitVec 32 := 0#32
  let v647 : BitVec 1 := Scalar.cmpi .eq c4_i32_380 c0_i32_381
  let c1_i32_382 : BitVec 32 := 1#32
  let v648 : BitVec 32 := Scalar.select v647 c1_i32_382 c4_i32_380
  let v649 : BitVec 32 := Scalar.remsi v646 v648
  let c0_i32_384 : BitVec 32 := 0#32
  let v651 : BitVec 1 := Scalar.cmpi .slt v649 c0_i32_384
  let c0_i32_385 : BitVec 32 := 0#32
  let v652 : BitVec 1 := Scalar.cmpi .slt v648 c0_i32_385
  let v653 : BitVec 1 := Scalar.xori v651 v652
  let c0_i32_383 : BitVec 32 := 0#32
  let v650 : BitVec 1 := Scalar.cmpi .ne v649 c0_i32_383
  let v654 : BitVec 1 := Scalar.andi v653 v650
  let v655 : BitVec 32 := Scalar.addi v649 v648
  let v656 : BitVec 32 := Scalar.select v654 v655 v649
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_368 : BitVec 32 := 1#32
  let v628 : BitVec 32 := Scalar.addi v19 c1_i32_368
  let v629 : BitVec 32 := Scalar.addi v628 c0_i32_369
  let c4_i32_370 : BitVec 32 := 4#32
  let c0_i32_371 : BitVec 32 := 0#32
  let v630 : BitVec 1 := Scalar.cmpi .eq c4_i32_370 c0_i32_371
  let c1_i32_372 : BitVec 32 := 1#32
  let v631 : BitVec 32 := Scalar.select v630 c1_i32_372 c4_i32_370
  let v632 : BitVec 32 := Scalar.remsi v629 v631
  let c0_i32_374 : BitVec 32 := 0#32
  let v634 : BitVec 1 := Scalar.cmpi .slt v632 c0_i32_374
  let c0_i32_375 : BitVec 32 := 0#32
  let v635 : BitVec 1 := Scalar.cmpi .slt v631 c0_i32_375
  let v636 : BitVec 1 := Scalar.xori v634 v635
  let c0_i32_373 : BitVec 32 := 0#32
  let v633 : BitVec 1 := Scalar.cmpi .ne v632 c0_i32_373
  let v637 : BitVec 1 := Scalar.andi v636 v633
  let v638 : BitVec 32 := Scalar.addi v632 v631
  let v639 : BitVec 32 := Scalar.select v637 v638 v632
  let c0_i32_390 : BitVec 32 := 0#32
  let c0_i32_391 : BitVec 32 := 0#32
  ![v656.toNat, v639.toNat, 0, 0]
def k0_off10 (d0 : Dev nD) (c1_i32_379 : BitVec 32) (c0_i32_369 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v646 : BitVec 32 := Scalar.addi v29 c1_i32_379
  let c4_i32_380 : BitVec 32 := 4#32
  let c0_i32_381 : BitVec 32 := 0#32
  let v647 : BitVec 1 := Scalar.cmpi .eq c4_i32_380 c0_i32_381
  let c1_i32_382 : BitVec 32 := 1#32
  let v648 : BitVec 32 := Scalar.select v647 c1_i32_382 c4_i32_380
  let v649 : BitVec 32 := Scalar.remsi v646 v648
  let c0_i32_384 : BitVec 32 := 0#32
  let v651 : BitVec 1 := Scalar.cmpi .slt v649 c0_i32_384
  let c0_i32_385 : BitVec 32 := 0#32
  let v652 : BitVec 1 := Scalar.cmpi .slt v648 c0_i32_385
  let v653 : BitVec 1 := Scalar.xori v651 v652
  let c0_i32_383 : BitVec 32 := 0#32
  let v650 : BitVec 1 := Scalar.cmpi .ne v649 c0_i32_383
  let v654 : BitVec 1 := Scalar.andi v653 v650
  let v655 : BitVec 32 := Scalar.addi v649 v648
  let v656 : BitVec 32 := Scalar.select v654 v655 v649
  let v664 : Index := Scalar.indexCast v656
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_368 : BitVec 32 := 1#32
  let v628 : BitVec 32 := Scalar.addi v19 c1_i32_368
  let v629 : BitVec 32 := Scalar.addi v628 c0_i32_369
  let c4_i32_370 : BitVec 32 := 4#32
  let c0_i32_371 : BitVec 32 := 0#32
  let v630 : BitVec 1 := Scalar.cmpi .eq c4_i32_370 c0_i32_371
  let c1_i32_372 : BitVec 32 := 1#32
  let v631 : BitVec 32 := Scalar.select v630 c1_i32_372 c4_i32_370
  let v632 : BitVec 32 := Scalar.remsi v629 v631
  let c0_i32_374 : BitVec 32 := 0#32
  let v634 : BitVec 1 := Scalar.cmpi .slt v632 c0_i32_374
  let c0_i32_375 : BitVec 32 := 0#32
  let v635 : BitVec 1 := Scalar.cmpi .slt v631 c0_i32_375
  let v636 : BitVec 1 := Scalar.xori v634 v635
  let c0_i32_373 : BitVec 32 := 0#32
  let v633 : BitVec 1 := Scalar.cmpi .ne v632 c0_i32_373
  let v637 : BitVec 1 := Scalar.andi v636 v633
  let v638 : BitVec 32 := Scalar.addi v632 v631
  let v639 : BitVec 32 := Scalar.select v637 v638 v632
  let v665 : Index := Scalar.indexCast v639
  let c0_394 : Index := 0#32
  let c0_395 : Index := 0#32
  ![v664.toNat, v665.toNat, 0, 0]
def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_438 : BitVec 32 := 0#32
  let c0_i32_439 : BitVec 32 := 0#32
  ![v19.toNat, 0, 0]
def k0_dev19 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_368 : BitVec 32 := 1#32
  let v628 : BitVec 32 := Scalar.addi v19 c1_i32_368
  let c0_i32_369 : BitVec 32 := 0#32
  let v629 : BitVec 32 := Scalar.addi v628 c0_i32_369
  let c4_i32_370 : BitVec 32 := 4#32
  let c0_i32_371 : BitVec 32 := 0#32
  let v630 : BitVec 1 := Scalar.cmpi .eq c4_i32_370 c0_i32_371
  let c1_i32_372 : BitVec 32 := 1#32
  let v631 : BitVec 32 := Scalar.select v630 c1_i32_372 c4_i32_370
  let v632 : BitVec 32 := Scalar.remsi v629 v631
  let c0_i32_374 : BitVec 32 := 0#32
  let v634 : BitVec 1 := Scalar.cmpi .slt v632 c0_i32_374
  let c0_i32_375 : BitVec 32 := 0#32
  let v635 : BitVec 1 := Scalar.cmpi .slt v631 c0_i32_375
  let v636 : BitVec 1 := Scalar.xori v634 v635
  let c0_i32_373 : BitVec 32 := 0#32
  let v633 : BitVec 1 := Scalar.cmpi .ne v632 c0_i32_373
  let v637 : BitVec 1 := Scalar.andi v636 v633
  let v638 : BitVec 32 := Scalar.addi v632 v631
  let v639 : BitVec 32 := Scalar.select v637 v638 v632
  let c4_i32_433 : BitVec 32 := 4#32
  let v722 : BitVec 32 := Scalar.muli v639 c4_i32_433
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v723 : BitVec 32 := Scalar.addi v722 v29
  let c1_i32_436 : BitVec 32 := 1#32
  let v724 : BitVec 32 := Scalar.muli v723 c1_i32_436
  let v725 : BitVec 32 := Scalar.addi c0_i32_437 v724
  v725.toNat
def k0_dev20 (d0 : Dev nD) : Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_442 : BitVec 32 := 1#32
  let v734 : BitVec 32 := Scalar.addi v19 c1_i32_442
  let c1_i32_443 : BitVec 32 := 1#32
  let v735 : BitVec 32 := Scalar.addi v734 c1_i32_443
  let c4_i32_444 : BitVec 32 := 4#32
  let c0_i32_445 : BitVec 32 := 0#32
  let v736 : BitVec 1 := Scalar.cmpi .eq c4_i32_444 c0_i32_445
  let c1_i32_446 : BitVec 32 := 1#32
  let v737 : BitVec 32 := Scalar.select v736 c1_i32_446 c4_i32_444
  let v738 : BitVec 32 := Scalar.remsi v735 v737
  let c0_i32_448 : BitVec 32 := 0#32
  let v740 : BitVec 1 := Scalar.cmpi .slt v738 c0_i32_448
  let c0_i32_449 : BitVec 32 := 0#32
  let v741 : BitVec 1 := Scalar.cmpi .slt v737 c0_i32_449
  let v742 : BitVec 1 := Scalar.xori v740 v741
  let c0_i32_447 : BitVec 32 := 0#32
  let v739 : BitVec 1 := Scalar.cmpi .ne v738 c0_i32_447
  let v743 : BitVec 1 := Scalar.andi v742 v739
  let v744 : BitVec 32 := Scalar.addi v738 v737
  let v745 : BitVec 32 := Scalar.select v743 v744 v738
  let c4_i32_507 : BitVec 32 := 4#32
  let v828 : BitVec 32 := Scalar.muli v745 c4_i32_507
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v829 : BitVec 32 := Scalar.addi v828 v29
  let c1_i32_510 : BitVec 32 := 1#32
  let v830 : BitVec 32 := Scalar.muli v829 c1_i32_510
  let v831 : BitVec 32 := Scalar.addi c0_i32_511 v830
  v831.toNat
def k0_dev21 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_516 : BitVec 32 := 1#32
  let v840 : BitVec 32 := Scalar.addi v19 c1_i32_516
  let c2_i32_517 : BitVec 32 := 2#32
  let v841 : BitVec 32 := Scalar.addi v840 c2_i32_517
  let c4_i32_518 : BitVec 32 := 4#32
  let c0_i32_519 : BitVec 32 := 0#32
  let v842 : BitVec 1 := Scalar.cmpi .eq c4_i32_518 c0_i32_519
  let c1_i32_520 : BitVec 32 := 1#32
  let v843 : BitVec 32 := Scalar.select v842 c1_i32_520 c4_i32_518
  let v844 : BitVec 32 := Scalar.remsi v841 v843
  let c0_i32_522 : BitVec 32 := 0#32
  let v846 : BitVec 1 := Scalar.cmpi .slt v844 c0_i32_522
  let c0_i32_523 : BitVec 32 := 0#32
  let v847 : BitVec 1 := Scalar.cmpi .slt v843 c0_i32_523
  let v848 : BitVec 1 := Scalar.xori v846 v847
  let c0_i32_521 : BitVec 32 := 0#32
  let v845 : BitVec 1 := Scalar.cmpi .ne v844 c0_i32_521
  let v849 : BitVec 1 := Scalar.andi v848 v845
  let v850 : BitVec 32 := Scalar.addi v844 v843
  let v851 : BitVec 32 := Scalar.select v849 v850 v844
  let c4_i32_580 : BitVec 32 := 4#32
  let v934 : BitVec 32 := Scalar.muli v851 c4_i32_580
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v935 : BitVec 32 := Scalar.addi v934 v29
  let c1_i32_583 : BitVec 32 := 1#32
  let v936 : BitVec 32 := Scalar.muli v935 c1_i32_583
  let v937 : BitVec 32 := Scalar.addi c0_i32_584 v936
  v937.toNat
def k0_off13 (d0 : Dev nD) (c1_i32_651 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1036 : BitVec 32 := Scalar.addi v19 c1_i32_651
  let c4_i32_652 : BitVec 32 := 4#32
  let c0_i32_653 : BitVec 32 := 0#32
  let v1037 : BitVec 1 := Scalar.cmpi .eq c4_i32_652 c0_i32_653
  let c1_i32_654 : BitVec 32 := 1#32
  let v1038 : BitVec 32 := Scalar.select v1037 c1_i32_654 c4_i32_652
  let v1039 : BitVec 32 := Scalar.remsi v1036 v1038
  let c0_i32_656 : BitVec 32 := 0#32
  let v1041 : BitVec 1 := Scalar.cmpi .slt v1039 c0_i32_656
  let c0_i32_657 : BitVec 32 := 0#32
  let v1042 : BitVec 1 := Scalar.cmpi .slt v1038 c0_i32_657
  let v1043 : BitVec 1 := Scalar.xori v1041 v1042
  let c0_i32_655 : BitVec 32 := 0#32
  let v1040 : BitVec 1 := Scalar.cmpi .ne v1039 c0_i32_655
  let v1044 : BitVec 1 := Scalar.andi v1043 v1040
  let v1045 : BitVec 32 := Scalar.addi v1039 v1038
  let v1046 : BitVec 32 := Scalar.select v1044 v1045 v1039
  ![v1046.toNat]
def k0_off14 (d0 : Dev nD) (c1_i32_651 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1036 : BitVec 32 := Scalar.addi v19 c1_i32_651
  let c4_i32_652 : BitVec 32 := 4#32
  let c0_i32_653 : BitVec 32 := 0#32
  let v1037 : BitVec 1 := Scalar.cmpi .eq c4_i32_652 c0_i32_653
  let c1_i32_654 : BitVec 32 := 1#32
  let v1038 : BitVec 32 := Scalar.select v1037 c1_i32_654 c4_i32_652
  let v1039 : BitVec 32 := Scalar.remsi v1036 v1038
  let c0_i32_656 : BitVec 32 := 0#32
  let v1041 : BitVec 1 := Scalar.cmpi .slt v1039 c0_i32_656
  let c0_i32_657 : BitVec 32 := 0#32
  let v1042 : BitVec 1 := Scalar.cmpi .slt v1038 c0_i32_657
  let v1043 : BitVec 1 := Scalar.xori v1041 v1042
  let c0_i32_655 : BitVec 32 := 0#32
  let v1040 : BitVec 1 := Scalar.cmpi .ne v1039 c0_i32_655
  let v1044 : BitVec 1 := Scalar.andi v1043 v1040
  let v1045 : BitVec 32 := Scalar.addi v1039 v1038
  let v1046 : BitVec 32 := Scalar.select v1044 v1045 v1039
  let c0_i32_662 : BitVec 32 := 0#32
  let c0_i32_663 : BitVec 32 := 0#32
  ![v1046.toNat, 0, 0]
def k0_off15 (d0 : Dev nD) (c1_i32_651 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1036 : BitVec 32 := Scalar.addi v19 c1_i32_651
  let c4_i32_652 : BitVec 32 := 4#32
  let c0_i32_653 : BitVec 32 := 0#32
  let v1037 : BitVec 1 := Scalar.cmpi .eq c4_i32_652 c0_i32_653
  let c1_i32_654 : BitVec 32 := 1#32
  let v1038 : BitVec 32 := Scalar.select v1037 c1_i32_654 c4_i32_652
  let v1039 : BitVec 32 := Scalar.remsi v1036 v1038
  let c0_i32_656 : BitVec 32 := 0#32
  let v1041 : BitVec 1 := Scalar.cmpi .slt v1039 c0_i32_656
  let c0_i32_657 : BitVec 32 := 0#32
  let v1042 : BitVec 1 := Scalar.cmpi .slt v1038 c0_i32_657
  let v1043 : BitVec 1 := Scalar.xori v1041 v1042
  let c0_i32_655 : BitVec 32 := 0#32
  let v1040 : BitVec 1 := Scalar.cmpi .ne v1039 c0_i32_655
  let v1044 : BitVec 1 := Scalar.andi v1043 v1040
  let v1045 : BitVec 32 := Scalar.addi v1039 v1038
  let v1046 : BitVec 32 := Scalar.select v1044 v1045 v1039
  let v1055 : Index := Scalar.indexCast v1046
  let c0_666 : Index := 0#32
  let c0_667 : Index := 0#32
  ![v1055.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x2 : Shape := ⟨2, ![512, 2]⟩
abbrev S32x256x512 : Shape := ⟨3, ![32, 256, 512]⟩
abbrev S512x32 : Shape := ⟨2, ![512, 32]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 90
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x2, .i32⟩
  | .hbm, ⟨3, _⟩ => ⟨S32x256x512, .bf16⟩
  | .hbm, ⟨4, _⟩ => ⟨S512x256, .f32⟩
  | .hbm, ⟨5, _⟩ => ⟨S32x256x512, .f32⟩
  | .hbm, ⟨6, _⟩ => ⟨S256x32, .f32⟩
  | .hbm, ⟨7, _⟩ => ⟨S512x32, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512x32, .f32⟩
  | .hbm, ⟨12, _⟩ => ⟨S512x32, .f32⟩
  | .hbm, ⟨13, _⟩ => ⟨S512x32, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x32, .f32⟩
  | .hbm, ⟨18, _⟩ => ⟨S512x32, .f32⟩
  | .hbm, ⟨19, _⟩ => ⟨S512x1, .i32⟩
  | .hbm, ⟨20, _⟩ => ⟨S512, .i32⟩
  | .hbm, ⟨21, _⟩ => ⟨S512x1, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S512x1, .i32⟩
  | .hbm, ⟨39, _⟩ => ⟨S512x1, .i32⟩
  | .hbm, ⟨40, _⟩ => ⟨S512x2, .i32⟩
  | .hbm, ⟨41, _⟩ => ⟨S512, .f32⟩
  | .hbm, ⟨42, _⟩ => ⟨S512x1, .f32⟩
  | .hbm, ⟨43, _⟩ => ⟨S_, .i32⟩
  | .hbm, ⟨44, _⟩ => ⟨S512, .i32⟩
  | .hbm, ⟨45, _⟩ => ⟨S512, .i1⟩
  | .hbm, ⟨46, _⟩ => ⟨S_, .i32⟩
  | .hbm, ⟨47, _⟩ => ⟨S512, .i32⟩
  | .hbm, ⟨48, _⟩ => ⟨S512, .i32⟩
  | .hbm, ⟨49, _⟩ => ⟨S512, .i32⟩
  | .hbm, ⟨50, _⟩ => ⟨S_, .i32⟩
  | .hbm, ⟨51, _⟩ => ⟨S512, .i32⟩
  | .hbm, ⟨52, _⟩ => ⟨S512, .i1⟩
  | .hbm, ⟨53, _⟩ => ⟨S_, .i32⟩
  | .hbm, ⟨54, _⟩ => ⟨S512, .i32⟩
  | .hbm, ⟨55, _⟩ => ⟨S512, .i32⟩
  | .hbm, ⟨56, _⟩ => ⟨S512, .i32⟩
  | .hbm, ⟨57, _⟩ => ⟨S512x1, .i32⟩
  | .hbm, ⟨58, _⟩ => ⟨S512x1, .i32⟩
  | .hbm, ⟨59, _⟩ => ⟨S512x2, .i32⟩
  | .hbm, ⟨60, _⟩ => ⟨S512, .f32⟩
  | .hbm, ⟨61, _⟩ => ⟨S512x1, .f32⟩
  | .hbm, ⟨62, _⟩ => ⟨S512x1, .f32⟩
  | .hbm, ⟨63, _⟩ => ⟨S_, .i32⟩
  | .hbm, ⟨64, _⟩ => ⟨S512, .i32⟩
  | .hbm, ⟨65, _⟩ => ⟨S512, .i1⟩
  | .hbm, ⟨66, _⟩ => ⟨S_, .i32⟩
  | .hbm, ⟨67, _⟩ => ⟨S512, .i32⟩
  | .hbm, ⟨68, _⟩ => ⟨S512, .i32⟩
  | .hbm, ⟨69, _⟩ => ⟨S512, .i32⟩
  | .hbm, ⟨70, _⟩ => ⟨S512x1, .i32⟩
  | .hbm, ⟨71, _⟩ => ⟨S512x256x512, .f32⟩
  | .hbm, ⟨72, _⟩ => ⟨S512x512, .f32⟩
  | .hbm, ⟨73, _⟩ => ⟨S_, .i32⟩
  | .hbm, ⟨74, _⟩ => ⟨S512, .i32⟩
  | .hbm, ⟨75, _⟩ => ⟨S512, .i1⟩
  | .hbm, ⟨76, _⟩ => ⟨S_, .i32⟩
  | .hbm, ⟨77, _⟩ => ⟨S512, .i32⟩
  | .hbm, ⟨78, _⟩ => ⟨S512, .i32⟩
  | .hbm, ⟨79, _⟩ => ⟨S512, .i32⟩
  | .hbm, ⟨80, _⟩ => ⟨S512x1, .i32⟩
  | .hbm, ⟨81, _⟩ => ⟨S512x256x512, .f32⟩
  | .hbm, ⟨82, _⟩ => ⟨S512x512, .f32⟩
  | .hbm, ⟨83, _⟩ => ⟨S512x1, .f32⟩
  | .hbm, ⟨84, _⟩ => ⟨S512x512, .f32⟩
  | .hbm, ⟨85, _⟩ => ⟨S512x512, .f32⟩
  | .hbm, ⟨86, _⟩ => ⟨S512x1, .f32⟩
  | .hbm, ⟨87, _⟩ => ⟨S512x512, .f32⟩
  | .hbm, ⟨88, _⟩ => ⟨S512x512, .f32⟩
  | .hbm, ⟨89, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_c_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_8 : Ref sig .tc := ⟨.hbm, 63, rfl⟩
abbrev main_v49 : Ref sig .tc := ⟨.hbm, 64, rfl⟩
abbrev main_v50 : Ref sig .tc := ⟨.hbm, 65, rfl⟩
abbrev main_c_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_10 : Ref sig .tc := ⟨.hbm, 73, rfl⟩
abbrev main_v57 : Ref sig .tc := ⟨.hbm, 74, rfl⟩
abbrev main_v58 : Ref sig .tc := ⟨.hbm, 75, rfl⟩
abbrev main_c_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Geo.lean ====
/-
# The mesh, the semaphores and the buffers of the kernel

Device `c = 4 g + w` is position `w` of plane `g`. Every closed form below is decided over the sixteen devices.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic
open Idealize.ShloMosaic.TcCoe

/-! ## Coordinates -/

set_option backward.proofsInPublic true in
/-- The plane of a device. -/
def gd (c : Dev nD) : Fin 4 := ⟨c.val / 4, Nat.div_lt_of_lt_mul c.isLt⟩
set_option backward.proofsInPublic true in
/-- Its position in the plane. -/
def wd (c : Dev nD) : Fin 4 := ⟨c.val % 4, Nat.mod_lt _ (by decide)⟩
set_option backward.proofsInPublic true in
/-- The device at a plane and a position. -/
def mk (g w : Fin 4) : Dev nD := ⟨4 * g.val + w.val, by have := g.isLt; have := w.isLt; show _ < 16; omega⟩

theorem gd_mk (g w : Fin 4) : gd (mk g w) = g := by revert g w; decide
theorem wd_mk (g w : Fin 4) : wd (mk g w) = w := by revert g w; decide
theorem mk_gd_wd (c : Dev nD) : mk (gd c) (wd c) = c := by revert c; decide

/-- A direction and a distance less one: inside the plane for `false`, across the planes for `true`. -/
structure DD where
  b : Bool
  k : Fin 3
deriving DecidableEq
def ddEquiv : Bool × Fin 3 ≃ DD := ⟨fun p => ⟨p.1, p.2⟩, fun j => (j.b, j.k), fun _ => rfl, fun _ => rfl⟩
instance : Fintype DD := Fintype.ofEquiv _ ddEquiv

/-- The neighbour at distance `k + 1`: inside the plane for `false`, across the planes for `true`. -/
def nbr (j : DD) (c : Dev nD) : Dev nD :=
  if j.b then mk (gd c + j.k.succ) (wd c) else mk (gd c) (wd c + j.k.succ)
/-- The direction back. -/
def back (j : DD) : DD := .mk j.b j.k.rev

theorem nbr_back (j : DD) (c : Dev nD) : nbr (back j) (nbr j c) = c := by revert j c; decide
theorem back_back (j : DD) : back (back j) = j := by revert j; decide
theorem nbr_plane (k : Fin 3) (c : Dev nD) : nbr (.mk false k) c = mk (gd c) (wd c + k.succ) := rfl
theorem nbr_cross (k : Fin 3) (c : Dev nD) : nbr (.mk true k) c = mk (gd c + k.succ) (wd c) := rfl
theorem gd_nbr (k : Fin 3) (c : Dev nD) : gd (nbr (.mk false k) c) = gd c := by revert k c; decide
theorem wd_nbr (k : Fin 3) (c : Dev nD) : wd (nbr (.mk false k) c) = wd c + k.succ := by revert k c; decide
theorem gd_nbr' (k : Fin 3) (c : Dev nD) : gd (nbr (.mk true k) c) = gd c + k.succ := by revert k c; decide
theorem wd_nbr' (k : Fin 3) (c : Dev nD) : wd (nbr (.mk true k) c) = wd c := by revert k c; decide

/-- The slab a device works on at step `zk`: the planes after its own, its own last. -/
def zOf (c : Dev nD) (zk : Fin 4) : Fin 4 := gd c + 1 + zk
/-- The position whose block a device handles at distance `j`. -/
def wOf (c : Dev nD) (j : Fin 4) : Fin 4 := wd c + j
def gOf (c : Dev nD) (j : Fin 4) : Fin 4 := gd c + j

/-! ## The devices and offsets the kernel computes -/

section Chains
variable (c : Dev nD)
theorem dev1_eq : (⟨k0_dev1 c, k0_dev1_lt c⟩ : Dev nD) = nbr (.mk false 0) c := by revert c; decide +kernel
theorem dev2_eq : (⟨k0_dev2 c, k0_dev2_lt c⟩ : Dev nD) = nbr (.mk false 1) c := by revert c; decide +kernel
theorem dev3_eq : (⟨k0_dev3 c, k0_dev3_lt c⟩ : Dev nD) = nbr (.mk false 2) c := by revert c; decide +kernel
theorem dev4_eq : (⟨k0_dev4 c, k0_dev4_lt c⟩ : Dev nD) = nbr (.mk true 0) c := by revert c; decide +kernel
theorem dev5_eq : (⟨k0_dev5 c, k0_dev5_lt c⟩ : Dev nD) = nbr (.mk true 1) c := by revert c; decide +kernel
theorem dev6_eq : (⟨k0_dev6 c, k0_dev6_lt c⟩ : Dev nD) = nbr (.mk true 2) c := by revert c; decide +kernel
theorem dev7_eq : (⟨k0_dev7 c, k0_dev7_lt c⟩ : Dev nD) = nbr (.mk false 0) c := by revert c; decide +kernel
theorem dev8_eq : (⟨k0_dev8 c, k0_dev8_lt c⟩ : Dev nD) = nbr (.mk false 1) c := by revert c; decide +kernel
theorem dev9_eq : (⟨k0_dev9 c, k0_dev9_lt c⟩ : Dev nD) = nbr (.mk false 2) c := by revert c; decide +kernel
theorem dev10_eq : (⟨k0_dev10 c, k0_dev10_lt c⟩ : Dev nD) = nbr (.mk false 0) c := by revert c; decide +kernel
theorem dev11_eq : (⟨k0_dev11 c, k0_dev11_lt c⟩ : Dev nD) = nbr (.mk false 1) c := by revert c; decide +kernel
theorem dev12_eq : (⟨k0_dev12 c, k0_dev12_lt c⟩ : Dev nD) = nbr (.mk false 2) c := by revert c; decide +kernel
theorem dev13_eq : (⟨k0_dev13 c, k0_dev13_lt c⟩ : Dev nD) = nbr (.mk false 0) c := by revert c; decide +kernel
theorem dev14_eq : (⟨k0_dev14 c, k0_dev14_lt c⟩ : Dev nD) = nbr (.mk false 1) c := by revert c; decide +kernel
theorem dev15_eq : (⟨k0_dev15 c, k0_dev15_lt c⟩ : Dev nD) = nbr (.mk false 2) c := by revert c; decide +kernel
theorem dev16_eq : (⟨k0_dev16 c, k0_dev16_lt c⟩ : Dev nD) = nbr (.mk false 0) c := by revert c; decide +kernel
theorem dev17_eq : (⟨k0_dev17 c, k0_dev17_lt c⟩ : Dev nD) = nbr (.mk false 1) c := by revert c; decide +kernel
theorem dev18_eq : (⟨k0_dev18 c, k0_dev18_lt c⟩ : Dev nD) = nbr (.mk false 2) c := by revert c; decide +kernel
theorem dev19_eq : (⟨k0_dev19 c, k0_dev19_lt c⟩ : Dev nD) = nbr (.mk true 0) c := by revert c; decide +kernel
theorem dev20_eq : (⟨k0_dev20 c, k0_dev20_lt c⟩ : Dev nD) = nbr (.mk true 1) c := by revert c; decide +kernel
theorem dev21_eq : (⟨k0_dev21 c, k0_dev21_lt c⟩ : Dev nD) = nbr (.mk true 2) c := by revert c; decide +kernel

/-- The word of step `zk`. -/
abbrev zw (zk : Fin 4) : BitVec 32 := BitVec.ofNat 32 zk.val
/-- The word of distance `k + 1`. -/
abbrev kw (k : Fin 3) : BitVec 32 := BitVec.ofNat 32 (1 + k.val)

theorem off1_eq (zk : Fin 4) : k0_off1 c (zw zk) = ![128 * (zOf c zk).val, 0] := by revert c zk; decide +kernel
theorem off2_eq (zk : Fin 4) : k0_off2 c (zw zk) = ![128 * (zOf c zk).val, 0] := by revert c zk; decide +kernel
theorem off3_eq (zk : Fin 4) : k0_off3 c (zw zk) = ![128 * (zOf c zk).val, 0] := by revert c zk; decide +kernel
theorem off4_eq (zk : Fin 4) : k0_off4 c (zw zk) = ![(wd c).val, (zOf c zk).val] := by revert c zk; decide +kernel
theorem off5_eq (zk : Fin 4) : k0_off5 c (zw zk) = ![(wd c).val, (zOf c zk).val, 0, 0] := by revert c zk; decide +kernel
theorem off6_eq (zk : Fin 4) (k : Fin 3) : k0_off6 c (zw zk) (kw k) = ![128 * (zOf c zk).val + 32 * (wOf c k.succ).val, 0] := by
  revert c zk k; decide +kernel
theorem off7_eq (zk : Fin 4) : k0_off7 c (zw zk) = ![128 * (zOf c zk).val + 32 * (wOf c 0).val, 0] := by revert c zk; decide +kernel
theorem off8_eq (k : Fin 3) (zk : Fin 4) : k0_off8 c (kw k) (zw zk) = ![(wOf c k.succ).val, (zOf c zk).val] := by revert c zk k; decide +kernel
theorem off9_eq (k : Fin 3) (zk : Fin 4) : k0_off9 c (kw k) (zw zk) = ![(wOf c k.succ).val, (zOf c zk).val, 0, 0] := by
  revert c zk k; decide +kernel
theorem off10_eq (k : Fin 3) (zk : Fin 4) : k0_off10 c (kw k) (zw zk) = ![(wOf c k.succ).val, (zOf c zk).val, 0, 0] := by
  revert c zk k; decide +kernel
theorem off11_eq : k0_off11 c = ![(gd c).val] := by revert c; decide +kernel
theorem off12_eq : k0_off12 c = ![(gd c).val, 0, 0] := by revert c; decide +kernel
theorem off13_eq (k : Fin 3) : k0_off13 c (kw k) = ![(gOf c k.succ).val] := by revert c k; decide +kernel
theorem off14_eq (k : Fin 3) : k0_off14 c (kw k) = ![(gOf c k.succ).val, 0, 0] := by revert c k; decide +kernel
theorem off15_eq (k : Fin 3) : k0_off15 c (kw k) = ![(gOf c k.succ).val, 0, 0] := by revert c k; decide +kernel
end Chains

/-! ## The memrefs -/

abbrev xM : Memref sig .tc .vmem S512x256 .bf16 := Memref.whole cc0_stg0_0
abbrev rwM : Memref sig .tc .vmem S256x32 .bf16 := Memref.whole cc0_stg1_0
abbrev riM : Memref sig .tc .vmem S512x2 .i32 := Memref.whole cc0_stg2_0
abbrev ewM : Memref sig .tc .vmem S2x256x512 .bf16 := Memref.whole cc0_stg3_0
abbrev outM : Memref sig .tc .vmem S32x512 .f32 := Memref.whole cc0_stg4_0
abbrev w0M : Memref sig .tc .vmem S512x1 .f32 := Memref.whole cc0_scratch0
abbrev w1M : Memref sig .tc .vmem S512x1 .f32 := Memref.whole cc0_scratch1
abbrev pbM : Memref sig .tc .vmem S512x512 .bf16 := Memref.whole cc0_scratch2
abbrev caM : Memref sig .tc .vmem S3x32x512 .bf16 := Memref.whole cc0_scratch3
abbrev r1M : Memref sig .tc .vmem S4x4x32x512 .bf16 := Memref.whole cc0_scratch4
abbrev r2M : Memref sig .tc .vmem S4x32x512 .bf16 := Memref.whole cc0_scratch5

theorem inb_x (z : Fin 4) : ∀ a, (![128 * z.val, 0] : Fin 2 → Nat) a + S128x256.size a ≤ S512x256.size a := by revert z; decide
theorem inb_w (z : Fin 4) : ∀ a, (![128 * z.val, 0] : Fin 2 → Nat) a + S128x1.size a ≤ S512x1.size a := by revert z; decide
theorem inb_slab (z : Fin 4) : ∀ a, (![128 * z.val, 0] : Fin 2 → Nat) a + S128x512.size a ≤ S512x512.size a := by revert z; decide
theorem inb_blk (z j : Fin 4) : ∀ a, (![128 * z.val + 32 * j.val, 0] : Fin 2 → Nat) a + S32x512.size a ≤ S512x512.size a := by revert z j; decide
theorem inb_slot (p z : Fin 4) : ∀ a, (![p.val, z.val, 0, 0] : Fin 4 → Nat) a + S1x1x32x512.size a ≤ S4x4x32x512.size a := by revert p z; decide
theorem inb_slot2 (p : Fin 4) : ∀ a, (![p.val, 0, 0] : Fin 3 → Nat) a + S1x32x512.size a ≤ S4x32x512.size a := by revert p; decide
theorem inb_col (k : Fin 3) : ∀ a, (![k.val, 0, 0] : Fin 3 → Nat) a + S1x32x512.size a ≤ S3x32x512.size a := by revert k; decide
theorem inb_s44 (p z : Fin 4) : ∀ a, (![p.val, z.val] : Fin 2 → Nat) a + S1x1.size a ≤ S4x4.size a := by revert p z; decide
theorem inb_s4 (p : Fin 4) : ∀ a, (![p.val] : Fin 1 → Nat) a + S1.size a ≤ S4.size a := by revert p; decide

/-- Slab `z` of the partial products, as a rectangle and as a memref; its block for position `j`. -/
abbrev slabR (z : Fin 4) : Rect S512x512 := Rect.unit (s := S512x512) ![128 * z.val, 0] S128x512.size (inb_slab z)
abbrev slabM (z : Fin 4) : Memref sig .tc .vmem S128x512 .bf16 := pbM.slice (slabR z) (fun _ => rfl)
abbrev blkR (z j : Fin 4) : Rect S512x512 := Rect.unit (s := S512x512) ![128 * z.val + 32 * j.val, 0] S32x512.size (inb_blk z j)
abbrev blkM (z j : Fin 4) : Memref sig .tc .vmem S32x512 .bf16 := pbM.slice (blkR z j) (fun _ => rfl)
/-- The landing slot of the first exchange for position `p` and slab `z`; of the second for plane `p`; the row sent in the second. -/
abbrev slotR (p z : Fin 4) : Rect S4x4x32x512 := Rect.unit (s := S4x4x32x512) ![p.val, z.val, 0, 0] S1x1x32x512.size (inb_slot p z)
abbrev slotM (p z : Fin 4) : Memref sig .tc .vmem S32x512 .bf16 := (r1M.slice (slotR p z) (fun _ => rfl)).squeeze S32x512 squeezes_S1x1x32x512_S32x512
abbrev slot2R (p : Fin 4) : Rect S4x32x512 := Rect.unit (s := S4x32x512) ![p.val, 0, 0] S1x32x512.size (inb_slot2 p)
abbrev slot2M (p : Fin 4) : Memref sig .tc .vmem S32x512 .bf16 := (r2M.slice (slot2R p) (fun _ => rfl)).squeeze S32x512 squeezes_S1x32x512_S32x512
abbrev colR (k : Fin 3) : Rect S3x32x512 := Rect.unit (s := S3x32x512) ![k.val, 0, 0] S1x32x512.size (inb_col k)
abbrev colM (k : Fin 3) : Memref sig .tc .vmem S32x512 .bf16 := (caM.slice (colR k) (fun _ => rfl)).squeeze S32x512 squeezes_S1x32x512_S32x512

/-! ## The semaphores -/

abbrev barS : Sem sig := (SemArray.scalar (sig.barrier 0 rfl) : Sems sig S_).sem

set_option backward.proofsInPublic true in
def sA (k zk : Fin 4) : DmaSem sig := ⟨5 + 4 * k.val + zk.val, by have := k.isLt; have := zk.isLt; show _ < 45; omega⟩
set_option backward.proofsInPublic true in
def rA (p z : Fin 4) : DmaSem sig := ⟨21 + 4 * p.val + z.val, by have := p.isLt; have := z.isLt; show _ < 45; omega⟩
set_option backward.proofsInPublic true in
def sB (k : Fin 4) : DmaSem sig := ⟨37 + k.val, by have := k.isLt; show _ < 45; omega⟩
set_option backward.proofsInPublic true in
def rB (p : Fin 4) : DmaSem sig := ⟨41 + p.val, by have := p.isLt; show _ < 45; omega⟩

theorem sA_sem (k zk : Fin 4) : ((cc0_scratch6.slice (Rect.unit (s := S4x4) ![k.val, zk.val] S1x1.size (inb_s44 k zk))).squeeze S_ squeezes_S1x1_S_).sem = sA k zk := by
  revert k zk; decide +kernel
theorem rA_sem (p z : Fin 4) : ((cc0_scratch7.slice (Rect.unit (s := S4x4) ![p.val, z.val] S1x1.size (inb_s44 p z))).squeeze S_ squeezes_S1x1_S_).sem = rA p z := by
  revert p z; decide +kernel
theorem sB_sem (k : Fin 4) : ((cc0_scratch8.slice (Rect.unit (s := S4) ![k.val] S1.size (inb_s4 k))).squeeze S_ squeezes_S1_S_).sem = sB k := by
  revert k; decide +kernel
theorem rB_sem (p : Fin 4) : ((cc0_scratch9.slice (Rect.unit (s := S4) ![p.val] S1.size (inb_s4 p))).squeeze S_ squeezes_S1_S_).sem = rB p := by
  revert p; decide +kernel

/-- What a cell is for. -/
inductive Kind | bar | sa (k zk : Fin 4) | ra (p z : Fin 4) | sb (k : Fin 4) | rb (p : Fin 4) | none
deriving DecidableEq

def kindN (n : Nat) : Kind :=
  if n < 5 then .none else if n < 21 then .sa (Fin.ofNat 4 ((n - 5) / 4)) (Fin.ofNat 4 ((n - 5) % 4))
  else if n < 37 then .ra (Fin.ofNat 4 ((n - 21) / 4)) (Fin.ofNat 4 ((n - 21) % 4))
  else if n < 41 then .sb (Fin.ofNat 4 (n - 37)) else .rb (Fin.ofNat 4 (n - 41))
def kind : SemLoc sig → Kind
  | .reg s => if s = barS then .bar else .none
  | .dma q => kindN q.val

theorem kind_bar : kind (.reg barS) = .bar := by decide +kernel
theorem kind_sA (k zk : Fin 4) : kind (.dma (sA k zk)) = .sa k zk := by revert k zk; decide +kernel
theorem kind_rA (p z : Fin 4) : kind (.dma (rA p z)) = .ra p z := by revert p z; decide +kernel
theorem kind_sB (k : Fin 4) : kind (.dma (sB k)) = .sb k := by revert k; decide +kernel
theorem kind_rB (p : Fin 4) : kind (.dma (rB p)) = .rb p := by revert p; decide +kernel

end Cert.Moe
-- ==== Proof.Sched.lean ====
/-
# What the kernel computes on each device, and the exchange's schedule

Every cell has one round. A barrier cell collects one unit from each of the six neighbours; the payload of a unit is the
neighbour's landing slots this device writes. A transfer's cell has one duty: the receiving cell hands over the slot with the
sender's block in it, the sending cell hands the block back.
-/
module

public import proofs.«01_k».proof.Proof.Geo

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) DD
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Contents -/

variable (F) in
/-- The staged arguments of every device. -/
structure Args where
  x : Dev nD → Vec F S512x256 .bf16
  rw : Dev nD → Vec F S256x32 .bf16
  ri : Dev nD → Vec F S512x2 .i32
  ew : Dev nD → Vec F S2x256x512 .bf16

/-- The device's number as the kernel computes it. -/
def v2w (c : Dev nD) : BitVec 32 := Scalar.remsi (Scalar.divsi (Dev.word c) 1#32) 16#32

variable (A : Args F) (c : Dev nD)

abbrev rX0 : Rect S512x256 := Rect.unit (s := S512x256) ![0, 0] S512x256.size inb_S512x256_S512x256_0_0
abbrev rR0 : Rect S256x32 := Rect.unit (s := S256x32) ![0, 0] S256x32.size inb_S256x32_S256x32_0_0
abbrev rI0 : Rect S512x2 := Rect.unit (s := S512x2) ![0, 0] S512x1.size inb_S512x2_S512x1_0_0
abbrev rI1 : Rect S512x2 := Rect.unit (s := S512x2) ![0, 1] S512x1.size inb_S512x2_S512x1_0_1
abbrev rE0 : Rect S2x256x512 := Rect.unit (s := S2x256x512) ![0, 0, 0] S1x256x512.size inb_S2x256x512_S1x256x512_0_0_0
abbrev rE1 : Rect S2x256x512 := Rect.unit (s := S2x256x512) ![1, 0, 0] S1x256x512.size inb_S2x256x512_S1x256x512_1_0_0
abbrev rXz (z : Fin 4) : Rect S512x256 := Rect.unit (s := S512x256) ![128 * z.val, 0] S128x256.size (inb_x z)
abbrev rWz (z : Fin 4) : Rect S512x1 := Rect.unit (s := S512x1) ![128 * z.val, 0] S128x1.size (inb_w z)
abbrev rW0 : Rect S512x1 := Rect.unit (s := S512x1) ![0, 0] S512x1.size inb_S512x1_S512x1_0_0
abbrev rO0 : Rect S32x512 := Rect.unit (s := S32x512) ![0, 0] S32x512.size inb_S32x512_S32x512_0_0

abbrev xld : Vec F S512x256 .bf16 := xM.view.readAt (Elt F) rX0.toLoadRect (A.x c)
abbrev rwld : Vec F S256x32 .bf16 := rwM.view.readAt (Elt F) rR0.toLoadRect (A.rw c)
abbrev i0ld : Vec F S512x1 .i32 := riM.view.readAt (Elt F) rI0.toLoadRect (A.ri c)
abbrev i1ld : Vec F S512x1 .i32 := riM.view.readAt (Elt F) rI1.toLoadRect (A.ri c)
abbrev e0ld : Vec F S1x256x512 .bf16 := ewM.view.readAt (Elt F) rE0.toLoadRect (A.ew c)
abbrev e1ld : Vec F S1x256x512 .bf16 := ewM.view.readAt (Elt F) rE1.toLoadRect (A.ew c)
abbrev xzld (z : Fin 4) : Vec F S128x256 .bf16 := xM.view.readAt (Elt F) (rXz z).toLoadRect (A.x c)

/-- The weight of the device's first expert on every token, and of its second. -/
def w0Val : Vec F S512x1 .f32 :=
  k0_pay8 (v2w c) (k0_pay1 (xld A c) (rwld A c)) (k0_pay2 (F := F) (i0ld A c)) (k0_pay3 (F := F) (i1ld A c)) (k0_pay4 (xld A c) (rwld A c) (i0ld A c))
    (k0_pay5 (F := F) (i1ld A c)) (k0_pay6 (F := F))
def w1Val : Vec F S512x1 .f32 :=
  k0_pay9 (v2w c) (k0_pay1 (xld A c) (rwld A c)) (k0_pay2 (F := F) (i0ld A c)) (k0_pay3 (F := F) (i1ld A c)) (k0_pay4 (xld A c) (rwld A c) (i0ld A c))
    (k0_pay5 (F := F) (i1ld A c)) (k0_pay6 (F := F))
abbrev w0ld (z : Fin 4) : Vec F S128x1 .f32 := w0M.view.readAt (Elt F) (rWz z).toLoadRect (w0Val A c)
abbrev w1ld (z : Fin 4) : Vec F S128x1 .f32 := w1M.view.readAt (Elt F) (rWz z).toLoadRect (w1Val A c)

/-- The device's partial product on slab `z`. -/
def slabVal (z : Fin 4) : Vec F S128x512 .bf16 := k0_pay12 (e0ld A c) (e1ld A c) (xzld A c z) (w0ld A c z) (w1ld A c z)

theorem inb_sub (j : Fin 4) : ∀ a, (![32 * j.val, 0] : Fin 2 → Nat) a + S32x512.size a ≤ S128x512.size a := by revert j; decide
abbrev subR (j : Fin 4) : Rect S128x512 := Rect.unit (s := S128x512) ![32 * j.val, 0] S32x512.size (inb_sub j)

/-- Its rows for position `j`. -/
def blkVal (z j : Fin 4) : Vec F S32x512 .bf16 := fun i => slabVal A c z ((subR j).emb i)

/-- One block added to a running sum. -/
def addb (a : FVec F S32x512 .f32) (b : FVec F S32x512 .bf16) : FVec F S32x512 .f32 := addf a (extf .f32 b bitsLt_bf16_f32)

/-- The sum over the device's plane of the blocks of slab `z` at the device's position, up to `n` neighbours. -/
def own0 (z : Fin 4) : FVec F S32x512 .f32 := extf .f32 (blkVal A c z (wOf c 0)) bitsLt_bf16_f32
def nbV (z : Fin 4) (k : Fin 3) : Vec F S32x512 .bf16 := blkVal A (mk (gd c) (wOf c k.succ)) z (wd c)
def own1 (z : Fin 4) : FVec F S32x512 .f32 := addb (own0 A c z) (nbV A c z 0)
def own2 (z : Fin 4) : FVec F S32x512 .f32 := addb (own1 A c z) (nbV A c z 1)
def own3 (z : Fin 4) : FVec F S32x512 .f32 := addb (own2 A c z) (nbV A c z 2)
/-- The row the device sends across the planes for slab `z`. -/
def colVal (z : Fin 4) : Vec F S32x512 .bf16 := truncf .bf16 (own3 A c z) bitsLt_bf16_f32

def crV (k : Fin 3) : Vec F S32x512 .bf16 := colVal A (mk (gOf c k.succ) (wd c)) (gd c)
def fin1 : FVec F S32x512 .f32 := addb (own3 A c (gd c)) (crV A c 0)
def fin2 : FVec F S32x512 .f32 := addb (fin1 A c) (crV A c 1)
/-- The device's block of the result. -/
def outVal : FVec F S32x512 .f32 := addb (fin2 A c) (crV A c 2)

/-! ## The schedule -/

abbrev N : ℕ := (slotM 0 0).view.dmaCredit
theorem N_pos : 0 < N := View.dmaCredit_pos _ (by decide)
theorem N_slot (p z : Fin 4) : (slotM p z).view.dmaCredit = N := rfl
theorem N_slot2 (p : Fin 4) : (slot2M p).view.dmaCredit = N := rfl
theorem N_blk (z j : Fin 4) : (blkM z j).view.dmaCredit = N := rfl
theorem N_col (k : Fin 3) : (colM k).view.dmaCredit = N := rfl

/-- A memref's elements at contents `X`; at some contents. -/
def own (c : Dev nD) {sh : Shape} {e : EltTy} (m : Memref sig .tc .vmem sh e) (X : sh.Idx → Elt F e) : sProp 𝕄 :=
  owns (c : Thread nD τ) m fullShare X
def anyAt (c : Dev nD) {sh : Shape} {e : EltTy} (m : Memref sig .tc .vmem sh e) : sProp 𝕄 :=
  iprop(∃ f, m.view.loc (c : Thread nD τ) ↦[m.view.set]{fullShare} f)

omit [FloatOps F] in
instance own_storable (c : Dev nD) {sh : Shape} {e : EltTy} (m : Memref sig .tc .vmem sh e) (X : sh.Idx → Elt F e) :
    BI.Storable (upEmb : UEmb _ 𝕄) (own c m X) := by unfold own; infer_instance
omit [FloatOps F] in
instance anyAt_storable (c : Dev nD) {sh : Shape} {e : EltTy} (m : Memref sig .tc .vmem sh e) :
    BI.Storable (upEmb : UEmb _ 𝕄) (anyAt (F := F) c m) := by unfold anyAt; infer_instance

/-- The slots of its neighbour in direction `j` that device `c` writes. -/
def barPay (j : DD) : sProp 𝕄 :=
  if j.b then anyAt (nbr j c) (slot2M (gd c)) else bigSep Finset.univ fun zk : Fin 4 => anyAt (nbr j c) (slotM (wd c) (zOf c zk))

def saPay (k : Fin 4) (zk : Fin 4) : sProp 𝕄 := own c (blkM (zOf c zk) (wOf c k)) (blkVal A c (zOf c zk) (wOf c k))
def raPay (p z : Fin 4) : sProp 𝕄 := own c (slotM p z) (blkVal A (mk (gd c) p) z (wd c))
def sbPay (k : Fin 4) : sProp 𝕄 :=
  if h : k.val < 3 then own c (colM ⟨k.val, h⟩) (colVal A c (zOf c k)) else iprop(emp)
def rbPay (p : Fin 4) : sProp 𝕄 := own c (slot2M p) (colVal A (mk p (wd c)) (gd c))

def payOf (c : Dev nD) (q : Kind) (d : DD) : sProp 𝕄 :=
  match q with
  | .bar => barPay c d
  | .sa k zk => saPay A c k zk
  | .ra p z => raPay A c p z
  | .sb k => sbPay A c k
  | .rb p => rbPay A c p
  | .none => iprop(emp)

/-- Which duties a cell has. -/
def dutyOf (c : Dev nD) : Kind → Finset DD
  | .bar => Finset.univ
  | .sa k _ => if k = 0 then ∅ else {(.mk false 0)}
  | .ra p _ => if p = wd c then ∅ else {(.mk false 0)}
  | .sb k => if k = 3 then ∅ else {(.mk false 0)}
  | .rb p => if p = gd c then ∅ else {(.mk false 0)}
  | .none => ∅

instance payOf_storable (c : Dev nD) (q : Kind) (d : DD) : BI.Storable (upEmb : UEmb _ 𝕄) (payOf A c q d) := by
  unfold payOf
  split
  · unfold barPay; split <;> infer_instance
  · unfold saPay; infer_instance
  · unfold raPay; infer_instance
  · unfold sbPay; split <;> infer_instance
  · unfold rbPay; infer_instance
  · infer_instance

def rd : Rounds.Schedule (GSem nD τ sig) DD 𝕄 where
  duties g r := if r = 0 ∧ g.1.2 = .tc then dutyOf g.1.1 (kind g.2) else ∅
  unitless _ := False
  amount g _ _ := if kind g.2 = .bar then 1 else N
  payload g _ d := payOf A g.1.1 (kind g.2) d
  amount_pos g _ _ _ := by
    by_cases h : kind g.2 = .bar
    · rw [if_pos h]; exact Nat.one_pos
    · rw [if_neg h]; exact N_pos

instance rd_payload_storable (g : GSem nD τ sig) (r : ℕ) (d : DD) : BI.Storable (upEmb : UEmb _ 𝕄) ((rd A).payload g r d) := by
  show BI.Storable upEmb (payOf A g.1.1 (kind g.2) d); infer_instance

theorem rd_duties (sm : SemLoc sig) {q : Kind} (hq : kind sm = q) : (rd A).duties ((c : Thread nD τ), sm) 0 = dutyOf c q := by
  subst hq
  show (if (0 : ℕ) = 0 ∧ (c : Thread nD τ).2 = .tc then dutyOf c (kind sm) else ∅) = _
  exact if_pos ⟨rfl, rfl⟩
theorem rd_later (g : GSem nD τ sig) : ∀ r, 1 ≤ r → (rd A).duties g r = ∅ := fun r hr => if_neg fun h => by omega
theorem rd_idle (sm : SemLoc sig) {q : Kind} (hq : kind sm = q) (h : dutyOf c q = ∅) : ∀ r, 0 ≤ r → (rd A).duties ((c : Thread nD τ), sm) r = ∅ := by
  intro r _
  by_cases hr : r = 0
  · subst hr; rw [rd_duties A c sm hq, h]
  · exact if_neg fun h' => hr h'.1
theorem rd_amount (sm : SemLoc sig) {q : Kind} (hq : kind sm = q) (hb : q ≠ .bar) (d : DD) : (rd A).amount ((c : Thread nD τ), sm) 0 d = N := by
  subst hq; exact if_neg hb
theorem rd_amount_bar (d : DD) : (rd A).amount ((c : Thread nD τ), .reg barS) 0 d = 1 := by
  show (if kind (.reg barS) = .bar then 1 else N) = 1
  exact if_pos kind_bar
theorem rd_payload (sm : SemLoc sig) {q : Kind} (hq : kind sm = q) (d : DD) : (rd A).payload ((c : Thread nD τ), sm) 0 d = payOf A c q d := by
  subst hq; rfl

/-- What a transfer's cell expects, and hands over. -/
theorem rd_expect (sm : SemLoc sig) {q : Kind} (hq : kind sm = q) (hb : q ≠ .bar) (hd : dutyOf c q = {(.mk false 0)}) :
    (rd A).expect ((c : Thread nD τ), sm) 0 = N := by
  unfold Schedule.expect Schedule.amountOf
  rw [rd_duties A c sm hq, hd, Finset.sum_singleton, rd_amount A c sm hq hb]
theorem rd_rest (sm : SemLoc sig) {q : Kind} (hq : kind sm = q) (hd : dutyOf c q = {(.mk false 0)}) :
    bigSep ((rd A).duties ((c : Thread nD τ), sm) 0 \ ∅) (fun d => (rd A).payload ((c : Thread nD τ), sm) 0 d) = payOf A c q (.mk false 0) := by
  rw [Finset.sdiff_empty, rd_duties A c sm hq, hd, bigSep_singleton, rd_payload A c sm hq]
theorem rd_expect_bar : (rd A).expect ((c : Thread nD τ), .reg barS) 0 = 6 := by
  unfold Schedule.expect Schedule.amountOf
  rw [rd_duties A c _ kind_bar, Finset.sum_congr rfl fun d _ => rd_amount_bar A c d]; rfl
theorem rd_rest_bar :
    bigSep ((rd A).duties ((c : Thread nD τ), .reg barS) 0 \ ∅) (fun d => (rd A).payload ((c : Thread nD τ), .reg barS) 0 d)
      = bigSep Finset.univ fun j : DD => barPay (F := F) c j := by
  rw [Finset.sdiff_empty, rd_duties A c _ kind_bar]
  exact bigSep_congr fun j _ => rd_payload A c _ kind_bar j

theorem duty_sa (k : Fin 3) (zk : Fin 4) : dutyOf c (.sa k.succ zk) = {(.mk false 0)} := by revert c k zk; decide
theorem duty_ra (k : Fin 3) (z : Fin 4) : dutyOf c (.ra (wOf c k.succ) z) = {(.mk false 0)} := by revert c k z; decide
theorem duty_sb (k : Fin 3) : dutyOf c (.sb k.castSucc) = {(.mk false 0)} := by revert c k; decide
theorem duty_rb (k : Fin 3) : dutyOf c (.rb (gOf c k.succ)) = {(.mk false 0)} := by revert c k; decide

/-! ## Levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barrier cells at 1, the first exchange's receive cells at 2, the second's at 3, everything else at 0. -/
def lvK : Kind → ℕ
  | .bar => 1
  | .ra _ _ => 2
  | .rb _ => 3
  | _ => 0
def lv (g : GSem nD τ sig) (_ : Unit) : ℕ := lvK (kind g.2)

/-! ## The pending obligations -/

abbrev barCell (c : Dev nD) : GSem nD τ sig := ((c : Thread nD τ), .reg barS)
abbrev saCell (c : Dev nD) (p : Fin 4 × Fin 3) : GSem nD τ sig := ((c : Thread nD τ), .dma (sA p.2.succ p.1))
/-- The receive cell of the block that comes from distance `k + 1` for step `zk`. -/
abbrev raCell (c : Dev nD) (p : Fin 4 × Fin 3) : GSem nD τ sig := ((c : Thread nD τ), .dma (rA (wOf c p.2.succ) (zOf c p.1)))
abbrev sbCell (c : Dev nD) (k : Fin 3) : GSem nD τ sig := ((c : Thread nD τ), .dma (sB k.castSucc))
abbrev rbCell (c : Dev nD) (k : Fin 3) : GSem nD τ sig := ((c : Thread nD τ), .dma (rB (gOf c k.succ)))

/-- The receive cell a device's send raises. -/
def toA (c : Dev nD) (p : Fin 4 × Fin 3) : GSem nD τ sig := raCell (nbr (.mk false p.2) c) (p.1, p.2.rev)
def toB (c : Dev nD) (k : Fin 3) : GSem nD τ sig := rbCell (nbr (.mk true k) c) k.rev

def due (c : Dev nD) (sg : Finset DD) (sa : Finset (Fin 4 × Fin 3)) (sb : Finset (Fin 3)) : CellTallies nD τ sig Unit :=
  ∑ j ∈ sg, tallyAt (barCell (nbr j c)) () 1 + ∑ p ∈ sa, tallyAt (toA c p) () N + ∑ k ∈ sb, tallyAt (toB c k) () N

theorem sum_pos {I : Type} {s : Finset I} {f : I → GSem nD τ sig} {n : ℕ} {g : GSem nD τ sig} {u : Unit}
    (h : 0 < (∑ i ∈ s, tallyAt (f i) () n : CellTallies nD τ sig Unit) g u) : ∃ i ∈ s, g = f i := by
  by_contra hn
  push Not at hn
  rw [Finset.sum_apply, Finsupp.finset_sum_apply, Finset.sum_eq_zero] at h
  · exact Nat.lt_irrefl 0 h
  · intro i hi; rw [tallyAt_apply, if_neg fun h' => hn i hi h'.1]

theorem due_pos {c : Dev nD} {sg : Finset DD} {sa : Finset (Fin 4 × Fin 3)} {sb : Finset (Fin 3)} {g : GSem nD τ sig} {u : Unit}
    (h : 0 < due c sg sa sb g u) : (∃ j ∈ sg, g = barCell (nbr j c)) ∨ (∃ p ∈ sa, g = toA c p) ∨ ∃ k ∈ sb, g = toB c k := by
  unfold due at h
  rw [Pi.add_apply, Finsupp.add_apply, Pi.add_apply, Finsupp.add_apply] at h
  by_cases h1 : 0 < (∑ j ∈ sg, tallyAt (barCell (nbr j c)) () 1 : CellTallies nD τ sig Unit) g u
  · exact .inl (sum_pos h1)
  by_cases h2 : 0 < (∑ p ∈ sa, tallyAt (toA c p) () N : CellTallies nD τ sig Unit) g u
  · exact .inr (.inl (sum_pos h2))
  · have e1 := Nat.eq_zero_of_not_pos h1
    have e2 := Nat.eq_zero_of_not_pos h2
    rw [e1, e2, Nat.zero_add] at h
    exact .inr (.inr (sum_pos h))

/-- A wait on one of the device's own cells is allowed when everything still owed lies above it. -/
theorem mayWait (c : Dev nD) (sm : SemLoc sig) (sg : Finset DD) (sa : Finset (Fin 4 × Fin 3)) (sb : Finset (Fin 3))
    (h1 : sg = ∅ ∨ lvK (kind sm) < 1) (h2 : sa = ∅ ∨ lvK (kind sm) < 2) (h3 : sb = ∅ ∨ lvK (kind sm) < 3) :
    (levAts L lv : sProp 𝕄) ⊢ MayWait (c : Thread nD τ) sm () (due c sg sa sb) :=
  MayOwe.of_cut (L := L) (lev := lv) (lvK (kind sm)) (fun p hp => by rw [Finset.mem_singleton.mp hp, L_tc]; exact Finset.mem_singleton_self _)
    (fun g u hg => by rcases due_pos hg with ⟨_, -, rfl⟩ | ⟨_, -, rfl⟩ | ⟨_, -, rfl⟩ <;> exact Finset.mem_singleton_self _)
    (fun p hp => by rw [Finset.mem_singleton.mp hp]; exact le_rfl)
    (fun g u hg => by
      rcases due_pos hg with ⟨j, hj, rfl⟩ | ⟨p, hp, rfl⟩ | ⟨k, hk, rfl⟩
      · rcases h1 with rfl | h
        · exact absurd hj (Finset.notMem_empty _)
        · show lvK (kind sm) < lvK (kind (.reg barS)); rw [kind_bar]; exact h
      · rcases h2 with rfl | h
        · exact absurd hp (Finset.notMem_empty _)
        · show lvK (kind sm) < lvK (kind (.dma (rA _ _))); rw [kind_rA]; exact h
      · rcases h3 with rfl | h
        · exact absurd hk (Finset.notMem_empty _)
        · show lvK (kind sm) < lvK (kind (.dma (rB _))); rw [kind_rB]; exact h)

end Cert.Moe
-- ==== Proof.Rules.lean ====
/-
# The rules of the exchange

The cells' invariants and marks every device shares, and one rule per kind of effect, stated with the contents a memref reads.
-/
module

public import proofs.«01_k».proof.Proof.Sched

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells -/

set_option backward.proofsInPublic true in
/-- A device's cells: its barrier cell, then the forty scratch semaphores. -/
def csem (i : Fin 41) : SemLoc sig := if i.val = 0 then .reg barS else .dma ⟨4 + i.val, by have := i.isLt; show _ < 45; omega⟩
def kcell (ci : Dev nD × Fin 41) : GSem nD τ sig := ((ci.1 : Thread nD τ), csem ci.2)

variable (A : Args F) (K : Dev nD × Fin 41 → ℕ) (c : Dev nD)

/-- What every device may use throughout: the cells' invariants, that every cell is at its first round, the levels. -/
def ctx : sProp 𝕄 :=
  iprop((bigSep Finset.univ fun ci : Dev nD × Fin 41 => cellInv ER (rd A) (K ci) (kcell ci))
    ∗ (bigSep Finset.univ fun ci : Dev nD × Fin 41 => reached ER (kcell ci) 0) ∗ levAts L lv)

instance ctx_persistent : BI.Persistent (ctx A K) := by unfold ctx; infer_instance

/-- The semaphores with a cell. -/
def Named (sm : SemLoc sig) : Prop := ∃ i, csem i = sm
theorem named_bar : Named (.reg barS) := ⟨0, rfl⟩
theorem named_dma (q : DmaSem sig) (h : 5 ≤ q.val) : Named (.dma q) := by
  refine ⟨⟨q.val - 4, by have : q.val < 45 := q.isLt; omega⟩, ?_⟩
  unfold csem
  rw [if_neg (by show ¬ (q.val - 4 = 0); omega)]
  congr 1; ext; show 4 + (q.val - 4) = q.val; omega
theorem named_sA (k zk : Fin 4) : Named (.dma (sA k zk)) := named_dma _ (by unfold sA; show 5 ≤ 5 + 4 * k.val + zk.val; omega)
theorem named_rA (p z : Fin 4) : Named (.dma (rA p z)) := named_dma _ (by unfold rA; show 5 ≤ 21 + 4 * p.val + z.val; omega)
theorem named_sB (k : Fin 4) : Named (.dma (sB k)) := named_dma _ (by unfold sB; show 5 ≤ 37 + k.val; omega)
theorem named_rB (p : Fin 4) : Named (.dma (rB p)) := named_dma _ (by unfold rB; show 5 ≤ 41 + p.val; omega)

theorem inv_at {sm : SemLoc sig} (h : Named sm) : ctx A K ⊢ iprop(∃ κ, cellInv ER (rd A) κ ((c : Thread nD τ), sm)) := by
  obtain ⟨i, rfl⟩ := h
  have h : ctx A K ⊢ cellInv ER (rd A) (K (c, i)) ((c : Thread nD τ), csem i) := by
    unfold ctx
    exact sep_elim_left.trans (bigSep_elim (Finset.mem_univ ((c, i) : Dev nD × Fin 41)))
  iintro H
  iexists (K (c, i))
  iapply h; iexact H
theorem reached_at {sm : SemLoc sig} (h : Named sm) : ctx A K ⊢ reached ER ((c : Thread nD τ), sm) 0 := by
  obtain ⟨i, rfl⟩ := h
  unfold ctx
  exact sep_elim_right.trans (sep_elim_left.trans (bigSep_elim (Finset.mem_univ ((c, i) : Dev nD × Fin 41))))

theorem payOf_bar (j : DD) : payOf A c .bar j = barPay c j := rfl

theorem ctx_mayWait (sm : SemLoc sig) (sg : Finset DD) (sa : Finset (Fin 4 × Fin 3)) (sb : Finset (Fin 3))
    (h1 : sg = ∅ ∨ lvK (kind sm) < 1) (h2 : sa = ∅ ∨ lvK (kind sm) < 2) (h3 : sb = ∅ ∨ lvK (kind sm) < 3) :
    ctx A K ⊢ MayWait (c : Thread nD τ) sm () (due c sg sa sb) := by
  have h := mayWait (F := F) c sm sg sa sb h1 h2 h3
  unfold ctx
  iintro ⟨-, -, H⟩
  iapply h; iexact H

/-! ## What a device owes -/

def owesE (sg : Finset DD) (sa : Finset (Fin 4 × Fin 3)) (sb : Finset (Fin 3)) : sProp 𝕄 :=
  iprop(∃ W, owes (c : Thread nD τ) (due c sg sa sb) W)

theorem due_erase_sg {sg : Finset DD} {sa sb} {j : DD} (h : j ∈ sg) :
    due c sg sa sb = due c (sg.erase j) sa sb + tallyAt (barCell (nbr j c)) () 1 := by
  unfold due; rw [← Finset.sum_erase_add _ _ h]; ac_rfl
theorem due_erase_sa {sg : Finset DD} {sa : Finset (Fin 4 × Fin 3)} {sb} {p} (h : p ∈ sa) :
    due c sg sa sb = due c sg (sa.erase p) sb + tallyAt (toA c p) () N := by
  unfold due; rw [← Finset.sum_erase_add _ _ h]; ac_rfl
theorem due_erase_sb {sg : Finset DD} {sa : Finset (Fin 4 × Fin 3)} {sb : Finset (Fin 3)} {k} (h : k ∈ sb) :
    due c sg sa sb = due c sg sa (sb.erase k) + tallyAt (toB c k) () N := by
  unfold due; rw [← Finset.sum_erase_add _ _ h]; ac_rfl

/-! ## The rules -/

variable {α : Type} {k : PUnit.{1} → Prog (TpuEff nD τ sig (Elt F) Λ₀ .tc) α}

theorem own_any {sh : Shape} {e : EltTy} (m : Memref sig .tc .vmem sh e) (X : sh.Idx → Elt F e) : (own c m X : sProp 𝕄) ⊢ anyAt c m := by
  unfold own owns anyAt; iintro ⟨%f, -, H⟩; iexists f; iexact H

/-- One unit to a neighbour's barrier cell. -/
theorem rule_signal {Q : α → sProp 𝕄} {sg : Finset DD} {sa sb} {j : DD} (hj : j ∈ sg) :
    iprop(ctx A K ∗ owesE c sg sa sb ∗ dutyTok ER (barCell (nbr j c)) 0 (back j) ∗ barPay (nbr j c) (back j))
      ⊢ iprop((owesE c (sg.erase j) sa sb -∗ WP c (k ⟨⟩) Q) -∗ WP c (.op (.semSignal (nbr j c : Thread nD τ) barS 1) k) Q) := by
  iintro ⟨#Hc, HO, Ht, Hp⟩ Hk
  unfold owesE
  icases HO with ⟨%W, HO⟩
  ihave #HI := (inv_at A K (nbr j c) named_bar) $$ Hc
  icases HI with ⟨%κ, #HI⟩
  iapply (Rounds.wp_signal 𝒱₀ ER (rd A) (c : Thread nD τ) none (dst := (nbr j c : Thread nD τ)) (κ := κ) (r := 0)
      (d := back j) (by rw [rd_duties A _ _ kind_bar]; exact Finset.mem_univ _) (rd_amount_bar A _ _) () (due c (sg.erase j) sa sb)
      (due_erase_sg c hj)) $$ [HO Ht Hp]
  · isplitr; · iexact HI
    isplitl [HO]; · iexact HO
    isplitl [Ht]; · iexact Ht
    isplitl [Hp]; · iapply (Entails.of_eq ((rd_payload A (nbr j c) _ kind_bar (back j)).trans (payOf_bar A (nbr j c) (back j))).symm); iexact Hp
    iapply (reached_at A K (nbr j c) named_bar); iexact Hc
  iintro HO
  iapply Hk
  iexists W; iexact HO

/-- The wait for the six units of the device's own barrier cell; the cell closes. -/
theorem rule_barWait {Q : α → sProp 𝕄} {sa sb} {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.reg barS) 6 K') :
    iprop(ctx A K ∗ owesE c ∅ sa sb ∗ cred (tallyAt (barCell c) () 6) ∗ atPos ER (barCell c) 0 ∅ 0)
      ⊢ iprop(((owesE c ∅ sa sb ∗ semVal (barCell c) 0 ∗ bigSep Finset.univ fun j : DD => barPay c j) -∗ WP c (k ⟨⟩) Q) -∗ WP c (.op w k) Q) := by
  iintro ⟨#Hc, HO, Hcr, Hat⟩ Hk
  unfold owesE
  icases HO with ⟨%W, HO⟩
  ihave #HI := (inv_at A K c named_bar) $$ Hc
  icases HI with ⟨%κ, #HI⟩
  iapply (Rounds.wp_wait_rest_token 𝒱₀ ER (rd A) (c : Thread nD τ) none (κ := κ) hw (Set.mem_univ _) () (O := due c ∅ sa sb) (W := W)
      (R := 0) (m := 0) (T := ∅) (by rw [rd_expect_bar])) $$ [Hcr HO Hat]
  · isplitr; · iexact HI
    isplitl [Hcr]; · iexact Hcr
    isplitl [HO]; · iexact HO
    isplitr
    · iapply (ctx_mayWait A K c (.reg barS) ∅ sa sb (.inl rfl) (.inr (by rw [kind_bar]; decide)) (.inr (by rw [kind_bar]; decide)))
      iexact Hc
    iexact Hat
  iintro ⟨HO, Hat, -, Hpay⟩
  imod (Rounds.cell_close ER (rd A) (Set.mem_univ κ) (fun h => h) (R := 0 + 1) (rd_later A (barCell c))) $$ [Hat] with Hz
  · isplitr; · iexact HI
    iexact Hat
  iapply Hk
  isplitl [HO]; · iexists _; iexact HO
  isplitl [Hz]; · iexact Hz
  iapply (Entails.of_eq (rd_rest_bar A c)); iexact Hpay

/-- The wait for a transfer; its cell closes. -/
theorem rule_wait {Q : α → sProp 𝕄} {sg sa sb} {w : TpuEff nD τ sig (Elt F) Λ₀ .tc PUnit} {sm : SemLoc sig} {q : Kind} (hn : Named sm) (hq : kind sm = q)
    (hb : q ≠ .bar) (hd : dutyOf c q = {(.mk false 0)})
    (hw : ∀ K' : PUnit → sProp 𝕄, wpE (defs₀ (F := F)) 𝒱₀ (c : Thread nD τ) none Set.univ w K' = waitSpec (c : Thread nD τ) Set.univ sm N K')
    (h1 : sg = ∅ ∨ lvK q < 1) (h2 : sa = ∅ ∨ lvK q < 2) (h3 : sb = ∅ ∨ lvK q < 3) :
    iprop(ctx A K ∗ owesE c sg sa sb ∗ cred (tallyAt ((c : Thread nD τ), sm) () N) ∗ atPos ER ((c : Thread nD τ), sm) 0 ∅ 0)
      ⊢ iprop(((owesE c sg sa sb ∗ semVal ((c : Thread nD τ), sm) 0 ∗ payOf A c q (.mk false 0)) -∗ WP c (k ⟨⟩) Q) -∗ WP c (.op w k) Q) := by
  iintro ⟨#Hc, HO, Hcr, Hat⟩ Hk
  unfold owesE
  icases HO with ⟨%W, HO⟩
  ihave #HI := (inv_at A K c hn) $$ Hc
  icases HI with ⟨%κ, #HI⟩
  iapply (Rounds.wp_wait_rest_token 𝒱₀ ER (rd A) (c : Thread nD τ) none (κ := κ) hw (Set.mem_univ _) () (O := due c sg sa sb) (W := W)
      (R := 0) (m := 0) (T := ∅) (by rw [rd_expect A c sm hq hb hd, Nat.zero_add])) $$ [Hcr HO Hat]
  · isplitr; · iexact HI
    isplitl [Hcr]; · iexact Hcr
    isplitl [HO]; · iexact HO
    isplitr
    · iapply (ctx_mayWait A K c sm sg sa sb (by rw [hq]; exact h1) (by rw [hq]; exact h2) (by rw [hq]; exact h3))
      iexact Hc
    iexact Hat
  iintro ⟨HO, Hat, -, Hpay⟩
  imod (Rounds.cell_close ER (rd A) (Set.mem_univ κ) (fun h => h) (R := 0 + 1) (rd_later A ((c : Thread nD τ), sm))) $$ [Hat] with Hz
  · isplitr; · iexact HI
    iexact Hat
  iapply Hk
  isplitl [HO]; · iexists _; iexact HO
  isplitl [Hz]; · iexact Hz
  iapply (Entails.of_eq (rd_rest A c sm hq hd)); iexact Hpay

/-- A transfer of contents `X` to another device. -/
theorem rule_send {Q : α → sProp 𝕄} {sh : Shape} {e : EltTy} (n : Dev nD) {src : Memref sig .tc .vmem sh e} {dst : Memref sig .tc .vmem sh e}
    {sS sR : DmaSem sig} {qS qR : Kind} {sg sa sb} {sg' sa' sb'}
    {hsc : (dst : Memref sig (Dev.tc n : Thread nD τ).2.kind .vmem sh e).view.ref.isScScratch = false}
    {hsrc : src.view.WordExact} {hdst : dst.view.WordExact}
    {hsem : DmaTarget.Typed .vmem (.dma sR) (.remote (Dev.tc n : Thread nD τ) dst (.dma sS) hsc)}
    (hnS : Named (.dma sS)) (hnR : Named (.dma sR)) (hqS : kind (.dma sS) = qS) (hqR : kind (.dma sR) = qR) (hbS : qS ≠ .bar) (hbR : qR ≠ .bar)
    (hdS : dutyOf c qS = {(.mk false 0)}) (hdR : dutyOf n qR = {(.mk false 0)}) (X : sh.Idx → Elt F e)
    (hN : dst.view.dmaCredit = N) (hO : due c sg sa sb = due c sg' sa' sb' + tallyAt ((n : Thread nD τ), .dma sR) () N)
    (hpS : payOf A c qS (.mk false 0) = own c src X) (hpR : payOf A n qR (.mk false 0) = own n dst X) :
    iprop(ctx A K ∗ own c src X ∗ anyAt n dst ∗ owesE c sg sa sb ∗ dutyTok ER ((c : Thread nD τ), .dma sS) 0 (.mk false 0)
        ∗ dutyTok ER ((n : Thread nD τ), .dma sR) 0 (.mk false 0))
      ⊢ iprop(((cred (tallyAt ((c : Thread nD τ), .dma sS) () N) ∗ owesE c sg' sa' sb') -∗ WP c (k ⟨⟩) Q)
          -∗ WP c (.op (.enqueueDma src (.remote (Dev.tc n : Thread nD τ) dst (.dma sS) hsc) (.dma sR) hsrc hdst hsem) k) Q) := by
  iintro ⟨#Hc, Hs, Hd, HO, HtS, HtR⟩ Hk
  unfold owesE
  icases HO with ⟨%W, HO⟩
  ihave #HI := (inv_at A K c hnS) $$ Hc
  icases HI with ⟨%κ₁, #HI⟩
  ihave #HJ := (inv_at A K n hnR) $$ Hc
  icases HJ with ⟨%κ₂, #HJ⟩
  unfold own owns anyAt
  icases Hs with ⟨%fs, %hfs, Hs⟩
  icases Hd with ⟨%fd, Hd⟩
  iapply (Rounds.wp_send_pointsTo 𝒱₀ ER (rd A) (c : Thread nD τ) none (κ₁ := κ₁) (κ₂ := κ₂)
    (r₁ := 0) (r₂ := 0) (d₁ := (.mk false 0)) (d₂ := (.mk false 0)) (fs := fs) (fd := fd)
    (by rw [rd_duties A c _ hqS, hdS]; exact Finset.mem_singleton_self _) (by rw [rd_duties A n _ hqR, hdR]; exact Finset.mem_singleton_self _)
    () () N (show dst.view.amount (.dma sR) = N from hN) (rd_amount A c _ hqS hbS _) (rd_amount A n _ hqR hbR _) (due c sg' sa' sb') hO (W := W)
    (by rw [rd_payload A c _ hqS, hpS, ← hfs]; exact owns_intro _ _ _ _)
    (by rw [rd_payload A n _ hqR, hpR, ← hfs]
        have h := owns_intro (Ix := Unit) (Name := ℕ) (U := UU) (Lvl := ℕ) (n : Thread nD τ) dst fullShare
          (dst.view.write (Elt F) fd (src.view.read (Elt F) fs) Finset.univ)
        rw [View.read_write_univ] at h
        exact h)) $$ [Hs Hd HO HtS HtR]
  · isplitr; · iexact HI
    isplitr; · iexact HJ
    isplitl [Hs]; · iexact Hs
    isplitl [Hd]; · iexact Hd
    isplitl [HO]; · iexact HO
    isplitl [HtS]; · iexact HtS
    isplitr; · iapply (reached_at A K c hnS); iexact Hc
    isplitl [HtR]; · iexact HtR
    iapply (reached_at A K n hnR); iexact Hc
  iintro ⟨Hcr, HO⟩
  iapply Hk
  isplitl [Hcr]; · iexact Hcr
  iexists W; iexact HO

end Cert.Moe
-- ==== Proof.State.lean ====
/-
# What a device holds between two effects

`St` records which signals, transfers and waits are still to come; `Res` is what the device holds in such a state.
-/
module

public import proofs.«01_k».proof.Proof.Rules

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A step and a distance less one of the first exchange; a step and a position of a slab's blocks. -/
abbrev PP : Type := Fin 4 × Fin 3
abbrev BB : Type := Fin 4 × Fin 4

/-- The four blocks of step `zk`. -/
def rowOf (zk : Fin 4) : Finset BB := Finset.univ.map ⟨fun j => (zk, j), fun _ _ h => (Prod.mk.inj h).2⟩

structure St where
  /-- signals to give; whether the barrier wait is over -/
  sg : Finset DD
  bw : Bool
  /-- whether the two weight columns and the result are stored -/
  w0 : Bool
  w1 : Bool
  od : Bool
  /-- slabs to store; blocks held -/
  sl : Finset (Fin 4)
  bl : Finset BB
  /-- the first exchange: sends to do, sends in flight, send waits to do, receive waits to do -/
  sa : Finset PP
  ca : Finset PP
  wa : Finset PP
  ra : Finset PP
  /-- rows to store, rows held -/
  cu : Finset (Fin 3)
  ch : Finset (Fin 3)
  /-- the second exchange, the same -/
  sb : Finset (Fin 3)
  cb : Finset (Fin 3)
  wb : Finset (Fin 3)
  rb : Finset (Fin 3)

namespace St
def signal (j : DD) (S : St) : St := { S with sg := S.sg.erase j }
def barWait (S : St) : St := { S with bw := true }
def storeW0 (S : St) : St := { S with w0 := true }
def storeW1 (S : St) : St := { S with w1 := true }
def storeOut (S : St) : St := { S with od := true }
def storeSlab (zk : Fin 4) (S : St) : St :=
  { S with sl := S.sl.erase zk, bl := rowOf zk ∪ S.bl }
def sendA (p : PP) (S : St) : St := { S with sa := S.sa.erase p, ca := insert p S.ca, bl := S.bl.erase (p.1, p.2.succ) }
def recvA (p : PP) (S : St) : St := { S with ra := S.ra.erase p }
def doneA (p : PP) (S : St) : St := { S with ca := S.ca.erase p, wa := S.wa.erase p, bl := insert (p.1, p.2.succ) S.bl }
def storeCol (k : Fin 3) (S : St) : St := { S with cu := S.cu.erase k, ch := insert k S.ch }
def sendB (k : Fin 3) (S : St) : St := { S with sb := S.sb.erase k, cb := insert k S.cb, ch := S.ch.erase k }
def recvB (k : Fin 3) (S : St) : St := { S with rb := S.rb.erase k }
def doneB (k : Fin 3) (S : St) : St := { S with cb := S.cb.erase k, wb := S.wb.erase k, ch := insert k S.ch }
end St

/-- The state at launch. -/
def S₀ : St := ⟨Finset.univ, false, false, false, false, Finset.univ, ∅, Finset.univ, ∅, Finset.univ, Finset.univ,
  Finset.univ, ∅, Finset.univ, ∅, Finset.univ, Finset.univ⟩

variable (A : Args F) (K : Dev nD × Fin 41 → ℕ) (c : Dev nD)

/-! ## The holdings -/

/-- A memref's elements at a buffer's contents. -/
abbrev ptsM {sh : Shape} {e : EltTy} (m : Memref sig .tc .vmem sh e) (f : Buf (Elt F) (m.view.loc (c : Thread nD τ))) : sProp 𝕄 :=
  m.view.loc (c : Thread nD τ) ↦[m.view.set]{fullShare} f

def inR : sProp 𝕄 := iprop(ptsM c xM (A.x c) ∗ ptsM c rwM (A.rw c) ∗ ptsM c riM (A.ri c) ∗ ptsM c ewM (A.ew c))
def sgR (s : Finset DD) : sProp 𝕄 := bigSep s fun j => iprop(dutyTok ER (barCell (nbr j c)) 0 (back j) ∗ barPay (nbr j c) (back j))
def bpR (b : Bool) : sProp 𝕄 :=
  if b then semVal (barCell c) 0 else iprop(cred (tallyAt (barCell c) () 6) ∗ atPos ER (barCell c) 0 ∅ 0)
def dAR (b : Bool) (s : Finset PP) : sProp 𝕄 :=
  if b then bigSep s fun p => anyAt (nbr (.mk false p.2) c) (slotM (wd c) (zOf c p.1)) else iprop(emp)
def dBR (b : Bool) (s : Finset (Fin 3)) : sProp 𝕄 :=
  if b then bigSep s fun k => anyAt (nbr (.mk true k) c) (slot2M (gd c)) else iprop(emp)
def w0R (b : Bool) : sProp 𝕄 := if b then ptsM c w0M (w0Val A c) else anyAt c w0M
def w1R (b : Bool) : sProp 𝕄 := if b then ptsM c w1M (w1Val A c) else anyAt c w1M
def oR (b : Bool) : sProp 𝕄 := if b then ptsM c outM (outVal A c) else anyAt c outM
def slR (s : Finset (Fin 4)) : sProp 𝕄 := bigSep s fun zk => anyAt c (slabM (zOf c zk))
def blR (s : Finset BB) : sProp 𝕄 := bigSep s fun q => own c (blkM (zOf c q.1) (wOf c q.2)) (blkVal A c (zOf c q.1) (wOf c q.2))
def tAR (s : Finset PP) : sProp 𝕄 := bigSep s fun p => iprop(dutyTok ER (saCell c p) 0 (.mk false 0) ∗ dutyTok ER (toA c p) 0 (.mk false 0))
def cAR (s : Finset PP) : sProp 𝕄 := bigSep s fun p => cred (tallyAt (saCell c p) () N)
def wAR (s : Finset PP) : sProp 𝕄 := iprop((bigSep s fun p => atPos ER (saCell c p) 0 ∅ 0) ∗ bigSep sᶜ fun p => semVal (saCell c p) 0)
def rAR (s : Finset PP) : sProp 𝕄 :=
  iprop((bigSep s fun p => iprop(cred (tallyAt (raCell c p) () N) ∗ atPos ER (raCell c p) 0 ∅ 0))
    ∗ bigSep sᶜ fun p => iprop(semVal (raCell c p) 0 ∗ own c (slotM (wOf c p.2.succ) (zOf c p.1)) (nbV A c (zOf c p.1) p.2)))
def cuR (s : Finset (Fin 3)) : sProp 𝕄 := bigSep s fun k => anyAt c (colM k)
def chR (s : Finset (Fin 3)) : sProp 𝕄 := bigSep s fun k => own c (colM k) (colVal A c (zOf c k.castSucc))
def tBR (s : Finset (Fin 3)) : sProp 𝕄 := bigSep s fun k => iprop(dutyTok ER (sbCell c k) 0 (.mk false 0) ∗ dutyTok ER (toB c k) 0 (.mk false 0))
def cBR (s : Finset (Fin 3)) : sProp 𝕄 := bigSep s fun k => cred (tallyAt (sbCell c k) () N)
def wBR (s : Finset (Fin 3)) : sProp 𝕄 := iprop((bigSep s fun k => atPos ER (sbCell c k) 0 ∅ 0) ∗ bigSep sᶜ fun k => semVal (sbCell c k) 0)
def rBR (s : Finset (Fin 3)) : sProp 𝕄 :=
  iprop((bigSep s fun k => iprop(cred (tallyAt (rbCell c k) () N) ∗ atPos ER (rbCell c k) 0 ∅ 0))
    ∗ bigSep sᶜ fun k => iprop(semVal (rbCell c k) 0 ∗ own c (slot2M (gOf c k.succ)) (crV A c k)))

theorem bpR_false : (bpR c false : sProp 𝕄) ⊢ iprop(cred (tallyAt (barCell c) () 6) ∗ atPos ER (barCell c) 0 ∅ 0) :=
  Entails.of_eq (if_neg Bool.false_ne_true)
theorem bpR_true : semVal (barCell c) 0 ⊢ (bpR c true : sProp 𝕄) := Entails.of_eq (if_pos rfl).symm
theorem dAR_true (s : Finset PP) : (dAR c true s : sProp 𝕄) = bigSep s fun p => anyAt (nbr (.mk false p.2) c) (slotM (wd c) (zOf c p.1)) := if_pos rfl
theorem dBR_true (s : Finset (Fin 3)) : (dBR c true s : sProp 𝕄) = bigSep s fun k => anyAt (nbr (.mk true k) c) (slot2M (gd c)) := if_pos rfl
theorem w0R_true : (w0R A c true : sProp 𝕄) = ptsM c w0M (w0Val A c) := if_pos rfl
theorem w1R_true : (w1R A c true : sProp 𝕄) = ptsM c w1M (w1Val A c) := if_pos rfl
theorem oR_true : (oR A c true : sProp 𝕄) = ptsM c outM (outVal A c) := if_pos rfl
theorem w0R_false : (w0R A c false : sProp 𝕄) = anyAt c w0M := if_neg Bool.false_ne_true
theorem w1R_false : (w1R A c false : sProp 𝕄) = anyAt c w1M := if_neg Bool.false_ne_true
theorem oR_false : (oR A c false : sProp 𝕄) = anyAt c outM := if_neg Bool.false_ne_true

/-- What device `c` holds in state `S`. -/
def Res (S : St) : sProp 𝕄 :=
  iprop(inR A c ∗ owesE c S.sg S.sa S.sb ∗ sgR c S.sg ∗ bpR c S.bw ∗ dAR c S.bw S.sa ∗ dBR c S.bw S.sb ∗ w0R A c S.w0 ∗ w1R A c S.w1 ∗ oR A c S.od
    ∗ slR c S.sl ∗ blR A c S.bl ∗ tAR c S.sa ∗ cAR c S.ca ∗ wAR c S.wa ∗ rAR A c S.ra ∗ cuR c S.cu ∗ chR A c S.ch
    ∗ tBR c S.sb ∗ cBR c S.cb ∗ wBR c S.wb ∗ rBR A c S.rb)

/-- The shared facts and the holdings. -/
abbrev CR (S : St) : sProp 𝕄 := iprop(ctx A K ∗ Res A c S)

/-! ## Families -/

omit [FloatOps F] in
theorem fam_take {I : Type} [DecidableEq I] {Φ : I → sProp 𝕄} {s : Finset I} {i : I} (h : i ∈ s) :
    bigSep s Φ ⊢ iprop(Φ i ∗ bigSep (s.erase i) Φ) := Entails.of_eq (bigSep_erase h)
omit [FloatOps F] in
theorem fam_put {I : Type} [DecidableEq I] {Φ : I → sProp 𝕄} {s : Finset I} {i : I} (h : i ∉ s) :
    iprop(Φ i ∗ bigSep s Φ) ⊢ bigSep (insert i s) Φ := Entails.of_eq (bigSep_insert h).symm
omit [FloatOps F] in
theorem fam_back {I : Type} [DecidableEq I] {Φ : I → sProp 𝕄} {s : Finset I} {i : I} (h : i ∈ s) :
    iprop(Φ i ∗ bigSep (s.erase i) Φ) ⊢ bigSep s Φ := Entails.of_eq (bigSep_erase h).symm
omit [FloatOps F] in
/-- One member of a family of pending things becomes done. -/
theorem fam_done {I : Type} [DecidableEq I] [Fintype I] {Φ Ψ : I → sProp 𝕄} {s : Finset I} {i : I} (h : i ∈ s) :
    iprop(bigSep s Φ ∗ bigSep sᶜ Ψ) ⊢ iprop(Φ i ∗ (Ψ i -∗ (bigSep (s.erase i) Φ ∗ bigSep (s.erase i)ᶜ Ψ))) := by
  have e : (s.erase i)ᶜ = insert i sᶜ := by
    ext x; by_cases hx : x = i <;> simp [hx, h]
  have hi : i ∉ sᶜ := by simp [h]
  rw [e]
  iintro ⟨Hs, Hc⟩
  ihave Hs := (fam_take h) $$ Hs
  icases Hs with ⟨Hi, Hs⟩
  isplitl [Hi]; · iexact Hi
  iintro H
  isplitl [Hs]; · iexact Hs
  iapply (fam_put hi)
  isplitl [H] <;> iassumption
omit [FloatOps F] in
/-- A done member, borrowed. -/
theorem fam_use {I : Type} [DecidableEq I] [Fintype I] {Ψ : I → sProp 𝕄} {s : Finset I} {i : I} (h : i ∉ s) :
    bigSep sᶜ Ψ ⊢ iprop(Ψ i ∗ (Ψ i -∗ bigSep sᶜ Ψ)) := by
  have hi : i ∈ sᶜ := by simp [h]
  iintro Hs
  ihave Hs := (fam_take hi) $$ Hs
  icases Hs with ⟨Hi, Hs⟩
  isplitl [Hi]; · iexact Hi
  iintro H
  iapply (fam_back hi)
  isplitl [H] <;> iassumption

omit [FloatOps F] in
theorem fam_borrow {I : Type} [DecidableEq I] {Φ : I → sProp 𝕄} {s : Finset I} {i : I} (h : i ∈ s) :
    bigSep s Φ ⊢ iprop(Φ i ∗ (Φ i -∗ bigSep s Φ)) := by
  iintro Hs
  ihave Hs := (fam_take h) $$ Hs
  icases Hs with ⟨Hi, Hs⟩
  isplitl [Hi]; · iexact Hi
  iintro H
  iapply (fam_back h)
  isplitl [H] <;> iassumption

/-- The six directions: three inside the plane, three across. -/
def ddSum : Fin 3 ⊕ Fin 3 ≃ DD where
  toFun := fun | .inl k => .mk false k | .inr k => .mk true k
  invFun := fun j => if j.b then .inr j.k else .inl j.k
  left_inv := by decide
  right_inv := by decide
omit [FloatOps F] in
theorem dd_split (Φ : DD → sProp 𝕄) :
    bigSep Finset.univ Φ = iprop((bigSep Finset.univ fun k => Φ (.mk false k)) ∗ bigSep Finset.univ fun k => Φ (.mk true k)) := by
  rw [bigSep_univ_equiv ddSum Φ, bigSep_univ_sum]; rfl

/-! ## Neighbours' coordinates -/

theorem wOf_back (k : Fin 3) : wOf (nbr (.mk false k) c) k.rev.succ = wd c := by revert c k; decide
theorem zOf_nbr (k : Fin 3) (zk : Fin 4) : zOf (nbr (.mk false k) c) zk = zOf c zk := by revert c k zk; decide
theorem gOf_back (k : Fin 3) : gOf (nbr (.mk true k) c) k.rev.succ = gd c := by revert c k; decide
theorem mk_nbr (k : Fin 3) : mk (gd (nbr (.mk false k) c)) (wd c) = c := by revert c k; decide
theorem mk_nbr' (k : Fin 3) : mk (gd c) (wd (nbr (.mk true k) c)) = c := by revert c k; decide
theorem gd_cross (k : Fin 3) : gd (nbr (.mk true k) c) = zOf c k.castSucc := by revert c k; decide
theorem zOf_last : zOf c 3 = gd c := by revert c; decide
theorem toA_eq (p : PP) : toA c p = ((nbr (.mk false p.2) c : Thread nD τ), .dma (rA (wd c) (zOf c p.1))) := by
  unfold toA raCell; rw [wOf_back, zOf_nbr]
theorem toB_eq (k : Fin 3) : toB c k = ((nbr (.mk true k) c : Thread nD τ), .dma (rB (gd c))) := by
  unfold toB rbCell; rw [gOf_back]
theorem duty_toA (k : Fin 3) (z : Fin 4) : dutyOf (nbr (.mk false k) c) (.ra (wd c) z) = {(.mk false 0)} := by revert c k z; decide
theorem duty_toB (k : Fin 3) : dutyOf (nbr (.mk true k) c) (.rb (gd c)) = {(.mk false 0)} := by revert c k; decide

/-! ## The steps -/

variable {α : Type}

theorem st_signal {Q : α → sProp 𝕄} {k : PUnit.{1} → Prog (TpuEff nD τ sig (Elt F) Λ₀ .tc) α} {S : St} (j : DD) {n : Dev nD} {u : ℕ}
    (hn : n = nbr j c) (hu : u = 1) (hj : j ∈ S.sg) (h : CR A K c (S.signal j) ⊢ WP c (k ⟨⟩) Q) :
    CR A K c S ⊢ WP c (.op (.semSignal (n : Thread nD τ) barS u) k) Q := by
  subst hn hu
  unfold CR Res
  iintro ⟨#Hc, Hin, Ho, Hsg, Hr⟩
  unfold sgR
  ihave Hsg := (fam_take hj) $$ Hsg
  icases Hsg with ⟨⟨Ht, Hp⟩, Hsg⟩
  iapply (rule_signal A K c hj) $$ [Ho Ht Hp]
  · isplitr; · iexact Hc
    isplitl [Ho]; · iexact Ho
    isplitl [Ht] <;> iassumption
  iintro Ho
  iapply h
  unfold CR Res sgR
  isplitr; · iexact Hc
  dsimp only [St.signal]
  iframe

theorem st_barWait {Q : α → sProp 𝕄} {k : PUnit.{1} → Prog (TpuEff nD τ sig (Elt F) Λ₀ .tc) α} {S : St} {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.reg barS) 6 K')
    (hs : S.sg = ∅) (hb : S.bw = false) (hA : S.sa = Finset.univ) (hB : S.sb = Finset.univ) (h : CR A K c S.barWait ⊢ WP c (k ⟨⟩) Q) :
    CR A K c S ⊢ WP c (.op w k) Q := by
  have e : bigSep Finset.univ (fun j : DD => barPay (F := F) c j) ⊢ iprop(dAR c true Finset.univ ∗ dBR c true Finset.univ) := by
    rw [dd_split]
    refine sep_mono ?_ .rfl
    unfold dAR
    rw [if_pos rfl, bigSep_univ_prod, bigSep_univ_comm]
    exact .rfl
  unfold CR Res
  rw [hs, hb, hA, hB]
  iintro ⟨#Hc, Hin, Ho, Hsg, Hb, HdA, HdB, Hr⟩
  ihave Hb := (bpR_false c) $$ Hb
  icases Hb with ⟨Hcr, Hat⟩
  iapply (rule_barWait A K c hw) $$ [Ho Hcr Hat]
  · isplitr; · iexact Hc
    isplitl [Ho]; · iexact Ho
    isplitl [Hcr] <;> iassumption
  iintro ⟨Ho, Hz, Hp⟩
  ihave Hp := e $$ Hp
  icases Hp with ⟨HpA, HpB⟩
  iapply h
  unfold CR Res
  isplitr; · iexact Hc
  dsimp only [St.barWait]
  rw [hs, hA, hB]
  isplitl [Hin]; · iexact Hin
  isplitl [Ho]; · iexact Ho
  isplitl [Hsg]; · iexact Hsg
  isplitl [Hz]; · iapply (bpR_true c); iexact Hz
  isplitl [HpA]; · iexact HpA
  isplitl [HpB]; · iexact HpB
  iexact Hr

end Cert.Moe
-- ==== Proof.Mem.lean ====
/-
# Loads and stores through the slices the device holds
-/
module

public import proofs.«01_k».proof.Proof.State

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD) {α : Type}

/-- Contents re-indexed up to a shape with the unit axes back. -/
def up {s s' : Shape} (h : s.ShapeCasts s') {β : Type} (X : s'.Idx → β) : s.Idx → β := fun i => X ((Shape.reshapeEquiv h).symm i)
theorem shapeCast_up {s s' : Shape} (h : s.ShapeCasts s') {β : Type} (X : s'.Idx → β) : shapeCast s' (up h X) h = X := by
  funext j; unfold shapeCast up; rw [Equiv.symm_apply_apply]

/-- A load of a whole buffer, or of a part of it. -/
theorem ld_pts {Q : α → sProp 𝕄} {sh : Shape} {e : EltTy} {m : Memref sig .tc .vmem sh e} {r : LoadRect sh} {hl : m.view.LoadsAt r}
    {k : (r.shape.Idx → Elt F e) → Prog (TpuEff nD τ sig (Elt F) Λ₀ .tc) α} {f : Buf (Elt F) (m.view.loc (c : Thread nD τ))} :
    ptsM c m f ⊢ iprop((ptsM c m f -∗ WP c (k (m.view.readAt (Elt F) r f)) Q) -∗ WP c (.op (.load m r hl) k) Q) :=
  wp_load 𝒱₀ (c : Thread nD τ) none Set.univ (m := m) (m.view.setOn_subset_set r.set)

theorem ld_any {Q : α → sProp 𝕄} {sh : Shape} {e : EltTy} {m : Memref sig .tc .vmem sh e} {r : LoadRect sh} {hl : m.view.LoadsAt r}
    {k : (r.shape.Idx → Elt F e) → Prog (TpuEff nD τ sig (Elt F) Λ₀ .tc) α} :
    (anyAt c m : sProp 𝕄) ⊢ iprop((∀ v, anyAt c m -∗ WP c (k v) Q) -∗ WP c (.op (.load m r hl) k) Q) := by
  unfold anyAt
  iintro ⟨%f, H⟩ Hk
  iapply (ld_pts c) $$ H
  iintro H
  iapply Hk
  iexists f; iexact H

/-- A load through a slice held at contents `X`. -/
theorem ld_slice {Q : α → sProp 𝕄} {sh : Shape} {e : EltTy} {m : Memref sig .tc .vmem sh e} {r : Rect sh} {hr : ∀ a, r.stride a = 1}
    {hl : m.view.LoadsAt r.toLoadRect} {k : (r.shape.Idx → Elt F e) → Prog (TpuEff nD τ sig (Elt F) Λ₀ .tc) α} {X : r.shape.Idx → Elt F e} :
    (own c (m.slice r hr) X : sProp 𝕄) ⊢ iprop((own c (m.slice r hr) X -∗ WP c (k X) Q) -∗ WP c (.op (.load m r.toLoadRect hl) k) Q) := by
  unfold own owns
  iintro ⟨%f, %hf, H⟩ Hk
  iapply (wp_load_rect 𝒱₀ (c : Thread nD τ) none Set.univ (m := m) (r := r) (S := (m.slice r hr).view.set) (Finset.Subset.refl _)) $$ H
  iintro H
  rw [show (m.access r).read (Elt F) f = X from hf]
  iapply Hk
  iexists f
  isplitr; · ipureintro; exact hf
  iexact H

/-- The same through a slice whose unit axes are dropped. -/
theorem ld_sq {Q : α → sProp 𝕄} {sh s' : Shape} {e : EltTy} {m : Memref sig .tc .vmem sh e} {r : Rect sh} {hr : ∀ a, r.stride a = 1}
    (hq : r.shape.Squeezes s') {hl : m.view.LoadsAt r.toLoadRect} {k : (r.shape.Idx → Elt F e) → Prog (TpuEff nD τ sig (Elt F) Λ₀ .tc) α}
    {X : s'.Idx → Elt F e} :
    (own c ((m.slice r hr).squeeze s' hq) X : sProp 𝕄)
      ⊢ iprop((own c ((m.slice r hr).squeeze s' hq) X -∗ WP c (k (up hq.numel_eq X)) Q) -∗ WP c (.op (.load m r.toLoadRect hl) k) Q) := by
  unfold own owns
  iintro ⟨%f, %hf, H⟩ Hk
  iapply (wp_load_rect 𝒱₀ (c : Thread nD τ) none Set.univ (m := m) (r := r) (S := ((m.slice r hr).squeeze s' hq).view.set)
    (by rw [View.set_reshape])) $$ H
  iintro H
  have e : (m.access r).read (Elt F) f = up hq.numel_eq X := by
    funext i
    rw [← hf]
    show _ = (m.access r).read (Elt F) f (Shape.reshapeEquiv hq.numel_eq ((Shape.reshapeEquiv hq.numel_eq).symm i))
    rw [Equiv.apply_symm_apply]
  rw [e]
  iapply Hk
  iexists f
  isplitr; · ipureintro; exact hf
  iexact H

theorem ld_slice_any {Q : α → sProp 𝕄} {sh : Shape} {e : EltTy} {m : Memref sig .tc .vmem sh e} {r : Rect sh} {hr : ∀ a, r.stride a = 1}
    {hl : m.view.LoadsAt r.toLoadRect} {k : (r.shape.Idx → Elt F e) → Prog (TpuEff nD τ sig (Elt F) Λ₀ .tc) α} :
    (anyAt c (m.slice r hr) : sProp 𝕄)
      ⊢ iprop((∀ v, anyAt c (m.slice r hr) -∗ WP c (k v) Q) -∗ WP c (.op (.load m r.toLoadRect hl) k) Q) := by
  unfold anyAt
  iintro ⟨%f, H⟩ Hk
  iapply (wp_load_rect 𝒱₀ (c : Thread nD τ) none Set.univ (m := m) (r := r) (S := (m.slice r hr).view.set) (Finset.Subset.refl _)) $$ H
  iintro H
  iapply Hk
  iexists f; iexact H

theorem ld_sq_any {Q : α → sProp 𝕄} {sh s' : Shape} {e : EltTy} {m : Memref sig .tc .vmem sh e} {r : Rect sh} {hr : ∀ a, r.stride a = 1}
    {hq : r.shape.Squeezes s'} {hl : m.view.LoadsAt r.toLoadRect} {k : (r.shape.Idx → Elt F e) → Prog (TpuEff nD τ sig (Elt F) Λ₀ .tc) α} :
    (anyAt c ((m.slice r hr).squeeze s' hq) : sProp 𝕄)
      ⊢ iprop((∀ v, anyAt c ((m.slice r hr).squeeze s' hq) -∗ WP c (k v) Q) -∗ WP c (.op (.load m r.toLoadRect hl) k) Q) := by
  unfold anyAt
  iintro ⟨%f, H⟩ Hk
  iapply (wp_load_rect 𝒱₀ (c : Thread nD τ) none Set.univ (m := m) (r := r) (S := ((m.slice r hr).squeeze s' hq).view.set)
    (by rw [View.set_reshape])) $$ H
  iintro H
  iapply Hk
  iexists f; iexact H

/-- A store through a slice, and through one whose unit axes are dropped. -/
theorem st_slice {Q : α → sProp 𝕄} {sh : Shape} {e : EltTy} {m : Memref sig .tc .vmem sh e} {r : Rect sh} {hr : ∀ a, r.stride a = 1}
    {w : r.shape.Idx → Elt F e} {hx : (m.access r).Stores Finset.univ} {hm : (Finset.univ : Finset r.shape.Idx) = Finset.univ ∨ ∀ a, r.stride a = 1}
    {k : PUnit.{1} → Prog (TpuEff nD τ sig (Elt F) Λ₀ .tc) α} :
    (anyAt c (m.slice r hr) : sProp 𝕄)
      ⊢ iprop((own c (m.slice r hr) w -∗ WP c (k ⟨⟩) Q) -∗ WP c (.op (.store m r w Finset.univ hx hm) k) Q) := by
  unfold anyAt own owns
  iintro ⟨%f, H⟩ Hk
  iapply (wp_store 𝒱₀ (c : Thread nD τ) none Set.univ (m := m) (r := r) (Mk := Finset.univ) (S := (m.slice r hr).view.set) (Finset.Subset.refl _)) $$ H
  iintro H
  iapply Hk
  iexists _
  isplitr; swap; · iexact H
  ipureintro; exact View.read_write_univ _ _

theorem st_sq {Q : α → sProp 𝕄} {sh s' : Shape} {e : EltTy} {m : Memref sig .tc .vmem sh e} {r : Rect sh} {hr : ∀ a, r.stride a = 1}
    (hq : r.shape.Squeezes s') {X : s'.Idx → Elt F e} {hn : s'.ShapeCasts r.shape}
    {hx : (m.access r).Stores Finset.univ} {hm : (Finset.univ : Finset r.shape.Idx) = Finset.univ ∨ ∀ a, r.stride a = 1}
    {k : PUnit.{1} → Prog (TpuEff nD τ sig (Elt F) Λ₀ .tc) α} :
    (anyAt c ((m.slice r hr).squeeze s' hq) : sProp 𝕄)
      ⊢ iprop((own c ((m.slice r hr).squeeze s' hq) X -∗ WP c (k ⟨⟩) Q)
          -∗ WP c (.op (.store m r (shapeCast r.shape X hn) Finset.univ hx hm) k) Q) := by
  unfold anyAt own owns
  iintro ⟨%f, H⟩ Hk
  iapply (wp_store 𝒱₀ (c : Thread nD τ) none Set.univ (m := m) (r := r) (Mk := Finset.univ) (S := ((m.slice r hr).squeeze s' hq).view.set)
    (by rw [View.set_reshape]; exact Finset.Subset.refl _)) $$ H
  iintro H
  iapply Hk
  iexists _
  isplitr; swap; · iexact H
  ipureintro
  funext j
  show (m.access r).read (Elt F) ((m.access r).write (Elt F) f (shapeCast r.shape X hn) Finset.univ) (Shape.reshapeEquiv hq.numel_eq j) = X j
  rw [View.read_write_univ]
  show X (Shape.reshapeEquiv hn (Shape.reshapeEquiv hq.numel_eq j)) = X j
  rw [Shape.reshapeEquiv_reshapeEquiv, Shape.reshapeEquiv_self]

/-- A slab held at the device's product is its four blocks held at theirs. -/
theorem slab_blocks (A : Args F) (z : Fin 4) :
    (own c (slabM z) (slabVal A c z) : sProp 𝕄) ⊢ bigSep Finset.univ fun j : Fin 4 => own c (blkM z j) (blkVal A c z j) := by
  have hd : ∀ t t' : Fin 4, t ≠ t' → Disjoint (subR t).set (subR t').set := by
    intro t t' h
    refine Rect.unit_disjoint 0 ?_
    show 32 * t.val + 32 ≤ 32 * t'.val ∨ 32 * t'.val + 32 ≤ 32 * t.val
    have := Fin.val_ne_of_ne h
    omega
  have hcov : (Finset.univ : Finset (Fin 4)).biUnion (fun t => (subR t).set) = Finset.univ := by
    ext i
    simp only [Finset.mem_biUnion, Finset.mem_univ, true_and, iff_true]
    have h0 : (i 0).val < 128 := (i 0).isLt
    refine ⟨⟨(i 0).val / 32, by omega⟩, Rect.mem_set_unit.mpr fun a => ?_⟩
    fin_cases a
    · show 32 * ((i 0).val / 32) ≤ (i 0).val ∧ (i 0).val < 32 * ((i 0).val / 32) + 32
      omega
    · show 0 ≤ (i 1).val ∧ (i 1).val < 0 + 512
      have h1 : (i 1).val < 512 := (i 1).isLt
      omega
  refine (owns_rects (c : Thread nD τ) (slabM z) fullShare (fun t => subR t) (fun _ _ => rfl) hd hcov (slabVal A c z)).trans ?_
  refine Entails.of_eq (bigSep_congr fun j _ => ?_)
  have he : ((slabM z).slice (subR j) (fun _ => rfl)).view.emb = (blkM z j).view.emb := by
    ext i : 1
    show (slabR z).emb ((subR j).emb i) = (blkR z j).emb i
    funext a
    apply Fin.ext
    rw [Rect.emb_apply, Rect.emb_apply, Rect.emb_apply]
    fin_cases a
    · show 128 * z.val + 1 * (32 * j.val + 1 * (i 0).val) = 128 * z.val + 32 * j.val + 1 * (i 0).val
      omega
    · show 0 + 1 * (0 + 1 * (i 1).val) = 0 + 1 * (i 1).val
      omega
  unfold own owns
  have hs : ((slabM z).slice (subR j) (fun _ => rfl)).view.set = (blkM z j).view.set := by
    unfold View.set; rw [he]
  have hr : ∀ f, ((slabM z).slice (subR j) (fun _ => rfl)).view.read (Elt F) f = (blkM z j).view.read (Elt F) f := by
    intro f; funext i
    have := DFunLike.congr_fun he i
    show f (((slabM z).slice (subR j) (fun _ => rfl)).view.emb i) = f ((blkM z j).view.emb i)
    rw [this]
  rw [hs]
  simp only [hr]
  rfl

end Cert.Moe
-- ==== Proof.Steps.lean ====
/-
# One step per effect of the body

Each lemma takes the device from one state to the next over one effect, whatever comes after.
-/
module

public import proofs.«01_k».proof.Proof.Mem

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) (K : Dev nD × Fin 41 → ℕ) (c : Dev nD) {α : Type}

/-! ## Loads -/

/-- A load of something the device holds. -/
theorem st_read {Q : α → sProp 𝕄} {X P R : sProp 𝕄} {op : Prog (TpuEff nD τ sig (Elt F) Λ₀ .tc) α}
    (hf : P ⊢ iprop(X ∗ (X -∗ P))) (hl : X ⊢ iprop((X -∗ R) -∗ WP c op Q)) (h : P ⊢ R) : P ⊢ WP c op Q := by
  iintro H
  ihave H := hf $$ H
  icases H with ⟨HX, HP⟩
  iapply hl $$ HX
  iintro HX
  iapply h
  iapply HP; iexact HX

theorem st_read_any {Q : α → sProp 𝕄} {X P : sProp 𝕄} {V : Type} {R : V → sProp 𝕄} {op : Prog (TpuEff nD τ sig (Elt F) Λ₀ .tc) α}
    (hf : P ⊢ iprop(X ∗ (X -∗ P))) (hl : X ⊢ iprop((∀ v, X -∗ R v) -∗ WP c op Q)) (h : ∀ v, P ⊢ R v) : P ⊢ WP c op Q := by
  iintro H
  ihave H := hf $$ H
  icases H with ⟨HX, HP⟩
  iapply hl $$ HX
  iintro %v HX
  iapply (h v)
  iapply HP; iexact HX

theorem fc_x {S : St} : CR A K c S ⊢ iprop(ptsM c xM (A.x c) ∗ (ptsM c xM (A.x c) -∗ CR A K c S)) := by
  unfold CR Res inR
  iintro ⟨#Hc, ⟨H1, H2⟩, Hr⟩
  isplitl [H1]; · iexact H1
  iintro H1
  isplitr; · iexact Hc
  iframe
theorem fc_rw {S : St} : CR A K c S ⊢ iprop(ptsM c rwM (A.rw c) ∗ (ptsM c rwM (A.rw c) -∗ CR A K c S)) := by
  unfold CR Res inR
  iintro ⟨#Hc, ⟨H1, H2, H3⟩, Hr⟩
  isplitl [H2]; · iexact H2
  iintro H2
  isplitr; · iexact Hc
  iframe
theorem fc_ri {S : St} : CR A K c S ⊢ iprop(ptsM c riM (A.ri c) ∗ (ptsM c riM (A.ri c) -∗ CR A K c S)) := by
  unfold CR Res inR
  iintro ⟨#Hc, ⟨H1, H2, H3, H4⟩, Hr⟩
  isplitl [H3]; · iexact H3
  iintro H3
  isplitr; · iexact Hc
  iframe
theorem fc_ew {S : St} : CR A K c S ⊢ iprop(ptsM c ewM (A.ew c) ∗ (ptsM c ewM (A.ew c) -∗ CR A K c S)) := by
  unfold CR Res inR
  iintro ⟨#Hc, ⟨H1, H2, H3, H4⟩, Hr⟩
  isplitl [H4]; · iexact H4
  iintro H4
  isplitr; · iexact Hc
  iframe
theorem fc_w0 {S : St} : CR A K c S ⊢ iprop(w0R A c S.w0 ∗ (w0R A c S.w0 -∗ CR A K c S)) := by
  unfold CR Res
  iintro ⟨#Hc, H1, H2, H3, H4, H5, H6, H7, Hr⟩
  isplitl [H7]; · iexact H7
  iintro H7
  isplitr; · iexact Hc
  iframe
theorem fc_w1 {S : St} : CR A K c S ⊢ iprop(w1R A c S.w1 ∗ (w1R A c S.w1 -∗ CR A K c S)) := by
  unfold CR Res
  iintro ⟨#Hc, H1, H2, H3, H4, H5, H6, H7, H8, Hr⟩
  isplitl [H8]; · iexact H8
  iintro H8
  isplitr; · iexact Hc
  iframe
theorem fc_out {S : St} : CR A K c S ⊢ iprop(oR A c S.od ∗ (oR A c S.od -∗ CR A K c S)) := by
  unfold CR Res
  iintro ⟨#Hc, H1, H2, H3, H4, H5, H6, H7, H8, H9, Hr⟩
  isplitl [H9]; · iexact H9
  iintro H9
  isplitr; · iexact Hc
  iframe
theorem fc_sl {S : St} (zk : Fin 4) (hm : zk ∈ S.sl) :
    CR A K c S ⊢ iprop(anyAt c (slabM (zOf c zk)) ∗ (anyAt c (slabM (zOf c zk)) -∗ CR A K c S)) := by
  unfold CR Res slR
  iintro ⟨#Hc, H1, H2, H3, H4, H5, H6, H7, H8, H9, Hs, Hr⟩
  ihave Hs := (fam_borrow hm) $$ Hs
  icases Hs with ⟨Hi, Hs⟩
  isplitl [Hi]; · iexact Hi
  iintro Hi
  ihave Hs := Hs $$ Hi
  isplitr; · iexact Hc
  iframe
theorem fc_bl {S : St} (q : BB) (hm : q ∈ S.bl) :
    CR A K c S ⊢ iprop(own c (blkM (zOf c q.1) (wOf c q.2)) (blkVal A c (zOf c q.1) (wOf c q.2))
      ∗ (own c (blkM (zOf c q.1) (wOf c q.2)) (blkVal A c (zOf c q.1) (wOf c q.2)) -∗ CR A K c S)) := by
  unfold CR Res blR
  iintro ⟨#Hc, H1, H2, H3, H4, H5, H6, H7, H8, H9, H10, Hs, Hr⟩
  ihave Hs := (fam_borrow hm) $$ Hs
  icases Hs with ⟨Hi, Hs⟩
  isplitl [Hi]; · iexact Hi
  iintro Hi
  ihave Hs := Hs $$ Hi
  isplitr; · iexact Hc
  iframe
theorem fc_cu {S : St} (k : Fin 3) (hm : k ∈ S.cu) :
    CR A K c S ⊢ iprop(anyAt c (colM k) ∗ (anyAt c (colM k) -∗ CR A K c S)) := by
  unfold CR Res cuR
  iintro ⟨#Hc, H1, H2, H3, H4, H5, H6, H7, H8, H9, H10, H11, H12, H13, H14, H15, Hs, Hr⟩
  ihave Hs := (fam_borrow hm) $$ Hs
  icases Hs with ⟨Hi, Hs⟩
  isplitl [Hi]; · iexact Hi
  iintro Hi
  ihave Hs := Hs $$ Hi
  isplitr; · iexact Hc
  iframe
theorem fc_slot {S : St} (p : PP) (hm : p ∉ S.ra) :
    CR A K c S ⊢ iprop(own c (slotM (wOf c p.2.succ) (zOf c p.1)) (nbV A c (zOf c p.1) p.2)
      ∗ (own c (slotM (wOf c p.2.succ) (zOf c p.1)) (nbV A c (zOf c p.1) p.2) -∗ CR A K c S)) := by
  unfold CR Res rAR
  iintro ⟨#Hc, H1, H2, H3, H4, H5, H6, H7, H8, H9, H10, H11, H12, H13, H14, ⟨H15, Hs⟩, Hr⟩
  ihave Hs := (fam_use hm) $$ Hs
  icases Hs with ⟨⟨Hz, Hi⟩, Hs⟩
  isplitl [Hi]; · iexact Hi
  iintro Hi
  ihave Hs := Hs $$ [Hz Hi]
  · isplitl [Hz] <;> iassumption
  isplitr; · iexact Hc
  iframe
theorem fc_slot2 {S : St} (k : Fin 3) (hm : k ∉ S.rb) :
    CR A K c S ⊢ iprop(own c (slot2M (gOf c k.succ)) (crV A c k) ∗ (own c (slot2M (gOf c k.succ)) (crV A c k) -∗ CR A K c S)) := by
  unfold CR Res rBR
  iintro ⟨#Hc, H1, H2, H3, H4, H5, H6, H7, H8, H9, H10, H11, H12, H13, H14, H15, H16, H17, H18, H19, H20, H21, Hs⟩
  ihave Hs := (fam_use hm) $$ Hs
  icases Hs with ⟨⟨Hz, Hi⟩, Hs⟩
  isplitl [Hi]; · iexact Hi
  iintro Hi
  ihave Hs := Hs $$ [Hz Hi]
  · isplitl [Hz] <;> iassumption
  isplitr; · iexact Hc
  iframe

theorem st_loadX {Q : α → sProp 𝕄} {S : St} {r : LoadRect S512x256} {hl : xM.view.LoadsAt r}
    {k : (r.shape.Idx → Elt F .bf16) → Prog (TpuEff nD τ sig (Elt F) Λ₀ .tc) α}
    (h : CR A K c S ⊢ WP c (k (xM.view.readAt (Elt F) r (A.x c))) Q) : CR A K c S ⊢ WP c (.op (.load xM r hl) k) Q :=
  st_read c (fc_x A K c) (ld_pts c) h
theorem st_loadXz {Q : α → sProp 𝕄} {S : St} (zk : Fin 4) {off : Fin 2 → ℕ} (ho : off = ![128 * (zOf c zk).val, 0])
    {inb : ∀ a, off a + S128x256.size a ≤ S512x256.size a} {hl : xM.view.LoadsAt (Rect.unit (s := S512x256) off S128x256.size inb).toLoadRect}
    {k : Vec F S128x256 .bf16 → Prog (TpuEff nD τ sig (Elt F) Λ₀ .tc) α}
    (h : CR A K c S ⊢ WP c (k (xzld A c (zOf c zk))) Q) :
    CR A K c S ⊢ WP c (.op (.load xM (Rect.unit (s := S512x256) off S128x256.size inb).toLoadRect hl) k) Q := by
  subst ho; exact st_read c (fc_x A K c) (ld_pts c) h
theorem st_loadRw {Q : α → sProp 𝕄} {S : St} {r : LoadRect S256x32} {hl : rwM.view.LoadsAt r}
    {k : (r.shape.Idx → Elt F .bf16) → Prog (TpuEff nD τ sig (Elt F) Λ₀ .tc) α}
    (h : CR A K c S ⊢ WP c (k (rwM.view.readAt (Elt F) r (A.rw c))) Q) : CR A K c S ⊢ WP c (.op (.load rwM r hl) k) Q :=
  st_read c (fc_rw A K c) (ld_pts c) h
theorem st_loadRi {Q : α → sProp 𝕄} {S : St} {r : LoadRect S512x2} {hl : riM.view.LoadsAt r}
    {k : (r.shape.Idx → Elt F .i32) → Prog (TpuEff nD τ sig (Elt F) Λ₀ .tc) α}
    (h : CR A K c S ⊢ WP c (k (riM.view.readAt (Elt F) r (A.ri c))) Q) : CR A K c S ⊢ WP c (.op (.load riM r hl) k) Q :=
  st_read c (fc_ri A K c) (ld_pts c) h
theorem st_loadEw {Q : α → sProp 𝕄} {S : St} {r : LoadRect S2x256x512} {hl : ewM.view.LoadsAt r}
    {k : (r.shape.Idx → Elt F .bf16) → Prog (TpuEff nD τ sig (Elt F) Λ₀ .tc) α}
    (h : CR A K c S ⊢ WP c (k (ewM.view.readAt (Elt F) r (A.ew c))) Q) : CR A K c S ⊢ WP c (.op (.load ewM r hl) k) Q :=
  st_read c (fc_ew A K c) (ld_pts c) h

/-- A load of a weight column not stored yet, and of its rows afterwards. -/
theorem st_loadW0j {Q : α → sProp 𝕄} {S : St} {r : LoadRect S512x1} {hl : w0M.view.LoadsAt r}
    {k : (r.shape.Idx → Elt F .f32) → Prog (TpuEff nD τ sig (Elt F) Λ₀ .tc) α} (hb : S.w0 = false)
    (h : ∀ v, CR A K c S ⊢ WP c (k v) Q) : CR A K c S ⊢ WP c (.op (.load w0M r hl) k) Q := by
  have hf := fc_w0 A K c (S := S)
  rw [hb, w0R_false] at hf
  exact st_read_any c hf (ld_any c) h
theorem st_loadW1j {Q : α → sProp 𝕄} {S : St} {r : LoadRect S512x1} {hl : w1M.view.LoadsAt r}
    {k : (r.shape.Idx → Elt F .f32) → Prog (TpuEff nD τ sig (Elt F) Λ₀ .tc) α} (hb : S.w1 = false)
    (h : ∀ v, CR A K c S ⊢ WP c (k v) Q) : CR A K c S ⊢ WP c (.op (.load w1M r hl) k) Q := by
  have hf := fc_w1 A K c (S := S)
  rw [hb, w1R_false] at hf
  exact st_read_any c hf (ld_any c) h
theorem st_loadW0 {Q : α → sProp 𝕄} {S : St} (zk : Fin 4) {off : Fin 2 → ℕ} (ho : off = ![128 * (zOf c zk).val, 0]) (hb : S.w0 = true)
    {inb : ∀ a, off a + S128x1.size a ≤ S512x1.size a} {hl : w0M.view.LoadsAt (Rect.unit (s := S512x1) off S128x1.size inb).toLoadRect}
    {k : Vec F S128x1 .f32 → Prog (TpuEff nD τ sig (Elt F) Λ₀ .tc) α}
    (h : CR A K c S ⊢ WP c (k (w0ld A c (zOf c zk))) Q) :
    CR A K c S ⊢ WP c (.op (.load w0M (Rect.unit (s := S512x1) off S128x1.size inb).toLoadRect hl) k) Q := by
  subst ho
  have hf := fc_w0 A K c (S := S)
  rw [hb, w0R_true] at hf
  exact st_read c hf (ld_pts c) h
theorem st_loadW1 {Q : α → sProp 𝕄} {S : St} (zk : Fin 4) {off : Fin 2 → ℕ} (ho : off = ![128 * (zOf c zk).val, 0]) (hb : S.w1 = true)
    {inb : ∀ a, off a + S128x1.size a ≤ S512x1.size a} {hl : w1M.view.LoadsAt (Rect.unit (s := S512x1) off S128x1.size inb).toLoadRect}
    {k : Vec F S128x1 .f32 → Prog (TpuEff nD τ sig (Elt F) Λ₀ .tc) α}
    (h : CR A K c S ⊢ WP c (k (w1ld A c (zOf c zk))) Q) :
    CR A K c S ⊢ WP c (.op (.load w1M (Rect.unit (s := S512x1) off S128x1.size inb).toLoadRect hl) k) Q := by
  subst ho
  have hf := fc_w1 A K c (S := S)
  rw [hb, w1R_true] at hf
  exact st_read c hf (ld_pts c) h
theorem st_loadOutj {Q : α → sProp 𝕄} {S : St} {r : LoadRect S32x512} {hl : outM.view.LoadsAt r}
    {k : (r.shape.Idx → Elt F .f32) → Prog (TpuEff nD τ sig (Elt F) Λ₀ .tc) α} (hb : S.od = false)
    (h : ∀ v, CR A K c S ⊢ WP c (k v) Q) : CR A K c S ⊢ WP c (.op (.load outM r hl) k) Q := by
  have hf := fc_out A K c (S := S)
  rw [hb, oR_false] at hf
  exact st_read_any c hf (ld_any c) h
theorem st_loadSlabj {Q : α → sProp 𝕄} {S : St} (zk : Fin 4) {off : Fin 2 → ℕ} (ho : off = ![128 * (zOf c zk).val, 0]) (hm : zk ∈ S.sl)
    {inb : ∀ a, off a + S128x512.size a ≤ S512x512.size a} {hl : pbM.view.LoadsAt (Rect.unit (s := S512x512) off S128x512.size inb).toLoadRect}
    {k : Vec F S128x512 .bf16 → Prog (TpuEff nD τ sig (Elt F) Λ₀ .tc) α} (h : ∀ v, CR A K c S ⊢ WP c (k v) Q) :
    CR A K c S ⊢ WP c (.op (.load pbM (Rect.unit (s := S512x512) off S128x512.size inb).toLoadRect hl) k) Q := by
  subst ho; exact st_read_any c (fc_sl A K c zk hm) (ld_slice_any c) h
theorem st_loadOwn {Q : α → sProp 𝕄} {S : St} (zk : Fin 4) {off : Fin 2 → ℕ} (ho : off = ![128 * (zOf c zk).val + 32 * (wOf c 0).val, 0])
    (hm : (zk, (0 : Fin 4)) ∈ S.bl) {inb : ∀ a, off a + S32x512.size a ≤ S512x512.size a}
    {hl : pbM.view.LoadsAt (Rect.unit (s := S512x512) off S32x512.size inb).toLoadRect}
    {k : Vec F S32x512 .bf16 → Prog (TpuEff nD τ sig (Elt F) Λ₀ .tc) α} (h : CR A K c S ⊢ WP c (k (blkVal A c (zOf c zk) (wOf c 0))) Q) :
    CR A K c S ⊢ WP c (.op (.load pbM (Rect.unit (s := S512x512) off S32x512.size inb).toLoadRect hl) k) Q := by
  subst ho; exact st_read c (fc_bl A K c (zk, 0) hm) (ld_slice c) h
theorem st_loadColj {Q : α → sProp 𝕄} {S : St} (i : Fin 3) {off : Fin 3 → ℕ} (ho : off = ![i.val, 0, 0]) (hm : i ∈ S.cu)
    {inb : ∀ a, off a + S1x32x512.size a ≤ S3x32x512.size a} {hl : caM.view.LoadsAt (Rect.unit (s := S3x32x512) off S1x32x512.size inb).toLoadRect}
    {k : Vec F S1x32x512 .bf16 → Prog (TpuEff nD τ sig (Elt F) Λ₀ .tc) α} (h : ∀ v, CR A K c S ⊢ WP c (k v) Q) :
    CR A K c S ⊢ WP c (.op (.load caM (Rect.unit (s := S3x32x512) off S1x32x512.size inb).toLoadRect hl) k) Q := by
  subst ho; exact st_read_any c (fc_cu A K c i hm) (ld_sq_any c (hq := squeezes_S1x32x512_S32x512)) h
theorem st_loadSlot {Q : α → sProp 𝕄} {S : St} (p : PP) {off : Fin 4 → ℕ} (ho : off = ![(wOf c p.2.succ).val, (zOf c p.1).val, 0, 0]) (hm : p ∉ S.ra)
    {inb : ∀ a, off a + S1x1x32x512.size a ≤ S4x4x32x512.size a}
    {hl : r1M.view.LoadsAt (Rect.unit (s := S4x4x32x512) off S1x1x32x512.size inb).toLoadRect}
    {k : Vec F S1x1x32x512 .bf16 → Prog (TpuEff nD τ sig (Elt F) Λ₀ .tc) α}
    (h : CR A K c S ⊢ WP c (k (up (s := S1x1x32x512) squeezes_S1x1x32x512_S32x512.numel_eq (nbV A c (zOf c p.1) p.2))) Q) :
    CR A K c S ⊢ WP c (.op (.load r1M (Rect.unit (s := S4x4x32x512) off S1x1x32x512.size inb).toLoadRect hl) k) Q := by
  subst ho; exact st_read c (fc_slot A K c p hm) (ld_sq c squeezes_S1x1x32x512_S32x512) h
theorem st_loadSlot2 {Q : α → sProp 𝕄} {S : St} (i : Fin 3) {off : Fin 3 → ℕ} (ho : off = ![(gOf c i.succ).val, 0, 0]) (hm : i ∉ S.rb)
    {inb : ∀ a, off a + S1x32x512.size a ≤ S4x32x512.size a}
    {hl : r2M.view.LoadsAt (Rect.unit (s := S4x32x512) off S1x32x512.size inb).toLoadRect}
    {k : Vec F S1x32x512 .bf16 → Prog (TpuEff nD τ sig (Elt F) Λ₀ .tc) α}
    (h : CR A K c S ⊢ WP c (k (up (s := S1x32x512) squeezes_S1x32x512_S32x512.numel_eq (crV A c i))) Q) :
    CR A K c S ⊢ WP c (.op (.load r2M (Rect.unit (s := S4x32x512) off S1x32x512.size inb).toLoadRect hl) k) Q := by
  subst ho; exact st_read c (fc_slot2 A K c i hm) (ld_sq c squeezes_S1x32x512_S32x512) h

end Cert.Moe
-- ==== Proof.Moves.lean ====
/-
# Stores, sends and waits
-/
module

public import proofs.«01_k».proof.Proof.Steps

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) (K : Dev nD × Fin 41 → ℕ) (c : Dev nD) {α : Type}

/-! ## Stores -/

theorem hz2 : (![0, 0] : Fin 2 → ℕ) = fun _ => 0 := funext fun a => by fin_cases a <;> rfl

theorem st_storeW0 {Q : α → sProp 𝕄} {S : St} {w : Vec F S512x1 .f32} (hw : w = w0Val A c) (hb : S.w0 = false)
    {hx : (w0M.access rW0).Stores Finset.univ} {hm : (Finset.univ : Finset rW0.shape.Idx) = Finset.univ ∨ ∀ a, rW0.stride a = 1}
    {k : PUnit.{1} → Prog (TpuEff nD τ sig (Elt F) Λ₀ .tc) α}
    (h : CR A K c S.storeW0 ⊢ WP c (k ⟨⟩) Q) : CR A K c S ⊢ WP c (.op (.store w0M rW0 w Finset.univ hx hm) k) Q := by
  subst hw
  unfold CR Res
  iintro ⟨#Hc, H1, H2, H3, H4, H5, H6, H7, Hr⟩
  rw [hb]
  ihave H7 := (Entails.of_eq (w0R_false A c)) $$ H7
  unfold anyAt
  icases H7 with ⟨%f, H7⟩
  iapply (wp_store 𝒱₀ (c : Thread nD τ) none Set.univ (m := w0M) (r := rW0) (Mk := Finset.univ) (S := w0M.view.set) (View.set_slice_subset _ _)) $$ H7
  iintro H7
  ihave H7 := (Entails.of_eq (congrArg (ptsM c w0M) (Memref.write_access_unit_zero_univ (Elt F) cc0_scratch0 hz2 _ f (w0Val A c)))) $$ H7
  ihave H7 := (Entails.of_eq (w0R_true A c).symm) $$ H7
  iapply h
  unfold CR Res
  isplitr; · iexact Hc
  dsimp only [St.storeW0]
  iframe

theorem st_storeW1 {Q : α → sProp 𝕄} {S : St} {w : Vec F S512x1 .f32} (hw : w = w1Val A c) (hb : S.w1 = false)
    {hx : (w1M.access rW0).Stores Finset.univ} {hm : (Finset.univ : Finset rW0.shape.Idx) = Finset.univ ∨ ∀ a, rW0.stride a = 1}
    {k : PUnit.{1} → Prog (TpuEff nD τ sig (Elt F) Λ₀ .tc) α}
    (h : CR A K c S.storeW1 ⊢ WP c (k ⟨⟩) Q) : CR A K c S ⊢ WP c (.op (.store w1M rW0 w Finset.univ hx hm) k) Q := by
  subst hw
  unfold CR Res
  iintro ⟨#Hc, H1, H2, H3, H4, H5, H6, H7, H8, Hr⟩
  rw [hb]
  ihave H8 := (Entails.of_eq (w1R_false A c)) $$ H8
  unfold anyAt
  icases H8 with ⟨%f, H8⟩
  iapply (wp_store 𝒱₀ (c : Thread nD τ) none Set.univ (m := w1M) (r := rW0) (Mk := Finset.univ) (S := w1M.view.set) (View.set_slice_subset _ _)) $$ H8
  iintro H8
  ihave H8 := (Entails.of_eq (congrArg (ptsM c w1M) (Memref.write_access_unit_zero_univ (Elt F) cc0_scratch1 hz2 _ f (w1Val A c)))) $$ H8
  ihave H8 := (Entails.of_eq (w1R_true A c).symm) $$ H8
  iapply h
  unfold CR Res
  isplitr; · iexact Hc
  dsimp only [St.storeW1]
  iframe

theorem st_storeOut {Q : α → sProp 𝕄} {S : St} {w : Vec F S32x512 .f32} (hw : w = outVal A c) (hb : S.od = false)
    {hx : (outM.access rO0).Stores Finset.univ} {hm : (Finset.univ : Finset rO0.shape.Idx) = Finset.univ ∨ ∀ a, rO0.stride a = 1}
    {k : PUnit.{1} → Prog (TpuEff nD τ sig (Elt F) Λ₀ .tc) α}
    (h : CR A K c S.storeOut ⊢ WP c (k ⟨⟩) Q) : CR A K c S ⊢ WP c (.op (.store outM rO0 w Finset.univ hx hm) k) Q := by
  subst hw
  unfold CR Res
  iintro ⟨#Hc, H1, H2, H3, H4, H5, H6, H7, H8, H9, Hr⟩
  rw [hb]
  ihave H9 := (Entails.of_eq (oR_false A c)) $$ H9
  unfold anyAt
  icases H9 with ⟨%f, H9⟩
  iapply (wp_store 𝒱₀ (c : Thread nD τ) none Set.univ (m := outM) (r := rO0) (Mk := Finset.univ) (S := outM.view.set) (View.set_slice_subset _ _)) $$ H9
  iintro H9
  ihave H9 := (Entails.of_eq (congrArg (ptsM c outM) (Memref.write_access_unit_zero_univ (Elt F) cc0_stg4_0 hz2 _ f (outVal A c)))) $$ H9
  ihave H9 := (Entails.of_eq (oR_true A c).symm) $$ H9
  iapply h
  unfold CR Res
  isplitr; · iexact Hc
  dsimp only [St.storeOut]
  iframe

theorem wOf_bij : Function.Bijective (wOf c) := by revert c; decide
/-- Positions by distance. -/
def wEquiv : Fin 4 ≃ Fin 4 := Equiv.ofBijective (wOf c) (wOf_bij c)

/-- A whole slab is stored: its blocks are held. -/
theorem st_storeSlab {Q : α → sProp 𝕄} {S : St} (zk : Fin 4) {off : Fin 2 → ℕ} (ho : off = ![128 * (zOf c zk).val, 0])
    {w : Vec F S128x512 .bf16} (hw : w = slabVal A c (zOf c zk)) (hm : zk ∈ S.sl) (hd : Disjoint (rowOf zk) S.bl)
    {inb : ∀ a, off a + S128x512.size a ≤ S512x512.size a}
    {hx : (pbM.access (Rect.unit (s := S512x512) off S128x512.size inb)).Stores Finset.univ}
    {hu : (Finset.univ : Finset (Rect.unit (s := S512x512) off S128x512.size inb).shape.Idx) = Finset.univ
      ∨ ∀ a, (Rect.unit (s := S512x512) off S128x512.size inb).stride a = 1}
    {k : PUnit.{1} → Prog (TpuEff nD τ sig (Elt F) Λ₀ .tc) α}
    (h : CR A K c (S.storeSlab zk) ⊢ WP c (k ⟨⟩) Q) :
    CR A K c S ⊢ WP c (.op (.store pbM (Rect.unit (s := S512x512) off S128x512.size inb) w Finset.univ hx hu) k) Q := by
  subst ho hw
  have e : (bigSep Finset.univ fun j : Fin 4 => own c (blkM (zOf c zk) j) (blkVal A c (zOf c zk) j) : sProp 𝕄) = blR A c (rowOf zk) := by
    unfold blR rowOf
    rw [bigSep_map, bigSep_univ_equiv (wEquiv c)]
    rfl
  unfold CR Res slR
  iintro ⟨#Hc, H1, H2, H3, H4, H5, H6, H7, H8, H9, Hs, Hb, Hr⟩
  ihave Hs := (fam_take hm) $$ Hs
  icases Hs with ⟨Hi, Hs⟩
  iapply (st_slice c (m := pbM) (r := slabR (zOf c zk))) $$ Hi
  iintro Hi
  ihave Hi := (slab_blocks c A (zOf c zk)) $$ Hi
  ihave Hi := (Entails.of_eq e) $$ Hi
  ihave Hb := (Entails.of_eq (show iprop(blR A c (rowOf zk) ∗ blR A c S.bl) = blR A c (rowOf zk ∪ S.bl) from (bigSep_union hd).symm)) $$ [Hi Hb]
  · isplitl [Hi] <;> iassumption
  iapply h
  unfold CR Res slR
  isplitr; · iexact Hc
  dsimp only [St.storeSlab]
  iframe

theorem st_storeCol {Q : α → sProp 𝕄} {S : St} (i : Fin 3) {off : Fin 3 → ℕ} (ho : off = ![i.val, 0, 0]) {hn : S32x512.ShapeCasts S1x32x512}
    {w : Vec F S1x32x512 .bf16} (hw : w = shapeCast S1x32x512 (colVal A c (zOf c i.castSucc)) hn) (hm : i ∈ S.cu) (hd : i ∉ S.ch)
    {inb : ∀ a, off a + S1x32x512.size a ≤ S3x32x512.size a}
    {hx : (caM.access (Rect.unit (s := S3x32x512) off S1x32x512.size inb)).Stores Finset.univ}
    {hu : (Finset.univ : Finset (Rect.unit (s := S3x32x512) off S1x32x512.size inb).shape.Idx) = Finset.univ
      ∨ ∀ a, (Rect.unit (s := S3x32x512) off S1x32x512.size inb).stride a = 1}
    {k : PUnit.{1} → Prog (TpuEff nD τ sig (Elt F) Λ₀ .tc) α}
    (h : CR A K c (S.storeCol i) ⊢ WP c (k ⟨⟩) Q) :
    CR A K c S ⊢ WP c (.op (.store caM (Rect.unit (s := S3x32x512) off S1x32x512.size inb) w Finset.univ hx hu) k) Q := by
  subst ho hw
  unfold CR Res cuR chR
  iintro ⟨#Hc, H1, H2, H3, H4, H5, H6, H7, H8, H9, H10, H11, H12, H13, H14, H15, Hs, Hb, Hr⟩
  ihave Hs := (fam_take hm) $$ Hs
  icases Hs with ⟨Hi, Hs⟩
  iapply (st_sq c (m := caM) (r := colR i) squeezes_S1x32x512_S32x512 (X := colVal A c (zOf c i.castSucc))) $$ Hi
  iintro Hi
  ihave Hb := (fam_put (Φ := fun k : Fin 3 => own c (colM k) (colVal A c (zOf c k.castSucc))) hd) $$ [Hi Hb]
  · isplitl [Hi] <;> iassumption
  iapply h
  unfold CR Res cuR chR
  isplitr; · iexact Hc
  dsimp only [St.storeCol]
  iframe

/-! ## Sends -/

theorem due_sendA (sg : Finset DD) {sa : Finset PP} (sb : Finset (Fin 3)) {p : PP} (h : p ∈ sa) :
    due c sg sa sb = due c sg (sa.erase p) sb + tallyAt ((nbr (.mk false p.2) c : Thread nD τ), .dma (rA (wd c) (zOf c p.1))) () N := by
  rw [← toA_eq]; exact due_erase_sa c h
theorem due_sendB (sg : Finset DD) (sa : Finset PP) {sb : Finset (Fin 3)} {k : Fin 3} (h : k ∈ sb) :
    due c sg sa sb = due c sg sa (sb.erase k) + tallyAt ((nbr (.mk true k) c : Thread nD τ), .dma (rB (gd c))) () N := by
  rw [← toB_eq]; exact due_erase_sb c h

theorem pay_sendA (p : PP) : payOf A (nbr (.mk false p.2) c) (.ra (wd c) (zOf c p.1)) (.mk false 0)
    = own (nbr (.mk false p.2) c) (slotM (wd c) (zOf c p.1)) (blkVal A c (zOf c p.1) (wOf c p.2.succ)) := by
  show own _ _ (blkVal A (mk (gd (nbr (.mk false p.2) c)) (wd c)) (zOf c p.1) (wd (nbr (.mk false p.2) c))) = _
  rw [mk_nbr, wd_nbr]; rfl
theorem pay_sendB (k : Fin 3) : payOf A (nbr (.mk true k) c) (.rb (gd c)) (.mk false 0)
    = own (nbr (.mk true k) c) (slot2M (gd c)) (colVal A c (zOf c k.castSucc)) := by
  show own _ _ (colVal A (mk (gd c) (wd (nbr (.mk true k) c))) (gd (nbr (.mk true k) c))) = _
  rw [mk_nbr', gd_cross]
theorem pay_ra (k : Fin 3) (z : Fin 4) : payOf A c (.ra (wOf c k.succ) z) (.mk false 0) = own c (slotM (wOf c k.succ) z) (nbV A c z k) := rfl
theorem pay_rb (k : Fin 3) : payOf A c (.rb (gOf c k.succ)) (.mk false 0) = own c (slot2M (gOf c k.succ)) (crV A c k) := rfl
theorem pay_sa (k : Fin 3) (zk : Fin 4) : payOf A c (.sa k.succ zk) (.mk false 0)
    = own c (blkM (zOf c zk) (wOf c k.succ)) (blkVal A c (zOf c zk) (wOf c k.succ)) := rfl
theorem pay_sb (k : Fin 3) : payOf A c (.sb k.castSucc) (.mk false 0) = own c (colM k) (colVal A c (zOf c k.castSucc)) := by
  show sbPay A c k.castSucc = _
  unfold sbPay
  rw [dif_pos (show k.castSucc.val < 3 from k.isLt)]
  rfl

theorem st_sendA {Q : α → sProp 𝕄} {S : St} (p : PP) {n : Dev nD} {o6 : Fin 2 → ℕ} {o5 : Fin 4 → ℕ} {sS sR : DmaSem sig}
    (hn : n = nbr (.mk false p.2) c) (h6 : o6 = ![128 * (zOf c p.1).val + 32 * (wOf c p.2.succ).val, 0])
    (h5 : o5 = ![(wd c).val, (zOf c p.1).val, 0, 0]) (hsS : sS = sA p.2.succ p.1) (hsR : sR = rA (wd c) (zOf c p.1))
    (hb : S.bw = true) (hm : p ∈ S.sa) (hbl : (p.1, p.2.succ) ∈ S.bl) (hca : p ∉ S.ca)
    {i6 : ∀ a, o6 a + S32x512.size a ≤ S512x512.size a} {u6 : ∀ a, (Rect.unit (s := S512x512) o6 S32x512.size i6).stride a = 1}
    {i5 : ∀ a, o5 a + S1x1x32x512.size a ≤ S4x4x32x512.size a} {u5 : ∀ a, (Rect.unit (s := S4x4x32x512) o5 S1x1x32x512.size i5).stride a = 1}
    {hsc : (((r1M.slice (Rect.unit (s := S4x4x32x512) o5 S1x1x32x512.size i5) u5).squeeze S32x512 squeezes_S1x1x32x512_S32x512
      : Memref sig (Dev.tc n : Thread nD τ).2.kind .vmem S32x512 .bf16)).view.ref.isScScratch = false}
    {hsrc : (pbM.slice (Rect.unit (s := S512x512) o6 S32x512.size i6) u6).view.WordExact}
    {hdst : ((r1M.slice (Rect.unit (s := S4x4x32x512) o5 S1x1x32x512.size i5) u5).squeeze S32x512 squeezes_S1x1x32x512_S32x512).view.WordExact}
    {hsem : DmaTarget.Typed .vmem (.dma sR) (.remote (Dev.tc n : Thread nD τ)
      ((r1M.slice (Rect.unit (s := S4x4x32x512) o5 S1x1x32x512.size i5) u5).squeeze S32x512 squeezes_S1x1x32x512_S32x512) (.dma sS) hsc)}
    {k : PUnit.{1} → Prog (TpuEff nD τ sig (Elt F) Λ₀ .tc) α} (h : CR A K c (S.sendA p) ⊢ WP c (k ⟨⟩) Q) :
    CR A K c S ⊢ WP c (.op (.enqueueDma (pbM.slice (Rect.unit (s := S512x512) o6 S32x512.size i6) u6) (.remote (Dev.tc n : Thread nD τ)
      ((r1M.slice (Rect.unit (s := S4x4x32x512) o5 S1x1x32x512.size i5) u5).squeeze S32x512 squeezes_S1x1x32x512_S32x512) (.dma sS) hsc) (.dma sR)
      hsrc hdst hsem) k) Q := by
  subst hn h6 h5 hsS hsR
  unfold CR Res blR tAR cAR
  iintro ⟨#Hc, H1, H2, H3, H4, H5, H6, H7, H8, H9, H10, Hb, Ht, Hcr, Hr⟩
  rw [hb]
  ihave H5 := (Entails.of_eq (dAR_true c S.sa)) $$ H5
  ihave H5 := (fam_take hm) $$ H5
  icases H5 with ⟨Hd, H5⟩
  ihave H5 := (Entails.of_eq (dAR_true c (S.sa.erase p)).symm) $$ H5
  ihave Ht := (fam_take hm) $$ Ht
  icases Ht with ⟨⟨Ht1, Ht2⟩, Ht⟩
  ihave Ht2 := (Entails.of_eq (congrArg (fun g => dutyTok ER g 0 (.mk false 0)) (toA_eq c p))) $$ Ht2
  ihave Hb := (fam_take hbl) $$ Hb
  icases Hb with ⟨Hs, Hb⟩
  have hr := (rule_send (k := k) (Q := Q) (hsc := hsc) (hsrc := hsrc) (hdst := hdst) (hsem := hsem) A K c (nbr (.mk false p.2) c) (src := blkM (zOf c p.1) (wOf c p.2.succ)) (dst := slotM (wd c) (zOf c p.1)) (named_sA _ _) (named_rA _ _)
    (kind_sA _ _) (kind_rA _ _) (by simp) (by simp) (duty_sa c _ _) (duty_toA c _ _)
    (blkVal A c (zOf c p.1) (wOf c p.2.succ)) rfl (due_sendA c S.sg S.sb hm) rfl (pay_sendA A c p))
  iapply hr $$ [Hs Hd H2 Ht1 Ht2]
  · isplitr; · iexact Hc
    isplitl [Hs]; · iexact Hs
    isplitl [Hd]; · iexact Hd
    isplitl [H2]; · iexact H2
    isplitl [Ht1]; · iexact Ht1
    iexact Ht2
  iintro ⟨Hnew, H2⟩
  ihave Hcr := (fam_put (Φ := fun p : PP => cred (tallyAt (saCell c p) () N)) hca) $$ [Hnew Hcr]
  · isplitl [Hnew] <;> iassumption
  iapply h
  unfold CR Res blR tAR cAR
  isplitr; · iexact Hc
  dsimp only [St.sendA]
  rw [hb]
  iframe

theorem st_sendB {Q : α → sProp 𝕄} {S : St} (i : Fin 3) {n : Dev nD} {oc : Fin 3 → ℕ} {o12 : Fin 3 → ℕ} {sS sR : DmaSem sig}
    (hn : n = nbr (.mk true i) c) (hc : oc = ![i.val, 0, 0])
    (h12 : o12 = ![(gd c).val, 0, 0]) (hsS : sS = sB i.castSucc) (hsR : sR = rB (gd c))
    (hb : S.bw = true) (hm : i ∈ S.sb) (hch : i ∈ S.ch) (hcb : i ∉ S.cb)
    {ic : ∀ a, oc a + S1x32x512.size a ≤ S3x32x512.size a} {uc : ∀ a, (Rect.unit (s := S3x32x512) oc S1x32x512.size ic).stride a = 1}
    {i12 : ∀ a, o12 a + S1x32x512.size a ≤ S4x32x512.size a} {u12 : ∀ a, (Rect.unit (s := S4x32x512) o12 S1x32x512.size i12).stride a = 1}
    {hsc : (((r2M.slice (Rect.unit (s := S4x32x512) o12 S1x32x512.size i12) u12).squeeze S32x512 squeezes_S1x32x512_S32x512
      : Memref sig (Dev.tc n : Thread nD τ).2.kind .vmem S32x512 .bf16)).view.ref.isScScratch = false}
    {hsrc : ((caM.slice (Rect.unit (s := S3x32x512) oc S1x32x512.size ic) uc).squeeze S32x512 squeezes_S1x32x512_S32x512).view.WordExact}
    {hdst : ((r2M.slice (Rect.unit (s := S4x32x512) o12 S1x32x512.size i12) u12).squeeze S32x512 squeezes_S1x32x512_S32x512).view.WordExact}
    {hsem : DmaTarget.Typed .vmem (.dma sR) (.remote (Dev.tc n : Thread nD τ)
      ((r2M.slice (Rect.unit (s := S4x32x512) o12 S1x32x512.size i12) u12).squeeze S32x512 squeezes_S1x32x512_S32x512) (.dma sS) hsc)}
    {k : PUnit.{1} → Prog (TpuEff nD τ sig (Elt F) Λ₀ .tc) α} (h : CR A K c (S.sendB i) ⊢ WP c (k ⟨⟩) Q) :
    CR A K c S ⊢ WP c (.op (.enqueueDma ((caM.slice (Rect.unit (s := S3x32x512) oc S1x32x512.size ic) uc).squeeze S32x512 squeezes_S1x32x512_S32x512)
      (.remote (Dev.tc n : Thread nD τ)
      ((r2M.slice (Rect.unit (s := S4x32x512) o12 S1x32x512.size i12) u12).squeeze S32x512 squeezes_S1x32x512_S32x512) (.dma sS) hsc) (.dma sR)
      hsrc hdst hsem) k) Q := by
  subst hn hc h12 hsS hsR
  unfold CR Res chR tBR cBR
  iintro ⟨#Hc, H1, H2, H3, H4, H5, H6, H7, H8, H9, H10, H11, H12, H13, H14, H15, H16, Hb, Ht, Hcr, Hr⟩
  rw [hb]
  ihave H6 := (Entails.of_eq (dBR_true c S.sb)) $$ H6
  ihave H6 := (fam_take hm) $$ H6
  icases H6 with ⟨Hd, H6⟩
  ihave H6 := (Entails.of_eq (dBR_true c (S.sb.erase i)).symm) $$ H6
  ihave Ht := (fam_take hm) $$ Ht
  icases Ht with ⟨⟨Ht1, Ht2⟩, Ht⟩
  ihave Ht2 := (Entails.of_eq (congrArg (fun g => dutyTok ER g 0 (.mk false 0)) (toB_eq c i))) $$ Ht2
  ihave Hb := (fam_take hch) $$ Hb
  icases Hb with ⟨Hs, Hb⟩
  have hr := (rule_send (k := k) (Q := Q) (hsc := hsc) (hsrc := hsrc) (hdst := hdst) (hsem := hsem) A K c (nbr (.mk true i) c) (src := colM i) (dst := slot2M (gd c)) (named_sB _) (named_rB _)
    (kind_sB _) (kind_rB _) (by simp) (by simp) (duty_sb c _) (duty_toB c _)
    (colVal A c (zOf c i.castSucc)) rfl (due_sendB c S.sg S.sa hm) (pay_sb A c i) (pay_sendB A c i))
  iapply hr $$ [Hs Hd H2 Ht1 Ht2]
  · isplitr; · iexact Hc
    isplitl [Hs]; · iexact Hs
    isplitl [Hd]; · iexact Hd
    isplitl [H2]; · iexact H2
    isplitl [Ht1]; · iexact Ht1
    iexact Ht2
  iintro ⟨Hnew, H2⟩
  ihave Hcr := (fam_put (Φ := fun k : Fin 3 => cred (tallyAt (sbCell c k) () N)) hcb) $$ [Hnew Hcr]
  · isplitl [Hnew] <;> iassumption
  iapply h
  unfold CR Res chR tBR cBR
  isplitr; · iexact Hc
  dsimp only [St.sendB]
  rw [hb]
  iframe

/-! ## Waits -/

theorem st_recvA {Q : α → sProp 𝕄} {S : St} (p : PP) {w : TpuEff nD τ sig (Elt F) Λ₀ .tc PUnit} {sm : DmaSem sig}
    (hw : ∀ K' : PUnit → sProp 𝕄, wpE (defs₀ (F := F)) 𝒱₀ (c : Thread nD τ) none Set.univ w K' = waitSpec (c : Thread nD τ) Set.univ (.dma sm) N K')
    (hs : sm = rA (wOf c p.2.succ) (zOf c p.1)) (hm : p ∈ S.ra) (hsg : S.sg = ∅) (hsa : S.sa = ∅)
    {k : PUnit.{1} → Prog (TpuEff nD τ sig (Elt F) Λ₀ .tc) α} (h : CR A K c (S.recvA p) ⊢ WP c (k ⟨⟩) Q) : CR A K c S ⊢ WP c (.op w k) Q := by
  subst hs
  unfold CR Res rAR
  iintro ⟨#Hc, H1, H2, H3, H4, H5, H6, H7, H8, H9, H10, H11, H12, H13, H14, Hra, Hr⟩
  ihave Hra := (fam_done hm) $$ Hra
  icases Hra with ⟨⟨Hcr, Hat⟩, Hra⟩
  iapply (rule_wait A K c (named_rA _ _) (kind_rA _ _) (by simp) (duty_ra c _ _) hw (.inl hsg) (.inl hsa) (.inr (show 2 < 3 by decide))) $$ [H2 Hcr Hat]
  · isplitr; · iexact Hc
    isplitl [H2]; · iexact H2
    isplitl [Hcr] <;> iassumption
  iintro ⟨H2, Hz, Hp⟩
  ihave Hp := (Entails.of_eq (pay_ra A c p.2 (zOf c p.1))) $$ Hp
  ihave Hra := Hra $$ [Hz Hp]
  · isplitl [Hz]; · iexact Hz
    iexact Hp
  iapply h
  unfold CR Res rAR
  isplitr; · iexact Hc
  dsimp only [St.recvA]
  iframe

theorem st_recvB {Q : α → sProp 𝕄} {S : St} (i : Fin 3) {w : TpuEff nD τ sig (Elt F) Λ₀ .tc PUnit} {sm : DmaSem sig}
    (hw : ∀ K' : PUnit → sProp 𝕄, wpE (defs₀ (F := F)) 𝒱₀ (c : Thread nD τ) none Set.univ w K' = waitSpec (c : Thread nD τ) Set.univ (.dma sm) N K')
    (hs : sm = rB (gOf c i.succ)) (hm : i ∈ S.rb) (hsg : S.sg = ∅) (hsa : S.sa = ∅) (hsb : S.sb = ∅)
    {k : PUnit.{1} → Prog (TpuEff nD τ sig (Elt F) Λ₀ .tc) α} (h : CR A K c (S.recvB i) ⊢ WP c (k ⟨⟩) Q) : CR A K c S ⊢ WP c (.op w k) Q := by
  subst hs
  unfold CR Res rBR
  iintro ⟨#Hc, H1, H2, H3, H4, H5, H6, H7, H8, H9, H10, H11, H12, H13, H14, H15, H16, H17, H18, H19, H20, Hrb⟩
  ihave Hrb := (fam_done hm) $$ Hrb
  icases Hrb with ⟨⟨Hcr, Hat⟩, Hrb⟩
  iapply (rule_wait A K c (named_rB _) (kind_rB _) (by simp) (duty_rb c _) hw (.inl hsg) (.inl hsa) (.inl hsb)) $$ [H2 Hcr Hat]
  · isplitr; · iexact Hc
    isplitl [H2]; · iexact H2
    isplitl [Hcr] <;> iassumption
  iintro ⟨H2, Hz, Hp⟩
  ihave Hp := (Entails.of_eq (pay_rb A c i)) $$ Hp
  ihave Hrb := Hrb $$ [Hz Hp]
  · isplitl [Hz]; · iexact Hz
    iexact Hp
  iapply h
  unfold CR Res rBR
  isplitr; · iexact Hc
  dsimp only [St.recvB]
  iframe

theorem st_doneA {Q : α → sProp 𝕄} {S : St} (p : PP) {w : TpuEff nD τ sig (Elt F) Λ₀ .tc PUnit} {sm : DmaSem sig}
    (hw : ∀ K' : PUnit → sProp 𝕄, wpE (defs₀ (F := F)) 𝒱₀ (c : Thread nD τ) none Set.univ w K' = waitSpec (c : Thread nD τ) Set.univ (.dma sm) N K')
    (hs : sm = sA p.2.succ p.1) (hm : p ∈ S.wa) (hca : p ∈ S.ca) (hbl : (p.1, p.2.succ) ∉ S.bl)
    {k : PUnit.{1} → Prog (TpuEff nD τ sig (Elt F) Λ₀ .tc) α} (h : CR A K c (S.doneA p) ⊢ WP c (k ⟨⟩) Q) : CR A K c S ⊢ WP c (.op w k) Q := by
  subst hs
  unfold CR Res blR cAR wAR
  iintro ⟨#Hc, H1, H2, H3, H4, H5, H6, H7, H8, H9, H10, Hb, H12, Hcr, Hwa, Hr⟩
  ihave Hwa := (fam_done hm) $$ Hwa
  icases Hwa with ⟨Hat, Hwa⟩
  ihave Hcr := (fam_take hca) $$ Hcr
  icases Hcr with ⟨Hc1, Hcr⟩
  iapply (rule_wait A K c (named_sA _ _) (kind_sA _ _) (by simp) (duty_sa c _ _) hw (.inr (by show 0 < 1; decide)) (.inr (by show 0 < 2; decide))
    (.inr (by show 0 < 3; decide))) $$ [H2 Hc1 Hat]
  · isplitr; · iexact Hc
    isplitl [H2]; · iexact H2
    isplitl [Hc1] <;> iassumption
  iintro ⟨H2, Hz, Hp⟩
  ihave Hwa := Hwa $$ Hz
  ihave Hp := (Entails.of_eq (pay_sa A c p.2 p.1)) $$ Hp
  ihave Hb := (fam_put (Φ := fun q : BB => own c (blkM (zOf c q.1) (wOf c q.2)) (blkVal A c (zOf c q.1) (wOf c q.2))) hbl) $$ [Hp Hb]
  · isplitl [Hp]; · iexact Hp
    iexact Hb
  iapply h
  unfold CR Res blR cAR wAR
  isplitr; · iexact Hc
  dsimp only [St.doneA]
  iframe

theorem st_doneB {Q : α → sProp 𝕄} {S : St} (i : Fin 3) {w : TpuEff nD τ sig (Elt F) Λ₀ .tc PUnit} {sm : DmaSem sig}
    (hw : ∀ K' : PUnit → sProp 𝕄, wpE (defs₀ (F := F)) 𝒱₀ (c : Thread nD τ) none Set.univ w K' = waitSpec (c : Thread nD τ) Set.univ (.dma sm) N K')
    (hs : sm = sB i.castSucc) (hm : i ∈ S.wb) (hcb : i ∈ S.cb) (hch : i ∉ S.ch)
    {k : PUnit.{1} → Prog (TpuEff nD τ sig (Elt F) Λ₀ .tc) α} (h : CR A K c (S.doneB i) ⊢ WP c (k ⟨⟩) Q) : CR A K c S ⊢ WP c (.op w k) Q := by
  subst hs
  unfold CR Res chR cBR wBR
  iintro ⟨#Hc, H1, H2, H3, H4, H5, H6, H7, H8, H9, H10, H11, H12, H13, H14, H15, H16, Hb, H18, Hcr, Hwb, Hr⟩
  ihave Hwb := (fam_done hm) $$ Hwb
  icases Hwb with ⟨Hat, Hwb⟩
  ihave Hcr := (fam_take hcb) $$ Hcr
  icases Hcr with ⟨Hc1, Hcr⟩
  iapply (rule_wait A K c (named_sB _) (kind_sB _) (by simp) (duty_sb c _) hw (.inr (by show 0 < 1; decide)) (.inr (by show 0 < 2; decide))
    (.inr (by show 0 < 3; decide))) $$ [H2 Hc1 Hat]
  · isplitr; · iexact Hc
    isplitl [H2]; · iexact H2
    isplitl [Hc1] <;> iassumption
  iintro ⟨H2, Hz, Hp⟩
  ihave Hwb := Hwb $$ Hz
  ihave Hp := (Entails.of_eq (pay_sb A c i)) $$ Hp
  ihave Hb := (fam_put (Φ := fun k : Fin 3 => own c (colM k) (colVal A c (zOf c k.castSucc))) hch) $$ [Hp Hb]
  · isplitl [Hp] <;> iassumption
  iapply h
  unfold CR Res chR cBR wBR
  isplitr; · iexact Hc
  dsimp only [St.doneB]
  iframe

end Cert.Moe
-- ==== Proof.Body1.lean ====
/-
# The body, first half: the barrier, the weights, the products and the sends inside the plane
-/
module

public import proofs.«01_k».proof.Proof.Moves

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (A : Args F) (K : Dev nD × Fin 41 → ℕ) (c : Dev nD) {α : Type}

/-- A part of the body at this kernel's buffers and semaphores. -/
abbrev on_ {β : Type 1} (f : (a0 : Memref sig .tc .vmem S512x256 .bf16) → a0.IsWhole → (a1 : Memref sig .tc .vmem S256x32 .bf16) → a1.IsWhole
    → (a2 : Memref sig .tc .vmem S512x2 .i32) → a2.IsWhole → (a3 : Memref sig .tc .vmem S2x256x512 .bf16) → a3.IsWhole
    → (a4 : Memref sig .tc .vmem S32x512 .f32) → a4.IsWhole → (a5 : Memref sig .tc .vmem S512x1 .f32) → a5.IsWhole
    → (a6 : Memref sig .tc .vmem S512x1 .f32) → a6.IsWhole → (a7 : Memref sig .tc .vmem S512x512 .bf16) → a7.IsWhole
    → (a8 : Memref sig .tc .vmem S3x32x512 .bf16) → a8.IsWhole → (a9 : Memref sig .tc .vmem S4x4x32x512 .bf16) → a9.IsWhole
    → (a10 : Memref sig .tc .vmem S4x32x512 .bf16) → a10.IsWhole → DmaSems sig S4x4 → DmaSems sig S4x4 → DmaSems sig S4 → DmaSems sig S4 → β) : β :=
  f xM (Memref.isWhole_whole _) rwM (Memref.isWhole_whole _) riM (Memref.isWhole_whole _) ewM (Memref.isWhole_whole _) outM (Memref.isWhole_whole _)
    w0M (Memref.isWhole_whole _) w1M (Memref.isWhole_whole _) pbM (Memref.isWhole_whole _) caM (Memref.isWhole_whole _) r1M (Memref.isWhole_whole _)
    r2M (Memref.isWhole_whole _) cc0_scratch6 cc0_scratch7 cc0_scratch8 cc0_scratch9

/-! ## Semaphores and waits as the body writes them -/

theorem sA_of (k zk : Fin 4) {off : Fin 2 → ℕ} (ho : off = ![k.val, zk.val]) {inb : ∀ a, off a + S1x1.size a ≤ S4x4.size a} :
    ((cc0_scratch6.slice (Rect.unit (s := S4x4) off S1x1.size inb)).squeeze S_ squeezes_S1x1_S_).sem = sA k zk := by subst ho; exact sA_sem k zk
theorem rA_of (p z : Fin 4) {off : Fin 2 → ℕ} (ho : off = ![p.val, z.val]) {inb : ∀ a, off a + S1x1.size a ≤ S4x4.size a} :
    ((cc0_scratch7.slice (Rect.unit (s := S4x4) off S1x1.size inb)).squeeze S_ squeezes_S1x1_S_).sem = rA p z := by subst ho; exact rA_sem p z
theorem sB_of (k : Fin 4) {off : Fin 1 → ℕ} (ho : off = ![k.val]) {inb : ∀ a, off a + S1.size a ≤ S4.size a} :
    ((cc0_scratch8.slice (Rect.unit (s := S4) off S1.size inb)).squeeze S_ squeezes_S1_S_).sem = sB k := by subst ho; exact sB_sem k
theorem rB_of (p : Fin 4) {off : Fin 1 → ℕ} (ho : off = ![p.val]) {inb : ∀ a, off a + S1.size a ≤ S4.size a} :
    ((cc0_scratch9.slice (Rect.unit (s := S4) off S1.size inb)).squeeze S_ squeezes_S1_S_).sem = rB p := by subst ho; exact rB_sem p

section Waits
variable {sh : Shape} {e : EltTy} {sm : DmaSem sig} {src : Memref sig .tc .vmem sh e} {hs : src.view.WordExact} (K' : PUnit → sProp (MT nD τ sig Unit (Elt F) ℕ UU ℕ))
theorem wSlot {off : Fin 4 → ℕ} {inb : ∀ a, off a + S1x1x32x512.size a ≤ S4x4x32x512.size a}
    {u : ∀ a, (Rect.unit (s := S4x4x32x512) off S1x1x32x512.size inb).stride a = 1}
    {hd : ((r1M.slice (Rect.unit (s := S4x4x32x512) off S1x1x32x512.size inb) u).squeeze S32x512 squeezes_S1x1x32x512_S32x512).view.WordExact} :
    wpE (defs₀ (F := F)) 𝒱₀ (c : Thread nD τ) none Set.univ (.waitDma2 sm src
      ((r1M.slice (Rect.unit (s := S4x4x32x512) off S1x1x32x512.size inb) u).squeeze S32x512 squeezes_S1x1x32x512_S32x512) hs hd) K'
      = waitSpec (c : Thread nD τ) Set.univ (.dma sm) N K' := by rw [wpE_waitDma2_eq]
theorem wSlot2 {off : Fin 3 → ℕ} {inb : ∀ a, off a + S1x32x512.size a ≤ S4x32x512.size a}
    {u : ∀ a, (Rect.unit (s := S4x32x512) off S1x32x512.size inb).stride a = 1}
    {hd : ((r2M.slice (Rect.unit (s := S4x32x512) off S1x32x512.size inb) u).squeeze S32x512 squeezes_S1x32x512_S32x512).view.WordExact} :
    wpE (defs₀ (F := F)) 𝒱₀ (c : Thread nD τ) none Set.univ (.waitDma2 sm src
      ((r2M.slice (Rect.unit (s := S4x32x512) off S1x32x512.size inb) u).squeeze S32x512 squeezes_S1x32x512_S32x512) hs hd) K'
      = waitSpec (c : Thread nD τ) Set.univ (.dma sm) N K' := by rw [wpE_waitDma2_eq]
theorem wBlk {off : Fin 2 → ℕ} {inb : ∀ a, off a + S32x512.size a ≤ S512x512.size a}
    {u : ∀ a, (Rect.unit (s := S512x512) off S32x512.size inb).stride a = 1}
    {hd : (pbM.slice (Rect.unit (s := S512x512) off S32x512.size inb) u).view.WordExact} :
    wpE (defs₀ (F := F)) 𝒱₀ (c : Thread nD τ) none Set.univ (.waitDma2 sm src (pbM.slice (Rect.unit (s := S512x512) off S32x512.size inb) u) hs hd) K'
      = waitSpec (c : Thread nD τ) Set.univ (.dma sm) N K' := by rw [wpE_waitDma2_eq]; rfl
theorem wCol {off : Fin 3 → ℕ} {inb : ∀ a, off a + S1x32x512.size a ≤ S3x32x512.size a}
    {u : ∀ a, (Rect.unit (s := S3x32x512) off S1x32x512.size inb).stride a = 1}
    {hd : ((caM.slice (Rect.unit (s := S3x32x512) off S1x32x512.size inb) u).squeeze S32x512 squeezes_S1x32x512_S32x512).view.WordExact} :
    wpE (defs₀ (F := F)) 𝒱₀ (c : Thread nD τ) none Set.univ (.waitDma2 sm src
      ((caM.slice (Rect.unit (s := S3x32x512) off S1x32x512.size inb) u).squeeze S32x512 squeezes_S1x32x512_S32x512) hs hd) K'
      = waitSpec (c : Thread nD τ) Set.univ (.dma sm) N K' := by rw [wpE_waitDma2_eq]
end Waits

/-! ## The states the body goes through -/

def T2 : St := (S₀.signal (.mk false 0)).signal (.mk false 1)
def T3 : St := (T2.signal (.mk false 2)).signal (.mk true 0)
def T4 : St := (T3.signal (.mk true 1)).signal (.mk true 2)
def T5 : St := T4.storeW0.storeW1
def T6 : St := T5.storeSlab 0
def T7 : St := T6.barWait.sendA (0, 0)
def T8 : St := T7.sendA (0, 1)
def T9 : St := T8.sendA (0, 2)
def T10 : St := (T9.storeSlab 1).sendA (1, 0)
def T11 : St := T10.sendA (1, 1)
def T12 : St := T11.sendA (1, 2)
def T13 : St := (T12.storeSlab 2).sendA (2, 0)
def T14 : St := T13.sendA (2, 1)
def T15 : St := T14.sendA (2, 2)
def T16 : St := (T15.storeSlab 3).sendA (3, 0)
def T17 : St := T16.sendA (3, 1)
def T18 : St := T17.sendA (3, 2)

variable {Q : α → sProp (MT nD τ sig Unit (Elt F) ℕ UU ℕ)}

theorem part1 {k : _ → Prog (TpuEff nD τ sig (Elt F) Λ₀ .tc) α} {S : St}
    (h : ∀ v19 v29 v31 v34 v35 v36 w, CR A K c S ⊢ WP c (k ⟨c, v2w c, v19, v29, SemArray.scalar (sig.barrier 0 rfl), v31, v34, v35, v36, w⟩) Q) :
    CR A K c S ⊢ WP c (on_ k0_part1 >>= k) Q := by
  rw [k0_part1_eq_skeleton]
  unfold k0_part1_skel on_
  simp only [Prog.lift, Prog.bind_op, Prog.bind_ret, Prog.pure_eq_ret, WP, wp_deviceId]
  exact h _ _ _ _ _ _ _

theorem part2 {k : _ → Prog (TpuEff nD τ sig (Elt F) Λ₀ .tc) α} {v19 v29 v31 v34 v35 : BitVec 32} {v36 : BitVec 1} {w : BitVec 32}
    (h : ∀ v61 v65 v70 v71, CR A K c T2 ⊢ WP c (k ⟨v61, v65, v70, v71⟩) Q) :
    CR A K c S₀ ⊢ WP c (on_ k0_part2 c v19 v29 (SemArray.scalar (sig.barrier 0 rfl)) v31 v34 v35 v36 w >>= k) Q := by
  rw [k0_part2_eq_skeleton]
  unfold k0_part2_skel on_
  simp only [semSignalWord, Prog.lift, Prog.bind_op, Prog.bind_ret, Prog.pure_eq_ret]
  refine st_signal A K c (.mk false 0) (dev1_eq c) rfl (by decide) ?_
  refine st_signal A K c (.mk false 1) (dev2_eq c) rfl (by decide) ?_
  exact h _ _ _ _

theorem part3 {k : _ → Prog (TpuEff nD τ sig (Elt F) Λ₀ .tc) α} {v19 v29 v61 v65 v71 : BitVec 32} {v70 : BitVec 1}
    (h : ∀ v104 w, CR A K c T3 ⊢ WP c (k ⟨v104, w⟩) Q) :
    CR A K c T2 ⊢ WP c (on_ k0_part3 c v19 v29 (SemArray.scalar (sig.barrier 0 rfl)) v61 v65 v70 v71 >>= k) Q := by
  rw [k0_part3_eq_skeleton]
  unfold k0_part3_skel on_
  simp only [semSignalWord, Prog.lift, Prog.bind_op, Prog.bind_ret, Prog.pure_eq_ret]
  refine st_signal A K c (.mk false 2) (dev3_eq c) rfl (by decide) ?_
  refine st_signal A K c (.mk true 0) (dev4_eq c) rfl (by decide) ?_
  exact h _ _

theorem part4 {k : _ → Prog (TpuEff nD τ sig (Elt F) Λ₀ .tc) α} {v19 v29 v104 w : BitVec 32}
    (h : CR A K c T4 ⊢ WP c (k ⟨k0_pay1 (xld A c) (rwld A c), k0_pay2 (F := F) (i0ld A c), k0_pay3 (F := F) (i1ld A c),
      k0_pay4 (xld A c) (rwld A c) (i0ld A c), k0_pay5 (F := F) (i1ld A c), k0_pay6 (F := F)⟩) Q) :
    CR A K c T3 ⊢ WP c (on_ k0_part4 c v19 v29 (SemArray.scalar (sig.barrier 0 rfl)) v104 w >>= k) Q := by
  rw [k0_part4_eq_skeleton]
  unfold k0_part4_skel on_
  simp only [semSignalWord, Prog.lift, Prog.bind_op, Prog.bind_ret, Prog.pure_eq_ret]
  refine st_signal A K c (.mk true 1) (dev5_eq c) rfl (by decide) ?_
  refine st_signal A K c (.mk true 2) (dev6_eq c) rfl (by decide) ?_
  refine st_loadX A K c ?_
  refine st_loadRw A K c ?_
  refine st_loadRi A K c ?_
  refine st_loadRi A K c ?_
  exact h

theorem part5 {k : _ → Prog (TpuEff nD τ sig (Elt F) Λ₀ .tc) α} (h : CR A K c T5 ⊢ WP c (k ⟨⟩) Q) :
    CR A K c T4 ⊢ WP c (on_ k0_part5 (v2w c) (k0_pay1 (xld A c) (rwld A c)) (k0_pay2 (F := F) (i0ld A c)) (k0_pay3 (F := F) (i1ld A c))
      (k0_pay4 (xld A c) (rwld A c) (i0ld A c)) (k0_pay5 (F := F) (i1ld A c)) (k0_pay6 (F := F)) >>= k) Q := by
  rw [k0_part5_eq_skeleton]
  unfold k0_part5_skel on_
  simp only [Prog.lift, Prog.bind_op, Prog.bind_ret, Prog.pure_eq_ret]
  refine st_loadW0j A K c rfl fun _ => ?_
  refine st_storeW0 A K c rfl rfl ?_
  refine st_loadW1j A K c rfl fun _ => ?_
  refine st_storeW1 A K c rfl rfl ?_
  exact h

theorem part6 {k : _ → Prog (TpuEff nD τ sig (Elt F) Λ₀ .tc) α} {v19 : BitVec 32}
    (h : ∀ v195, CR A K c T6 ⊢ WP c (k ⟨k0_pay10 (e0ld A c), k0_pay11 (e1ld A c), v195⟩) Q) :
    CR A K c T5 ⊢ WP c (on_ k0_part6 c v19 >>= k) Q := by
  rw [k0_part6_eq_skeleton]
  unfold k0_part6_skel on_
  simp only [Prog.lift, Prog.bind_op, Prog.bind_ret, Prog.pure_eq_ret]
  refine st_loadEw A K c ?_
  refine st_loadEw A K c ?_
  refine st_loadXz A K c 0 (off1_eq c 0) ?_
  refine st_loadW0 A K c 0 (off2_eq c 0) rfl ?_
  refine st_loadW1 A K c 0 (off2_eq c 0) rfl ?_
  refine st_loadSlabj A K c 0 (off3_eq c 0) (by decide) fun _ => ?_
  refine st_storeSlab A K c 0 (off3_eq c 0) rfl (by decide) (by decide) ?_
  exact h _

theorem part7 {k : _ → Prog (TpuEff nD τ sig (Elt F) Λ₀ .tc) α} {v19 v29 v195 : BitVec 32}
    (h : ∀ w1 w2 w3 w4 w5, CR A K c T7 ⊢ WP c (k ⟨w1, w2, w3, w4, w5⟩) Q) :
    CR A K c T6 ⊢ WP c (on_ k0_part7 c v19 v29 (SemArray.scalar (sig.barrier 0 rfl)) v195 >>= k) Q := by
  rw [k0_part7_eq_skeleton]
  unfold k0_part7_skel on_
  simp only [semWaitWord, Prog.lift, Prog.bind_op, Prog.bind_ret, Prog.pure_eq_ret]
  refine st_barWait A K c (fun K' => wpE_semWait_eq 𝒱₀ (c : Thread nD τ) none Set.univ K') (by decide) rfl (by decide) (by decide) ?_
  refine st_sendA A K c (0, 0) (dev7_eq c) (off6_eq c 0 0) (off5_eq c 0) (sA_of 1 0 rfl) (rA_of _ _ (off4_eq c 0)) rfl (by decide) (by decide) (by decide) ?_
  exact h _ _ _ _ _

/-- A slab's product before it is laid out for the store. -/
def slabRaw (z : Fin 4) : FVec F S128x512 .bf16 :=
  k0_pay13 (k0_pay10 (e0ld A c)) (k0_pay11 (e1ld A c)) (xzld A c z) (w0ld A c z) (w1ld A c z)
theorem slab14 (z : Fin 4) : k0_pay14 (slabRaw A c z) = slabVal A c z := rfl
theorem slab16 (z : Fin 4) : k0_pay16 (slabRaw A c z) = slabVal A c z := rfl
theorem slab18 (z : Fin 4) : k0_pay18 (slabRaw A c z) = slabVal A c z := rfl

theorem part8 {k : _ → Prog (TpuEff nD τ sig (Elt F) Λ₀ .tc) α} {v19 v29 v195 v247 v248 : BitVec 32} {v249 v250 v251 : BitVec 1}
    (h : ∀ w1 w2, CR A K c T8 ⊢ WP c (k ⟨w1, w2⟩) Q) :
    CR A K c T7 ⊢ WP c (on_ k0_part8 c v19 v29 v195 v247 v248 v249 v250 v251 >>= k) Q := by
  rw [k0_part8_eq_skeleton]
  unfold k0_part8_skel on_
  simp only [Prog.lift, Prog.bind_op, Prog.bind_ret, Prog.pure_eq_ret]
  refine st_sendA A K c (0, 1) (dev8_eq c) (off6_eq c 0 1) (off5_eq c 0) (sA_of 2 0 rfl) (rA_of _ _ (off4_eq c 0)) rfl (by decide) (by decide) (by decide) ?_
  exact h _ _

theorem part9 {k : _ → Prog (TpuEff nD τ sig (Elt F) Λ₀ .tc) α} {v19 v286 w : BitVec 32}
    (h : ∀ w1, CR A K c T9 ⊢ WP c (k ⟨w1, slabRaw A c (zOf c 1)⟩) Q) :
    CR A K c T8 ⊢ WP c (on_ k0_part9 c v19 (k0_pay10 (e0ld A c)) (k0_pay11 (e1ld A c)) v286 w >>= k) Q := by
  rw [k0_part9_eq_skeleton]
  unfold k0_part9_skel on_
  simp only [Prog.lift, Prog.bind_op, Prog.bind_ret, Prog.pure_eq_ret]
  refine st_sendA A K c (0, 2) (dev9_eq c) (off6_eq c 0 2) (off5_eq c 0) (sA_of 3 0 rfl) (rA_of _ _ (off4_eq c 0)) rfl (by decide) (by decide) (by decide) ?_
  refine st_loadXz A K c 1 (off1_eq c 1) ?_
  refine st_loadW0 A K c 1 (off2_eq c 1) rfl ?_
  refine st_loadW1 A K c 1 (off2_eq c 1) rfl ?_
  exact h _

theorem part10 {k : _ → Prog (TpuEff nD τ sig (Elt F) Λ₀ .tc) α} {v19 v29 v306 : BitVec 32}
    (h : ∀ w1 w2 w3 w4 w5, CR A K c T10 ⊢ WP c (k ⟨w1, w2, w3, w4, w5⟩) Q) :
    CR A K c T9 ⊢ WP c (on_ k0_part10 c v19 v29 v306 (slabRaw A c (zOf c 1)) >>= k) Q := by
  rw [k0_part10_eq_skeleton]
  unfold k0_part10_skel on_
  simp only [Prog.lift, Prog.bind_op, Prog.bind_ret, Prog.pure_eq_ret]
  refine st_loadSlabj A K c 1 (off3_eq c 1) (by decide) fun _ => ?_
  refine st_storeSlab A K c 1 (off3_eq c 1) (slab14 A c _) (by decide) (by decide) ?_
  refine st_sendA A K c (1, 0) (dev10_eq c) (off6_eq c 1 0) (off5_eq c 1) (sA_of 1 1 rfl) (rA_of _ _ (off4_eq c 1)) rfl (by decide) (by decide) (by decide) ?_
  exact h _ _ _ _ _

theorem part11 {k : _ → Prog (TpuEff nD τ sig (Elt F) Λ₀ .tc) α} {v19 v29 v306 v358 v359 : BitVec 32} {v360 v361 : BitVec 1} {w : BitVec 32}
    (h : ∀ w1, CR A K c T11 ⊢ WP c (k w1) Q) :
    CR A K c T10 ⊢ WP c (on_ k0_part11 c v19 v29 v306 v358 v359 v360 v361 w >>= k) Q := by
  rw [k0_part11_eq_skeleton]
  unfold k0_part11_skel on_
  simp only [Prog.lift, Prog.bind_op, Prog.bind_ret, Prog.pure_eq_ret]
  refine st_sendA A K c (1, 1) (dev11_eq c) (off6_eq c 1 1) (off5_eq c 1) (sA_of 2 1 rfl) (rA_of _ _ (off4_eq c 1)) rfl (by decide) (by decide) (by decide) ?_
  exact h _

theorem part12 {k : _ → Prog (TpuEff nD τ sig (Elt F) Λ₀ .tc) α} {v19 v397 : BitVec 32}
    (h : ∀ w1, CR A K c T12 ⊢ WP c (k ⟨w1, slabRaw A c (zOf c 2)⟩) Q) :
    CR A K c T11 ⊢ WP c (on_ k0_part12 c v19 (k0_pay10 (e0ld A c)) (k0_pay11 (e1ld A c)) v397 >>= k) Q := by
  rw [k0_part12_eq_skeleton]
  unfold k0_part12_skel on_
  simp only [Prog.lift, Prog.bind_op, Prog.bind_ret, Prog.pure_eq_ret]
  refine st_sendA A K c (1, 2) (dev12_eq c) (off6_eq c 1 2) (off5_eq c 1) (sA_of 3 1 rfl) (rA_of _ _ (off4_eq c 1)) rfl (by decide) (by decide) (by decide) ?_
  refine st_loadXz A K c 2 (off1_eq c 2) ?_
  refine st_loadW0 A K c 2 (off2_eq c 2) rfl ?_
  refine st_loadW1 A K c 2 (off2_eq c 2) rfl ?_
  exact h _

theorem part13 {k : _ → Prog (TpuEff nD τ sig (Elt F) Λ₀ .tc) α} {v19 v29 v417 : BitVec 32}
    (h : ∀ w1 w2 w3 w4, CR A K c T13 ⊢ WP c (k ⟨w1, w2, w3, w4⟩) Q) :
    CR A K c T12 ⊢ WP c (on_ k0_part13 c v19 v29 v417 (slabRaw A c (zOf c 2)) >>= k) Q := by
  rw [k0_part13_eq_skeleton]
  unfold k0_part13_skel on_
  simp only [Prog.lift, Prog.bind_op, Prog.bind_ret, Prog.pure_eq_ret]
  refine st_loadSlabj A K c 2 (off3_eq c 2) (by decide) fun _ => ?_
  refine st_storeSlab A K c 2 (off3_eq c 2) (slab16 A c _) (by decide) (by decide) ?_
  refine st_sendA A K c (2, 0) (dev13_eq c) (off6_eq c 2 0) (off5_eq c 2) (sA_of 1 2 rfl) (rA_of _ _ (off4_eq c 2)) rfl (by decide) (by decide) (by decide) ?_
  exact h _ _ _ _

theorem part14 {k : _ → Prog (TpuEff nD τ sig (Elt F) Λ₀ .tc) α} {v19 v29 v417 v469 v470 : BitVec 32} {v471 v472 : BitVec 1}
    (h : ∀ w1 w2, CR A K c T14 ⊢ WP c (k ⟨w1, w2⟩) Q) :
    CR A K c T13 ⊢ WP c (on_ k0_part14 c v19 v29 v417 v469 v470 v471 v472 >>= k) Q := by
  rw [k0_part14_eq_skeleton]
  unfold k0_part14_skel on_
  simp only [Prog.lift, Prog.bind_op, Prog.bind_ret, Prog.pure_eq_ret]
  refine st_sendA A K c (2, 1) (dev14_eq c) (off6_eq c 2 1) (off5_eq c 2) (sA_of 2 2 rfl) (rA_of _ _ (off4_eq c 2)) rfl (by decide) (by decide) (by decide) ?_
  exact h _ _

theorem part15 {k : _ → Prog (TpuEff nD τ sig (Elt F) Λ₀ .tc) α} {v19 v507 w : BitVec 32}
    (h : ∀ w1 w2, CR A K c T15 ⊢ WP c (k ⟨w1, w2, slabRaw A c (zOf c 3)⟩) Q) :
    CR A K c T14 ⊢ WP c (on_ k0_part15 c v19 (k0_pay10 (e0ld A c)) (k0_pay11 (e1ld A c)) v507 w >>= k) Q := by
  rw [k0_part15_eq_skeleton]
  unfold k0_part15_skel on_
  simp only [Prog.lift, Prog.bind_op, Prog.bind_ret, Prog.pure_eq_ret]
  refine st_sendA A K c (2, 2) (dev15_eq c) (off6_eq c 2 2) (off5_eq c 2) (sA_of 3 2 rfl) (rA_of _ _ (off4_eq c 2)) rfl (by decide) (by decide) (by decide) ?_
  refine st_loadXz A K c 3 (off1_eq c 3) ?_
  refine st_loadW0 A K c 3 (off2_eq c 3) rfl ?_
  refine st_loadW1 A K c 3 (off2_eq c 3) rfl ?_
  exact h _ _

theorem part16 {k : _ → Prog (TpuEff nD τ sig (Elt F) Λ₀ .tc) α} {v19 v29 v528 v529 : BitVec 32}
    (h : ∀ w1 w2 w3 w4, CR A K c T16 ⊢ WP c (k ⟨w1, w2, w3, w4⟩) Q) :
    CR A K c T15 ⊢ WP c (on_ k0_part16 c v19 v29 v528 v529 (slabRaw A c (zOf c 3)) >>= k) Q := by
  rw [k0_part16_eq_skeleton]
  unfold k0_part16_skel on_
  simp only [Prog.lift, Prog.bind_op, Prog.bind_ret, Prog.pure_eq_ret]
  refine st_loadSlabj A K c 3 (off3_eq c 3) (by decide) fun _ => ?_
  refine st_storeSlab A K c 3 (off3_eq c 3) (slab18 A c _) (by decide) (by decide) ?_
  refine st_sendA A K c (3, 0) (dev16_eq c) (off6_eq c 3 0) (off5_eq c 3) (sA_of 1 3 rfl) (rA_of _ _ (off4_eq c 3)) rfl (by decide) (by decide) (by decide) ?_
  exact h _ _ _ _

theorem part17 {k : _ → Prog (TpuEff nD τ sig (Elt F) Λ₀ .tc) α} {v19 v29 v528 v580 v581 : BitVec 32} {v582 : BitVec 1} {w : BitVec 32}
    (h : ∀ w1, CR A K c T17 ⊢ WP c (k w1) Q) :
    CR A K c T16 ⊢ WP c (on_ k0_part17 c v19 v29 v528 v580 v581 v582 w >>= k) Q := by
  rw [k0_part17_eq_skeleton]
  unfold k0_part17_skel on_
  simp only [Prog.lift, Prog.bind_op, Prog.bind_ret, Prog.pure_eq_ret]
  refine st_sendA A K c (3, 1) (dev17_eq c) (off6_eq c 3 1) (off5_eq c 3) (sA_of 2 3 rfl) (rA_of _ _ (off4_eq c 3)) rfl (by decide) (by decide) (by decide) ?_
  exact h _

theorem part18 {k : _ → Prog (TpuEff nD τ sig (Elt F) Λ₀ .tc) α} {v19 v29 v618 : BitVec 32}
    (h : ∀ w1 w2 w3 w4, CR A K c T18 ⊢ WP c (k ⟨w1, own0 A c (zOf c 0), w2, w3, w4⟩) Q) :
    CR A K c T17 ⊢ WP c (on_ k0_part18 c v19 v29 v618 >>= k) Q := by
  rw [k0_part18_eq_skeleton]
  unfold k0_part18_skel on_
  simp only [Prog.lift, Prog.bind_op, Prog.bind_ret, Prog.pure_eq_ret]
  refine st_sendA A K c (3, 2) (dev18_eq c) (off6_eq c 3 2) (off5_eq c 3) (sA_of 3 3 rfl) (rA_of _ _ (off4_eq c 3)) rfl (by decide) (by decide) (by decide) ?_
  refine st_loadOwn A K c 0 (off7_eq c 0) (by decide) ?_
  exact h _ _ _ _

end Cert.Moe
-- ==== Proof.Body2.lean ====
/-
# The body, second half: the sums inside the plane, the exchange between planes, the closing waits
-/
module

public import proofs.«01_k».proof.Proof.Body1

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (A : Args F) (K : Dev nD × Fin 41 → ℕ) (c : Dev nD) {α : Type}

variable {Q : α → sProp (MT nD τ sig Unit (Elt F) ℕ UU ℕ)}

/-! ## The states, from the sums on -/

def T19 : St := (T18.recvA (0, 0)).recvA (0, 1)
def T20 : St := (T19.recvA (0, 2)).storeCol 0
def T21 : St := T20.sendB 0
def T22 : St := T21.recvA (1, 0)
def T23 : St := (T22.recvA (1, 1)).recvA (1, 2)
def T24 : St := (T23.storeCol 1).sendB 1
def T25 : St := T24.recvA (2, 0)
def T26 : St := (T25.recvA (2, 1)).recvA (2, 2)
def T27 : St := (T26.storeCol 2).sendB 2
def T28 : St := T27.recvA (3, 0)
def T29 : St := (T28.recvA (3, 1)).recvA (3, 2)
def T30 : St := T29.recvB 0
def T31 : St := T30.recvB 1
def T32 : St := ((((T31.recvB 2).storeOut).doneA (0, 0)).doneA (0, 1)).doneA (0, 2)
def T33 : St := ((((T32.doneA (1, 0)).doneA (1, 1)).doneA (1, 2)).doneA (2, 0)).doneA (2, 1)
def T34 : St := ((((T33.doneA (2, 2)).doneA (3, 0)).doneA (3, 1)).doneA (3, 2)).doneB 0
def T35 : St := (T34.doneB 1).doneB 2

/-! ## The running sums as the body writes them -/

abbrev up4 (X : Vec F S32x512 .bf16) : Vec F S1x1x32x512 .bf16 := up (s := S1x1x32x512) squeezes_S1x1x32x512_S32x512.numel_eq X
abbrev up3 (X : Vec F S32x512 .bf16) : Vec F S1x32x512 .bf16 := up (s := S1x32x512) squeezes_S1x32x512_S32x512.numel_eq X
theorem sc4 (X : Vec F S32x512 .bf16) : shapeCast S32x512 (up4 X) shapeCasts_S1x1x32x512_S32x512 = X := shapeCast_up _ X
theorem sc3 (X : Vec F S32x512 .bf16) : shapeCast S32x512 (up3 X) shapeCasts_S1x32x512_S32x512 = X := shapeCast_up _ X

variable (a : FVec F S32x512 .f32) (X Y : Vec F S32x512 .bf16)
theorem add20 : k0_pay20 a (up4 X) = addb a X := by unfold k0_pay20 addb; rw [sc4]
theorem add23 : k0_pay23 a (up4 X) = addb a X := by unfold k0_pay23 addb; rw [sc4]
theorem add27 : k0_pay27 a (up4 X) = addb a X := by unfold k0_pay27 addb; rw [sc4]
theorem add31 : k0_pay31 a (up4 X) = addb a X := by unfold k0_pay31 addb; rw [sc4]
theorem add32 : k0_pay32 a (up4 X) = addb a X := by unfold k0_pay32 addb; rw [sc4]
theorem add34 : k0_pay34 a (up3 X) = addb a X := by unfold k0_pay34 addb; rw [sc3]
theorem add35 : k0_pay35 a (up3 X) = addb a X := by unfold k0_pay35 addb; rw [sc3]
theorem add28 : k0_pay28 a (up4 X) (up4 Y) = addb (addb a X) Y := by unfold k0_pay28 addb; rw [sc4, sc4]
theorem add33 : k0_pay33 a (up4 X) (up3 Y) = addb (addb a X) Y := by unfold k0_pay33 addb; rw [sc4, sc3]
theorem add24 : k0_pay24 a (up4 X) (up4 Y) = truncf .bf16 (addb (addb a X) Y) bitsLt_bf16_f32 := by unfold k0_pay24 addb; rw [sc4, sc4]
theorem add21 : k0_pay21 a (up4 X) (up4 Y) = shapeCast S1x32x512 (truncf .bf16 (addb (addb a X) Y) bitsLt_bf16_f32) shapeCasts_S32x512_S1x32x512 := by
  unfold k0_pay21 addb; rw [sc4, sc4]

theorem part19 {k : _ → Prog (TpuEff nD τ sig (Elt F) Λ₀ .tc) α} {v2 v29 v639 v648 v649 : BitVec 32} {v654 : BitVec 1}
    (h : ∀ w1, CR A K c T19 ⊢ WP c (k ⟨own1 A c (zOf c 0), w1⟩) Q) :
    CR A K c T18 ⊢ WP c (on_ k0_part19 c v2 v29 v639 (own0 A c (zOf c 0)) v648 v649 v654 >>= k) Q := by
  rw [k0_part19_eq_skeleton]
  unfold k0_part19_skel on_
  simp only [Prog.lift, Prog.bind_op, Prog.bind_ret, Prog.pure_eq_ret]
  refine st_recvA A K c (0, 0) (fun K' => wSlot c K') (rA_of _ _ (off8_eq c 0 0)) (by decide) (by decide) (by decide) ?_
  refine st_loadSlot A K c (0, 0) (off10_eq c 0 0) (by decide) ?_
  refine st_recvA A K c (0, 1) (fun K' => wSlot c K') (rA_of _ _ (off8_eq c 1 0)) (by decide) (by decide) (by decide) ?_
  rw [add20]
  exact h _

theorem part20 {k : _ → Prog (TpuEff nD τ sig (Elt F) Λ₀ .tc) α} {v2 v29 v639 v680 : BitVec 32}
    (h : ∀ w1, CR A K c T20 ⊢ WP c (k w1) Q) :
    CR A K c T19 ⊢ WP c (on_ k0_part20 c v2 v29 v639 (own1 A c (zOf c 0)) v680 >>= k) Q := by
  rw [k0_part20_eq_skeleton]
  unfold k0_part20_skel on_
  simp only [Prog.lift, Prog.bind_op, Prog.bind_ret, Prog.pure_eq_ret]
  refine st_loadSlot A K c (0, 1) (off10_eq c 1 0) (by decide) ?_
  refine st_recvA A K c (0, 2) (fun K' => wSlot c K') (rA_of _ _ (off8_eq c 2 0)) (by decide) (by decide) (by decide) ?_
  refine st_loadSlot A K c (0, 2) (off10_eq c 2 0) (by decide) ?_
  refine st_loadColj A K c 0 rfl (by decide) fun _ => ?_
  refine st_storeCol A K c 0 rfl (add21 _ _ _) (by decide) (by decide) ?_
  exact h _

theorem part21 {k : _ → Prog (TpuEff nD τ sig (Elt F) Λ₀ .tc) α} {v19 v29 v722 : BitVec 32}
    (h : ∀ w1 w2 w3 w4 w5, CR A K c T21 ⊢ WP c (k ⟨w1, own0 A c (zOf c 1), w2, w3, w4, w5⟩) Q) :
    CR A K c T20 ⊢ WP c (on_ k0_part21 c v19 v29 v722 >>= k) Q := by
  rw [k0_part21_eq_skeleton]
  unfold k0_part21_skel on_
  simp only [Prog.lift, Prog.bind_op, Prog.bind_ret, Prog.pure_eq_ret]
  refine st_sendB A K c 0 (dev19_eq c) rfl (off12_eq c) (sB_of 0 rfl) (rB_of _ (off11_eq c)) rfl (by decide) (by decide) (by decide) ?_
  refine st_loadOwn A K c 1 (off7_eq c 1) (by decide) ?_
  exact h _ _ _ _ _

theorem part22 {k : _ → Prog (TpuEff nD τ sig (Elt F) Λ₀ .tc) α} {v2 v29 v745 v754 v755 : BitVec 32} {v756 : BitVec 1} {w : BitVec 32}
    (h : ∀ w1, CR A K c T22 ⊢ WP c (k ⟨own1 A c (zOf c 1), w1⟩) Q) :
    CR A K c T21 ⊢ WP c (on_ k0_part22 c v2 v29 v745 (own0 A c (zOf c 1)) v754 v755 v756 w >>= k) Q := by
  rw [k0_part22_eq_skeleton]
  unfold k0_part22_skel on_
  simp only [Prog.lift, Prog.bind_op, Prog.bind_ret, Prog.pure_eq_ret]
  refine st_recvA A K c (1, 0) (fun K' => wSlot c K') (rA_of _ _ (off8_eq c 0 1)) (by decide) (by decide) (by decide) ?_
  refine st_loadSlot A K c (1, 0) (off10_eq c 0 1) (by decide) ?_
  rw [add23]
  exact h _

theorem part23 {k : _ → Prog (TpuEff nD τ sig (Elt F) Λ₀ .tc) α} {v2 v29 v745 v786 : BitVec 32}
    (h : ∀ w1, CR A K c T23 ⊢ WP c (k ⟨colVal A c (zOf c 1), w1⟩) Q) :
    CR A K c T22 ⊢ WP c (on_ k0_part23 c v2 v29 v745 (own1 A c (zOf c 1)) v786 >>= k) Q := by
  rw [k0_part23_eq_skeleton]
  unfold k0_part23_skel on_
  simp only [Prog.lift, Prog.bind_op, Prog.bind_ret, Prog.pure_eq_ret]
  refine st_recvA A K c (1, 1) (fun K' => wSlot c K') (rA_of _ _ (off8_eq c 1 1)) (by decide) (by decide) (by decide) ?_
  refine st_loadSlot A K c (1, 1) (off10_eq c 1 1) (by decide) ?_
  refine st_recvA A K c (1, 2) (fun K' => wSlot c K') (rA_of _ _ (off8_eq c 2 1)) (by decide) (by decide) (by decide) ?_
  refine st_loadSlot A K c (1, 2) (off10_eq c 2 1) (by decide) ?_
  refine st_loadColj A K c 1 rfl (by decide) fun _ => ?_
  rw [add24]
  exact h _

theorem part24 {k : _ → Prog (TpuEff nD τ sig (Elt F) Λ₀ .tc) α} {v19 v29 v745 : BitVec 32} {v825 : Vec F S1x32x512 .bf16}
    (h : ∀ w1 w2 w3 w4 w5, CR A K c T24 ⊢ WP c (k ⟨w1, own0 A c (zOf c 2), w2, w3, w4, w5⟩) Q) :
    CR A K c T23 ⊢ WP c (on_ k0_part24 c v19 v29 v745 (colVal A c (zOf c 1)) v825 >>= k) Q := by
  rw [k0_part24_eq_skeleton]
  unfold k0_part24_skel on_
  simp only [Prog.lift, Prog.bind_op, Prog.bind_ret, Prog.pure_eq_ret]
  refine st_storeCol A K c 1 rfl (hn := shapeCasts_S32x512_S1x32x512) rfl (by decide) (by decide) ?_
  refine st_sendB A K c 1 (dev20_eq c) rfl (off12_eq c) (sB_of 1 rfl) (rB_of _ (off11_eq c)) rfl (by decide) (by decide) (by decide) ?_
  refine st_loadOwn A K c 2 (off7_eq c 2) (by decide) ?_
  exact h _ _ _ _ _

theorem part25 {k : _ → Prog (TpuEff nD τ sig (Elt F) Λ₀ .tc) α} {v2 v29 v851 v858 u : BitVec 32} {v859 : BitVec 1} {w : BitVec 32}
    (h : ∀ w1, CR A K c T25 ⊢ WP c (k ⟨own1 A c (zOf c 2), w1⟩) Q) :
    CR A K c T24 ⊢ WP c (on_ k0_part25 c v2 v29 v851 (own0 A c (zOf c 2)) v858 u v859 w >>= k) Q := by
  rw [k0_part25_eq_skeleton]
  unfold k0_part25_skel on_
  simp only [Prog.lift, Prog.bind_op, Prog.bind_ret, Prog.pure_eq_ret]
  refine st_recvA A K c (2, 0) (fun K' => wSlot c K') (rA_of _ _ (off8_eq c 0 2)) (by decide) (by decide) (by decide) ?_
  refine st_loadSlot A K c (2, 0) (off10_eq c 0 2) (by decide) ?_
  rw [add27]
  exact h _

theorem part26 {k : _ → Prog (TpuEff nD τ sig (Elt F) Λ₀ .tc) α} {v2 v29 v851 v892 : BitVec 32}
    (h : CR A K c T26 ⊢ WP c (k (own3 A c (zOf c 2))) Q) :
    CR A K c T25 ⊢ WP c (on_ k0_part26 c v2 v29 v851 (own1 A c (zOf c 2)) v892 >>= k) Q := by
  rw [k0_part26_eq_skeleton]
  unfold k0_part26_skel on_
  simp only [Prog.lift, Prog.bind_op, Prog.bind_ret, Prog.pure_eq_ret]
  refine st_recvA A K c (2, 1) (fun K' => wSlot c K') (rA_of _ _ (off8_eq c 1 2)) (by decide) (by decide) (by decide) ?_
  refine st_loadSlot A K c (2, 1) (off10_eq c 1 2) (by decide) ?_
  refine st_recvA A K c (2, 2) (fun K' => wSlot c K') (rA_of _ _ (off8_eq c 2 2)) (by decide) (by decide) (by decide) ?_
  refine st_loadSlot A K c (2, 2) (off10_eq c 2 2) (by decide) ?_
  rw [add28]
  exact h

theorem part27 {k : _ → Prog (TpuEff nD τ sig (Elt F) Λ₀ .tc) α} {v19 v29 v851 : BitVec 32}
    (h : ∀ w1 w2, CR A K c T27 ⊢ WP c (k ⟨w1, own0 A c (zOf c 3), w2⟩) Q) :
    CR A K c T26 ⊢ WP c (on_ k0_part27 c v19 v29 v851 (own3 A c (zOf c 2)) >>= k) Q := by
  rw [k0_part27_eq_skeleton]
  unfold k0_part27_skel on_
  simp only [Prog.lift, Prog.bind_op, Prog.bind_ret, Prog.pure_eq_ret]
  refine st_loadColj A K c 2 rfl (by decide) fun _ => ?_
  refine st_storeCol A K c 2 rfl (hn := shapeCasts_S32x512_S1x32x512) rfl (by decide) (by decide) ?_
  refine st_sendB A K c 2 (dev21_eq c) rfl (off12_eq c) (sB_of 2 rfl) (rB_of _ (off11_eq c)) rfl (by decide) (by decide) (by decide) ?_
  refine st_loadOwn A K c 3 (off7_eq c 3) (by decide) ?_
  exact h _ _

theorem part28 {k : _ → Prog (TpuEff nD τ sig (Elt F) Λ₀ .tc) α} {v2 v29 v957 w : BitVec 32}
    (h : ∀ w1, CR A K c T28 ⊢ WP c (k ⟨own1 A c (zOf c 3), w1⟩) Q) :
    CR A K c T27 ⊢ WP c (on_ k0_part28 c v2 v29 v957 (own0 A c (zOf c 3)) w >>= k) Q := by
  rw [k0_part28_eq_skeleton]
  unfold k0_part28_skel on_
  simp only [Prog.lift, Prog.bind_op, Prog.bind_ret, Prog.pure_eq_ret]
  refine st_recvA A K c (3, 0) (fun K' => wSlot c K') (rA_of _ _ (off8_eq c 0 3)) (by decide) (by decide) (by decide) ?_
  refine st_loadSlot A K c (3, 0) (off10_eq c 0 3) (by decide) ?_
  rw [add31]
  exact h _

theorem part29 {k : _ → Prog (TpuEff nD τ sig (Elt F) Λ₀ .tc) α} {v2 v29 v957 v998 : BitVec 32}
    (h : CR A K c T29 ⊢ WP c (k (own2 A c (zOf c 3))) Q) :
    CR A K c T28 ⊢ WP c (on_ k0_part29 c v2 v29 v957 (own1 A c (zOf c 3)) v998 >>= k) Q := by
  rw [k0_part29_eq_skeleton]
  unfold k0_part29_skel on_
  simp only [Prog.lift, Prog.bind_op, Prog.bind_ret, Prog.pure_eq_ret]
  refine st_recvA A K c (3, 1) (fun K' => wSlot c K') (rA_of _ _ (off8_eq c 1 3)) (by decide) (by decide) (by decide) ?_
  refine st_loadSlot A K c (3, 1) (off10_eq c 1 3) (by decide) ?_
  refine st_recvA A K c (3, 2) (fun K' => wSlot c K') (rA_of _ _ (off8_eq c 2 3)) (by decide) (by decide) (by decide) ?_
  rw [add32]
  exact h

theorem part30 {k : _ → Prog (TpuEff nD τ sig (Elt F) Λ₀ .tc) α} {v2 v19 : BitVec 32}
    (h : ∀ w1 w2 w3 w4 w5, CR A K c T30 ⊢ WP c (k ⟨fin1 A c, w1, w2, w3, w4, w5⟩) Q) :
    CR A K c T29 ⊢ WP c (on_ k0_part30 c v2 v19 (own2 A c (zOf c 3)) >>= k) Q := by
  rw [k0_part30_eq_skeleton]
  unfold k0_part30_skel on_
  simp only [Prog.lift, Prog.bind_op, Prog.bind_ret, Prog.pure_eq_ret]
  refine st_loadSlot A K c (3, 2) (off10_eq c 2 3) (by decide) ?_
  refine st_recvB A K c 0 (fun K' => wSlot2 c K') (rB_of _ (off13_eq c 0)) (by decide) (by decide) (by decide) (by decide) ?_
  refine st_loadSlot2 A K c 0 (off15_eq c 0) (by decide) ?_
  rw [add33, zOf_last]
  exact h _ _ _ _ _

theorem part31 {k : _ → Prog (TpuEff nD τ sig (Elt F) Λ₀ .tc) α} {v2 v19 v1062 v1063 : BitVec 32} {v1064 v1065 : BitVec 1} {w : BitVec 32}
    (h : ∀ w1, CR A K c T31 ⊢ WP c (k ⟨fin2 A c, w1⟩) Q) :
    CR A K c T30 ⊢ WP c (on_ k0_part31 c v2 v19 (fin1 A c) v1062 v1063 v1064 v1065 w >>= k) Q := by
  rw [k0_part31_eq_skeleton]
  unfold k0_part31_skel on_
  simp only [Prog.lift, Prog.bind_op, Prog.bind_ret, Prog.pure_eq_ret]
  refine st_recvB A K c 1 (fun K' => wSlot2 c K') (rB_of _ (off13_eq c 1)) (by decide) (by decide) (by decide) (by decide) ?_
  refine st_loadSlot2 A K c 1 (off15_eq c 1) (by decide) ?_
  rw [add34]
  exact h _

theorem part32 {k : _ → Prog (TpuEff nD τ sig (Elt F) Λ₀ .tc) α} {v1094 : BitVec 32}
    (h : CR A K c T32 ⊢ WP c (k ⟨⟩) Q) :
    CR A K c T31 ⊢ WP c (on_ k0_part32 c (fin2 A c) v1094 >>= k) Q := by
  rw [k0_part32_eq_skeleton]
  unfold k0_part32_skel on_
  simp only [Prog.lift, Prog.bind_op, Prog.bind_ret, Prog.pure_eq_ret]
  refine st_recvB A K c 2 (fun K' => wSlot2 c K') (rB_of _ (off13_eq c 2)) (by decide) (by decide) (by decide) (by decide) ?_
  refine st_loadSlot2 A K c 2 (off15_eq c 2) (by decide) ?_
  refine st_loadOutj A K c rfl fun _ => ?_
  refine st_storeOut A K c (add35 _ _) rfl ?_
  refine st_doneA A K c (0, 0) (fun K' => wBlk c K') (sA_of 1 0 rfl) (by decide) (by decide) (by decide) ?_
  refine st_doneA A K c (0, 1) (fun K' => wBlk c K') (sA_of 2 0 rfl) (by decide) (by decide) (by decide) ?_
  refine st_doneA A K c (0, 2) (fun K' => wBlk c K') (sA_of 3 0 rfl) (by decide) (by decide) (by decide) ?_
  exact h

theorem part33 {k : _ → Prog (TpuEff nD τ sig (Elt F) Λ₀ .tc) α}
    (h : CR A K c T33 ⊢ WP c (k ⟨⟩) Q) : CR A K c T32 ⊢ WP c (on_ k0_part33 c >>= k) Q := by
  rw [k0_part33_eq_skeleton]
  unfold k0_part33_skel on_
  simp only [Prog.lift, Prog.bind_op, Prog.bind_ret, Prog.pure_eq_ret]
  refine st_doneA A K c (1, 0) (fun K' => wBlk c K') (sA_of 1 1 rfl) (by decide) (by decide) (by decide) ?_
  refine st_doneA A K c (1, 1) (fun K' => wBlk c K') (sA_of 2 1 rfl) (by decide) (by decide) (by decide) ?_
  refine st_doneA A K c (1, 2) (fun K' => wBlk c K') (sA_of 3 1 rfl) (by decide) (by decide) (by decide) ?_
  refine st_doneA A K c (2, 0) (fun K' => wBlk c K') (sA_of 1 2 rfl) (by decide) (by decide) (by decide) ?_
  refine st_doneA A K c (2, 1) (fun K' => wBlk c K') (sA_of 2 2 rfl) (by decide) (by decide) (by decide) ?_
  exact h

theorem part34 {k : _ → Prog (TpuEff nD τ sig (Elt F) Λ₀ .tc) α}
    (h : CR A K c T34 ⊢ WP c (k ⟨⟩) Q) : CR A K c T33 ⊢ WP c (on_ k0_part34 c >>= k) Q := by
  rw [k0_part34_eq_skeleton]
  unfold k0_part34_skel on_
  simp only [Prog.lift, Prog.bind_op, Prog.bind_ret, Prog.pure_eq_ret]
  refine st_doneA A K c (2, 2) (fun K' => wBlk c K') (sA_of 3 2 rfl) (by decide) (by decide) (by decide) ?_
  refine st_doneA A K c (3, 0) (fun K' => wBlk c K') (sA_of 1 3 rfl) (by decide) (by decide) (by decide) ?_
  refine st_doneA A K c (3, 1) (fun K' => wBlk c K') (sA_of 2 3 rfl) (by decide) (by decide) (by decide) ?_
  refine st_doneA A K c (3, 2) (fun K' => wBlk c K') (sA_of 3 3 rfl) (by decide) (by decide) (by decide) ?_
  refine st_doneB A K c 0 (fun K' => wCol c K') (sB_of 0 rfl) (by decide) (by decide) (by decide) ?_
  exact h

/-! ## The whole body -/

/-- The state at the end: everything sent has come back, every slot holds what was sent to it. -/
def S₁ : St := ⟨∅, true, true, true, true, ∅, Finset.univ, ∅, ∅, ∅, ∅, ∅, Finset.univ, ∅, ∅, ∅, ∅⟩

theorem T35_eq : T35 = S₁ := by
  have e : ∀ S : St, S.sg = ∅ → S.bw = true → S.w0 = true → S.w1 = true → S.od = true → S.sl = ∅ → S.bl = Finset.univ → S.sa = ∅ → S.ca = ∅ → S.wa = ∅
      → S.ra = ∅ → S.cu = ∅ → S.ch = Finset.univ → S.sb = ∅ → S.cb = ∅ → S.wb = ∅ → S.rb = ∅ → S = S₁ := by
    intro S; rcases S with ⟨⟩; rintro rfl rfl rfl rfl rfl rfl rfl rfl rfl rfl rfl rfl rfl rfl rfl rfl rfl; rfl
  exact e _ (by decide) rfl rfl rfl rfl (by decide) (by decide) (by decide) (by decide) (by decide) (by decide) (by decide) (by decide) (by decide)
    (by decide) (by decide) (by decide)

theorem body_wp {Q : PUnit → sProp (MT nD τ sig Unit (Elt F) ℕ UU ℕ)} (h : CR A K c S₁ ⊢ Q ⟨⟩) :
    CR A K c S₀ ⊢ WP c (on_ (cc0_body (F := F))) Q := by
  rw [cc0_body_eq_skeleton]
  unfold cc0_body_skel on_
  refine part1 A K c fun v19 v29 v31 v34 v35 v36 w => ?_
  refine part2 A K c fun v61 v65 v70 v71 => ?_
  refine part3 A K c fun v104 w => ?_
  refine part4 A K c ?_
  refine part5 A K c ?_
  refine part6 A K c fun v195 => ?_
  refine part7 A K c fun _ _ _ _ _ => ?_
  refine part8 A K c fun _ _ => ?_
  refine part9 A K c fun _ => ?_
  refine part10 A K c fun _ _ _ _ _ => ?_
  refine part11 A K c fun _ => ?_
  refine part12 A K c fun _ => ?_
  refine part13 A K c fun _ _ _ _ => ?_
  refine part14 A K c fun _ _ => ?_
  refine part15 A K c fun _ _ => ?_
  refine part16 A K c fun _ _ _ _ => ?_
  refine part17 A K c fun _ => ?_
  refine part18 A K c fun _ _ _ _ => ?_
  refine part19 A K c fun _ => ?_
  refine part20 A K c fun _ => ?_
  refine part21 A K c fun _ _ _ _ _ => ?_
  refine part22 A K c fun _ => ?_
  refine part23 A K c fun _ => ?_
  refine part24 A K c fun _ _ _ _ _ => ?_
  refine part25 A K c fun _ => ?_
  refine part26 A K c ?_
  refine part27 A K c fun _ _ => ?_
  refine part28 A K c fun _ => ?_
  refine part29 A K c ?_
  refine part30 A K c fun _ _ _ _ _ => ?_
  refine part31 A K c fun _ => ?_
  refine part32 A K c ?_
  refine part33 A K c ?_
  refine part34 A K c ?_
  simp only [Prog.lift, Prog.bind_op, Prog.bind_ret, Prog.pure_eq_ret]
  refine st_doneB A K c 1 (fun K' => wCol c K') (sB_of 1 rfl) (by decide) (by decide) (by decide) ?_
  refine st_doneB A K c 2 (fun K' => wCol c K') (sB_of 2 rfl) (by decide) (by decide) (by decide) ?_
  show CR A K c T35 ⊢ _
  rw [T35_eq, WP, wp_ret]
  exact h.trans fupd_intro

end Cert.Moe
-- ==== Proof.Cells.lean ====
/-
# The cells, the tokens and the credit at launch

A device's forty-one cells, grouped by use; the duty tokens as they are made (with the cell's owner) and as they are used (with
the device that pays the duty); the credit the launch gives each device.
-/
module

public import proofs.«01_k».proof.Proof.State

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells by use -/

/-- The semaphores no transfer of this device uses. -/
abbrev II : Type := Fin 4 ⊕ Fin 4 ⊕ Unit ⊕ Unit
/-- Barrier, send and receive of the first exchange, send and receive of the second, unused. -/
abbrev JJ : Type := Unit ⊕ PP ⊕ PP ⊕ Fin 3 ⊕ Fin 3 ⊕ II

def idleSem (c : Dev nD) : II → SemLoc sig
  | .inl zk => .dma (sA 0 zk)
  | .inr (.inl z) => .dma (rA (wd c) z)
  | .inr (.inr (.inl _)) => .dma (sB 3)
  | .inr (.inr (.inr _)) => .dma (rB (gd c))

def semOf (c : Dev nD) : JJ → SemLoc sig
  | .inl _ => .reg barS
  | .inr (.inl p) => .dma (sA p.2.succ p.1)
  | .inr (.inr (.inl p)) => .dma (rA (wOf c p.2.succ) (zOf c p.1))
  | .inr (.inr (.inr (.inl k))) => .dma (sB k.castSucc)
  | .inr (.inr (.inr (.inr (.inl k)))) => .dma (rB (gOf c k.succ))
  | .inr (.inr (.inr (.inr (.inr q)))) => idleSem c q

def semIx : SemLoc sig → Fin 41
  | .reg _ => 0
  | .dma q => Fin.ofNat 41 (q.val - 4)

def cellIx (c : Dev nD) (j : JJ) : Fin 41 := semIx (semOf c j)

theorem cellIx_bij (c : Dev nD) : Function.Bijective (cellIx c) := by
  refine (Fintype.bijective_iff_injective_and_card _).2 ⟨?_, rfl⟩
  revert c; decide +kernel
theorem csem_ix (c : Dev nD) (j : JJ) : csem (cellIx c j) = semOf c j := by revert c j; decide +kernel
theorem csem_inj : Function.Injective csem := by decide +kernel

abbrev cellAt (c : Dev nD) (j : JJ) : GSem nD τ sig := ((c : Thread nD τ), semOf c j)

theorem cellAt_iff {c d : Dev nD} {j i : JJ} : cellAt c j = cellAt d i ↔ c = d ∧ j = i := by
  constructor
  · intro h
    have h1 : c = d := congrArg (fun g : GSem nD τ sig => g.1.1) h
    subst h1
    refine ⟨rfl, (cellIx_bij c).1 ?_⟩
    have h2 : semOf c j = semOf c i := congrArg Prod.snd h
    unfold cellIx; rw [h2]
  · rintro ⟨rfl, rfl⟩; rfl

theorem kcell_inj : Function.Injective kcell := by
  rintro ⟨c, k⟩ ⟨c', k'⟩ h
  have h1 : c = c' := congrArg (fun g : GSem nD τ sig => g.1.1) h
  subst h1
  have h2 : csem k = csem k' := congrArg Prod.snd h
  rw [csem_inj h2]

omit [FloatOps F] in
theorem cells_all (c : Dev nD) (Φ : GSem nD τ sig → sProp 𝕄) :
    (bigSep Finset.univ fun i : Fin 41 => Φ (kcell (c, i))) = bigSep Finset.univ fun j : JJ => Φ (cellAt c j) := by
  rw [bigSep_univ_equiv (Equiv.ofBijective _ (cellIx_bij c))]
  refine bigSep_congr fun j _ => ?_
  show Φ ((c : Thread nD τ), csem (cellIx c j)) = _
  rw [csem_ix]
omit [FloatOps F] in
theorem cells_split (c : Dev nD) (Φ : GSem nD τ sig → sProp 𝕄) :
    (bigSep Finset.univ fun i : Fin 41 => Φ (kcell (c, i)))
      = iprop(Φ (barCell c) ∗ (bigSep Finset.univ fun p => Φ (saCell c p)) ∗ (bigSep Finset.univ fun p => Φ (raCell c p))
        ∗ (bigSep Finset.univ fun k => Φ (sbCell c k)) ∗ (bigSep Finset.univ fun k => Φ (rbCell c k))
        ∗ bigSep Finset.univ fun q : II => Φ ((c : Thread nD τ), idleSem c q)) := by
  rw [cells_all, bigSep_univ_sum, bigSep_univ_sum, bigSep_univ_sum, bigSep_univ_sum, bigSep_univ_sum,
    show (Finset.univ : Finset Unit) = {()} from rfl, bigSep_singleton]
  rfl

/-! ## The tokens -/

def aroundDD : Dev nD × DD ≃ Dev nD × DD where
  toFun x := (nbr x.2 x.1, back x.2)
  invFun x := (nbr x.2 x.1, back x.2)
  left_inv x := by obtain ⟨c, j⟩ := x; exact Prod.ext (nbr_back j c) (back_back j)
  right_inv x := by obtain ⟨c, j⟩ := x; exact Prod.ext (nbr_back j c) (back_back j)
theorem nbr_back_at (b : Bool) (k : Fin 3) (c : Dev nD) : nbr (.mk b k.rev) (nbr (.mk b k) c) = c := nbr_back (.mk b k) c
def aroundA : Dev nD × PP ≃ Dev nD × PP where
  toFun x := (nbr (.mk false x.2.2) x.1, (x.2.1, x.2.2.rev))
  invFun x := (nbr (.mk false x.2.2) x.1, (x.2.1, x.2.2.rev))
  left_inv x := by obtain ⟨c, z, k⟩ := x; exact Prod.ext (nbr_back_at false k c) (Prod.ext rfl (Fin.rev_rev k))
  right_inv x := by obtain ⟨c, z, k⟩ := x; exact Prod.ext (nbr_back_at false k c) (Prod.ext rfl (Fin.rev_rev k))
def aroundB : Dev nD × Fin 3 ≃ Dev nD × Fin 3 where
  toFun x := (nbr (.mk true x.2) x.1, x.2.rev)
  invFun x := (nbr (.mk true x.2) x.1, x.2.rev)
  left_inv x := by obtain ⟨c, k⟩ := x; exact Prod.ext (nbr_back_at true k c) (Fin.rev_rev k)
  right_inv x := by obtain ⟨c, k⟩ := x; exact Prod.ext (nbr_back_at true k c) (Fin.rev_rev k)

omit [FloatOps F] in
/-- A family over the devices and an index, the devices permuted. -/
theorem around {I : Type} [Fintype I] (e : Dev nD × I ≃ Dev nD × I) (Φ : Dev nD → I → sProp 𝕄) :
    (bigSep Finset.univ fun c => bigSep Finset.univ fun i => Φ c i)
      = bigSep Finset.univ fun c => bigSep Finset.univ fun i => Φ (e (c, i)).1 (e (c, i)).2 := by
  have h := bigSep_univ_prod (fun x : Dev nD × I => Φ x.1 x.2)
  have h' := bigSep_univ_prod (fun x : Dev nD × I => Φ (e x).1 (e x).2)
  exact h.symm.trans ((bigSep_univ_equiv e _).trans h')

abbrev d0 : DD := .mk false 0

/-- The tokens of a device's own cells. -/
def toks (c : Dev nD) : sProp 𝕄 := bigSep Finset.univ fun i : Fin 41 => bigSep Finset.univ fun d : DD => dutyTok ER (kcell (c, i)) 0 d
/-- Those with a duty. -/
def ownToks (c : Dev nD) : sProp 𝕄 :=
  iprop((bigSep Finset.univ fun j : DD => dutyTok ER (barCell c) 0 j) ∗ (bigSep Finset.univ fun p : PP => dutyTok ER (saCell c p) 0 d0)
    ∗ (bigSep Finset.univ fun p : PP => dutyTok ER (raCell c p) 0 d0) ∗ (bigSep Finset.univ fun k : Fin 3 => dutyTok ER (sbCell c k) 0 d0)
    ∗ (bigSep Finset.univ fun k : Fin 3 => dutyTok ER (rbCell c k) 0 d0))
/-- The tokens of the duties the device pays. -/
def payToks (c : Dev nD) : sProp 𝕄 :=
  iprop((bigSep Finset.univ fun j : DD => dutyTok ER (barCell (nbr j c)) 0 (back j)) ∗ tAR c Finset.univ ∗ tBR c Finset.univ)

omit [FloatOps F] in
theorem tok_one (g : GSem nD τ sig) : (bigSep Finset.univ fun d : DD => (dutyTok ER g 0 d : sProp 𝕄)) ⊢ dutyTok ER g 0 d0 :=
  bigSep_elim (Finset.mem_univ d0)
omit [FloatOps F] in
theorem tok_each {I : Type} [DecidableEq I] [Fintype I] (f : I → GSem nD τ sig) :
    (bigSep Finset.univ fun i => bigSep Finset.univ fun d : DD => (dutyTok ER (f i) 0 d : sProp 𝕄)) ⊢ bigSep Finset.univ fun i => dutyTok ER (f i) 0 d0 :=
  bigSep_mono fun i _ => tok_one (f i)

omit [FloatOps F] in
theorem toks_own (c : Dev nD) : (toks c : sProp 𝕄) ⊢ ownToks c := by
  unfold toks ownToks
  rw [cells_split c fun g => bigSep Finset.univ fun d : DD => (dutyTok ER g 0 d : sProp 𝕄)]
  iintro ⟨H1, H2, H3, H4, H5, -⟩
  ihave H2 := (tok_each _) $$ H2
  ihave H3 := (tok_each _) $$ H3
  ihave H4 := (tok_each _) $$ H4
  ihave H5 := (tok_each _) $$ H5
  iframe

theorem toks_around : (bigSep Finset.univ fun c : Dev nD => (ownToks c : sProp 𝕄)) ⊢ bigSep Finset.univ fun c : Dev nD => payToks c := by
  unfold ownToks payToks tAR tBR
  simp only [bigSep_sep']
  rw [around aroundDD fun c j => (dutyTok ER (barCell c) 0 j : sProp 𝕄), around aroundA fun c p => (dutyTok ER (raCell c p) 0 d0 : sProp 𝕄),
    around aroundB fun c k => (dutyTok ER (rbCell c k) 0 d0 : sProp 𝕄)]
  iintro ⟨H1, H2, H3, H4, H5⟩
  isplitl [H1]; · iexact H1
  isplitl [H2 H3]
  · isplitl [H2]; · iexact H2
    iexact H3
  · isplitl [H4]; · iexact H4
    iexact H5

/-! ## The credit -/

abbrev O₀ (c : Dev nD) : CellTallies nD τ sig Unit := due c Finset.univ Finset.univ Finset.univ

theorem sum_around {I : Type} [Fintype I] (e : Dev nD × I ≃ Dev nD × I) (f : Dev nD → I → ℕ) :
    ∑ d, ∑ i, f (e (d, i)).1 (e (d, i)).2 = ∑ d, ∑ i, f d i := by
  have h := Fintype.sum_prod_type (fun x : Dev nD × I => f x.1 x.2)
  have h' := Fintype.sum_prod_type (fun x : Dev nD × I => f (e x).1 (e x).2)
  exact h'.symm.trans ((Equiv.sum_comp e fun x : Dev nD × I => f x.1 x.2).trans h)

theorem due_all (d : Dev nD) (g : GSem nD τ sig) :
    O₀ d g () = (∑ j : DD, (tallyAt (barCell (nbr j d)) () 1 : CellTallies nD τ sig Unit) g ())
      + (∑ p : PP, (tallyAt (toA d p) () N : CellTallies nD τ sig Unit) g ()) + ∑ k : Fin 3, (tallyAt (toB d k) () N : CellTallies nD τ sig Unit) g () := by
  unfold O₀ due
  rw [Pi.add_apply, Finsupp.add_apply, Pi.add_apply, Finsupp.add_apply, Finset.sum_apply, Finsupp.finset_sum_apply, Finset.sum_apply,
    Finsupp.finset_sum_apply, Finset.sum_apply, Finsupp.finset_sum_apply]

/-- What the devices owe a cell in all, by the cell's owner. -/
theorem owed (g : GSem nD τ sig) :
    ∑ d : Dev nD, O₀ d g () = (∑ d : Dev nD, ∑ j : DD, if g = cellAt d (.inl ()) then 1 else 0)
      + (∑ d : Dev nD, ∑ p : PP, if g = cellAt d (.inr (.inr (.inl p))) then N else 0)
      + ∑ d : Dev nD, ∑ k : Fin 3, if g = cellAt d (.inr (.inr (.inr (.inr (.inl k))))) then N else 0 := by
  rw [Finset.sum_congr rfl fun d _ => due_all d g, Finset.sum_add_distrib, Finset.sum_add_distrib]
  have t (h : GSem nD τ sig) (n : ℕ) : (tallyAt h () n : CellTallies nD τ sig Unit) g () = if g = h then n else 0 := by
    rw [tallyAt_apply]; by_cases hg : g = h
    · rw [if_pos ⟨hg, rfl⟩, if_pos hg]
    · rw [if_neg fun h' => hg h'.1, if_neg hg]
  simp only [t]
  rw [← sum_around aroundDD fun d _ => if g = cellAt d (.inl ()) then 1 else 0,
    ← sum_around aroundA fun d p => if g = cellAt d (.inr (.inr (.inl p))) then N else 0,
    ← sum_around aroundB fun d k => if g = cellAt d (.inr (.inr (.inr (.inr (.inl k))))) then N else 0]
  rfl

theorem owed_bar (c : Dev nD) : ∑ d : Dev nD, O₀ d (barCell c) () = 6 := by
  refine (owed (cellAt c (.inl ()))).trans ?_
  simp only [cellAt_iff, reduceCtorEq, and_false, and_true, if_false, Finset.sum_const_zero, Nat.add_zero]
  rw [Finset.sum_eq_single c fun d _ hd => by rw [if_neg fun h => hd h.symm, Finset.sum_const_zero]]
  · rw [if_pos rfl]; rfl
  · intro h; exact absurd (Finset.mem_univ c) h
theorem owed_ra (c : Dev nD) (p : PP) : ∑ d : Dev nD, O₀ d (raCell c p) () = N := by
  refine (owed (cellAt c (.inr (.inr (.inl p))))).trans ?_
  simp only [cellAt_iff, reduceCtorEq, Sum.inr.injEq, Sum.inl.injEq, and_false, if_false, Finset.sum_const_zero, Nat.add_zero, Nat.zero_add]
  rw [Finset.sum_eq_single c fun d _ hd => Finset.sum_eq_zero fun q _ => if_neg fun h => hd h.1.symm,
    Finset.sum_eq_single p fun q _ hq => if_neg fun h => hq h.2.symm]
  · exact if_pos ⟨rfl, rfl⟩
  · intro h; exact absurd (Finset.mem_univ p) h
  · intro h; exact absurd (Finset.mem_univ c) h
theorem owed_rb (c : Dev nD) (k : Fin 3) : ∑ d : Dev nD, O₀ d (rbCell c k) () = N := by
  refine (owed (cellAt c (.inr (.inr (.inr (.inr (.inl k))))))).trans ?_
  simp only [cellAt_iff, reduceCtorEq, Sum.inr.injEq, Sum.inl.injEq, and_false, if_false, Finset.sum_const_zero, Nat.add_zero, Nat.zero_add]
  rw [Finset.sum_eq_single c fun d _ hd => Finset.sum_eq_zero fun q _ => if_neg fun h => hd h.1.symm,
    Finset.sum_eq_single k fun q _ hq => if_neg fun h => hq h.2.symm]
  · exact if_pos ⟨rfl, rfl⟩
  · intro h; exact absurd (Finset.mem_univ k) h
  · intro h; exact absurd (Finset.mem_univ c) h

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The credit a device starts with. -/
def credR (c : Dev nD) : sProp 𝕄 :=
  iprop(cred (tallyAt (barCell c) () 6) ∗ (bigSep Finset.univ fun p : PP => cred (tallyAt (raCell c p) () N))
    ∗ bigSep Finset.univ fun k : Fin 3 => cred (tallyAt (rbCell c k) () N))

omit [FloatOps F] in
theorem creds (c : Dev nD) : (Pipeline.launchCred O₀ c : sProp 𝕄) ⊢ credR c := by
  unfold Pipeline.launchCred credR
  refine (bigSep_subset (Finset.subset_univ (Finset.univ.map ⟨csem, csem_inj⟩))).trans ?_
  rw [bigSep_map]
  refine (Entails.of_eq (cells_split c fun g => cred (tallyOn g (launchCredit (Pipeline.owing O₀) 0 g)))).trans ?_
  rw [launch_at _ 6 (owed_bar c), bigSep_congr (s := Finset.univ) fun p _ => congrArg cred (launch_at _ N (owed_ra c p)),
    bigSep_congr (s := Finset.univ) fun k _ => congrArg cred (launch_at _ N (owed_rb c k))]
  iintro ⟨H1, -, H2, -, H3, -⟩
  isplitl [H1]; · iexact H1
  isplitl [H2]; · iexact H2
  iexact H3

end Cert.Moe
-- ==== Proof.Buffers.lean ====
/-
# The scratch buffers, whole and in pieces
-/
module

public import proofs.«01_k».proof.Proof.Cells

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A device's whole buffer at some contents. -/
def wholeAt (c : Dev nD) (b : Ref sig .tc) : sProp 𝕄 := iprop(∃ f : Buf (Elt F) ((c : Thread nD τ).loc b), ((c : Thread nD τ).loc b) ↦{fullShare} f)
/-- The part of it a rectangle covers. -/
def partAt (c : Dev nD) (b : Ref sig .tc) (r : Rect b.ty.shape) : sProp 𝕄 :=
  iprop(∃ f : Buf (Elt F) ((c : Thread nD τ).loc b), ((c : Thread nD τ).loc b) ↦[r.set]{fullShare} f)

omit [FloatOps F] in
theorem part_intro (c : Dev nD) (b : Ref sig .tc) (r : Rect b.ty.shape) (f : Buf (Elt F) ((c : Thread nD τ).loc b)) :
    (((c : Thread nD τ).loc b) ↦[r.set]{fullShare} f : sProp 𝕄) ⊢ partAt c b r := by
  unfold partAt
  iintro H; iexists f; iexact H
omit [FloatOps F] in
theorem parts_pick (c : Dev nD) (b : Ref sig .tc) {T : Type} [Fintype T] [DecidableEq T] (rs : T → Rect b.ty.shape) (f : Buf (Elt F) ((c : Thread nD τ).loc b)) :
    (bigSep Finset.univ fun t => (partAt c b (rs t) : sProp 𝕄))
      ⊢ iprop(∃ fs : T → Buf (Elt F) ((c : Thread nD τ).loc b), bigSep Finset.univ fun t => ((c : Thread nD τ).loc b) ↦[(rs t).set]{fullShare} fs t) := by
  have : Nonempty (Buf (Elt F) ((c : Thread nD τ).loc b)) := ⟨f⟩
  unfold partAt
  exact BI.bigSep_exists_pi Finset.univ (fun (t : T) (f : Buf (Elt F) ((c : Thread nD τ).loc b)) =>
    (((c : Thread nD τ).loc b) ↦[(rs t).set]{fullShare} f : sProp 𝕄))

section Parts
variable (c : Dev nD) (b : Ref sig .tc) {T : Type} [Fintype T] [DecidableEq T] (rs : T → Rect b.ty.shape)
  (hd : ∀ t t', t ≠ t' → Disjoint (rs t).set (rs t').set) (hc : ∀ i : b.ty.shape.Idx, ∃ t, i ∈ (rs t).set)
include hd hc

omit [FloatOps F] in
theorem whole_parts : (wholeAt c b : sProp 𝕄) ⊢ bigSep Finset.univ fun t => partAt c b (rs t) := by
  have e : (Finset.univ : Finset T).biUnion (fun t => (rs t).set) = Finset.univ := by
    ext i; simp only [Finset.mem_biUnion, Finset.mem_univ, true_and, iff_true]; exact hc i
  unfold wholeAt
  iintro ⟨%f, H⟩
  have h : (((c : Thread nD τ).loc b) ↦{fullShare} f : sProp 𝕄) ⊢ bigSep Finset.univ fun t => partAt c b (rs t) := by
    have h1 := pointsTo_biUnion (Ix := Unit) (Name := ℕ) (U := UU) (Lvl := ℕ) (ℓ := (c : Thread nD τ).loc b) (q := fullShare) (f := f)
      (Finset.univ : Finset T) (fun t => (rs t).set) fun t _ t' _ => hd t t'
    rw [show (((c : Thread nD τ).loc b) ↦{fullShare} f : sProp 𝕄) = (((c : Thread nD τ).loc b) ↦[(Finset.univ : Finset T).biUnion fun t => (rs t).set]{fullShare} f) from by
      rw [e], h1]
    exact bigSep_mono fun t _ => part_intro c b (rs t) f
  iapply h; iexact H

omit [FloatOps F] in
theorem parts_whole [Nonempty T] : (bigSep Finset.univ fun t => (partAt c b (rs t) : sProp 𝕄)) ⊢ wholeAt c b := by
  have e : (Finset.univ : Finset T).biUnion (fun t => (rs t).set) = Finset.univ := by
    ext i; simp only [Finset.mem_biUnion, Finset.mem_univ, true_and, iff_true]; exact hc i
  have hn : (bigSep Finset.univ fun t => (partAt c b (rs t) : sProp 𝕄)) ⊢ iprop(∃ f : Buf (Elt F) ((c : Thread nD τ).loc b),
      bigSep Finset.univ fun t => partAt c b (rs t)) := by
    iintro H
    ihave H := (fam_borrow (Finset.mem_univ (Classical.arbitrary T))) $$ H
    icases H with ⟨H0, H⟩
    unfold partAt
    icases H0 with ⟨%f, H0⟩
    iexists f
    iapply H
    iexists f; iexact H0
  iintro H
  ihave H := hn $$ H
  icases H with ⟨%f0, H⟩
  ihave H := (parts_pick c b rs f0) $$ H
  icases H with ⟨%fs, H⟩
  ihave H := (pointsTo_biUnion_join (Finset.univ : Finset T) (fun t => (rs t).set) fs (fs (Classical.arbitrary T)) fun t _ t' _ => hd t t') $$ H
  icases H with ⟨%g, -, H⟩
  unfold wholeAt
  iexists g
  rw [e]
  iexact H
end Parts

/-! ## The pieces of each buffer -/

variable (c : Dev nD)

omit [FloatOps F] in
theorem slot_at (p z : Fin 4) : (anyAt c (slotM p z) : sProp 𝕄) = partAt c cc0_scratch4 (slotR p z) := by
  have e : (slotM p z).view.set = (slotR p z).set := (View.set_reshape _ _).trans (View.set_slice_whole _ _)
  unfold anyAt partAt; rw [e]
omit [FloatOps F] in
theorem slot2_at (p : Fin 4) : (anyAt c (slot2M p) : sProp 𝕄) = partAt c cc0_scratch5 (slot2R p) := by
  have e : (slot2M p).view.set = (slot2R p).set := (View.set_reshape _ _).trans (View.set_slice_whole _ _)
  unfold anyAt partAt; rw [e]
omit [FloatOps F] in
theorem col_at (k : Fin 3) : (anyAt c (colM k) : sProp 𝕄) = partAt c cc0_scratch3 (colR k) := by
  have e : (colM k).view.set = (colR k).set := (View.set_reshape _ _).trans (View.set_slice_whole _ _)
  unfold anyAt partAt; rw [e]
omit [FloatOps F] in
theorem slab_at (z : Fin 4) : (anyAt c (slabM z) : sProp 𝕄) = partAt c cc0_scratch2 (slabR z) := by
  have e : (slabM z).view.set = (slabR z).set := View.set_slice_whole _ _
  unfold anyAt partAt; rw [e]
omit [FloatOps F] in
theorem blk_at (z j : Fin 4) : (anyAt c (blkM z j) : sProp 𝕄) = partAt c cc0_scratch2 (blkR z j) := by
  have e : (blkM z j).view.set = (blkR z j).set := View.set_slice_whole _ _
  unfold anyAt partAt; rw [e]
theorem slot_disj (a b : Fin 4 × Fin 4) (h : a ≠ b) : Disjoint (slotR a.1 a.2).set (slotR b.1 b.2).set := by
  by_cases h1 : a.1 = b.1
  · have h2 : a.2 ≠ b.2 := fun h2 => h (Prod.ext h1 h2)
    refine Rect.unit_disjoint 1 ?_
    show a.2.val + 1 ≤ b.2.val ∨ b.2.val + 1 ≤ a.2.val
    have := Fin.val_ne_of_ne h2; omega
  · refine Rect.unit_disjoint 0 ?_
    show a.1.val + 1 ≤ b.1.val ∨ b.1.val + 1 ≤ a.1.val
    have := Fin.val_ne_of_ne h1; omega
theorem slot_cov (i : S4x4x32x512.Idx) : i ∈ (slotR (i 0) (i 1)).set := by
  refine Rect.mem_set_unit.mpr fun a => ?_
  have h2 : (i 2).val < 32 := (i 2).isLt
  have h3 : (i 3).val < 512 := (i 3).isLt
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 32; omega
  · show 0 ≤ (i 3).val ∧ (i 3).val < 0 + 512; omega
theorem slot2_disj (a b : Fin 4) (h : a ≠ b) : Disjoint (slot2R a).set (slot2R b).set := by
  refine Rect.unit_disjoint 0 ?_
  show a.val + 1 ≤ b.val ∨ b.val + 1 ≤ a.val
  have := Fin.val_ne_of_ne h; omega
theorem slot2_cov (i : S4x32x512.Idx) : i ∈ (slot2R (i 0)).set := by
  refine Rect.mem_set_unit.mpr fun a => ?_
  have h2 : (i 1).val < 32 := (i 1).isLt
  have h3 : (i 2).val < 512 := (i 2).isLt
  fin_cases a
  · show (i 0).val ≤ (i 0).val ∧ (i 0).val < (i 0).val + 1; omega
  · show 0 ≤ (i 1).val ∧ (i 1).val < 0 + 32; omega
  · show 0 ≤ (i 2).val ∧ (i 2).val < 0 + 512; omega
theorem col_disj (a b : Fin 3) (h : a ≠ b) : Disjoint (colR a).set (colR b).set := by
  refine Rect.unit_disjoint 0 ?_
  show a.val + 1 ≤ b.val ∨ b.val + 1 ≤ a.val
  have := Fin.val_ne_of_ne h; omega
theorem col_cov (i : S3x32x512.Idx) : i ∈ (colR (i 0)).set := by
  refine Rect.mem_set_unit.mpr fun a => ?_
  have h2 : (i 1).val < 32 := (i 1).isLt
  have h3 : (i 2).val < 512 := (i 2).isLt
  fin_cases a
  · show (i 0).val ≤ (i 0).val ∧ (i 0).val < (i 0).val + 1; omega
  · show 0 ≤ (i 1).val ∧ (i 1).val < 0 + 32; omega
  · show 0 ≤ (i 2).val ∧ (i 2).val < 0 + 512; omega
theorem slab_disj (a b : Fin 4) (h : a ≠ b) : Disjoint (slabR a).set (slabR b).set := by
  refine Rect.unit_disjoint 0 ?_
  show 128 * a.val + 128 ≤ 128 * b.val ∨ 128 * b.val + 128 ≤ 128 * a.val
  have := Fin.val_ne_of_ne h; omega
theorem slab_cov (i : S512x512.Idx) : ∃ z, i ∈ (slabR z).set := by
  have h0 : (i 0).val < 512 := (i 0).isLt
  have h1 : (i 1).val < 512 := (i 1).isLt
  refine ⟨⟨(i 0).val / 128, by omega⟩, Rect.mem_set_unit.mpr fun a => ?_⟩
  fin_cases a
  · show 128 * ((i 0).val / 128) ≤ (i 0).val ∧ (i 0).val < 128 * ((i 0).val / 128) + 128; omega
  · show 0 ≤ (i 1).val ∧ (i 1).val < 0 + 512; omega
theorem blk_disj (a b : Fin 4 × Fin 4) (h : a ≠ b) : Disjoint (blkR a.1 a.2).set (blkR b.1 b.2).set := by
  refine Rect.unit_disjoint 0 ?_
  show 128 * a.1.val + 32 * a.2.val + 32 ≤ 128 * b.1.val + 32 * b.2.val ∨ 128 * b.1.val + 32 * b.2.val + 32 ≤ 128 * a.1.val + 32 * a.2.val
  have h' : ¬ (a.1.val = b.1.val ∧ a.2.val = b.2.val) := fun hh => h (Prod.ext (Fin.ext hh.1) (Fin.ext hh.2))
  have := a.2.isLt; have := b.2.isLt
  omega
theorem blk_cov (i : S512x512.Idx) : ∃ q : Fin 4 × Fin 4, i ∈ (blkR q.1 q.2).set := by
  have h0 : (i 0).val < 512 := (i 0).isLt
  have h1 : (i 1).val < 512 := (i 1).isLt
  refine ⟨(⟨(i 0).val / 128, by omega⟩, ⟨(i 0).val % 128 / 32, by omega⟩), Rect.mem_set_unit.mpr fun a => ?_⟩
  fin_cases a
  · show 128 * ((i 0).val / 128) + 32 * ((i 0).val % 128 / 32) ≤ (i 0).val ∧ (i 0).val < 128 * ((i 0).val / 128) + 32 * ((i 0).val % 128 / 32) + 32; omega
  · show 0 ≤ (i 1).val ∧ (i 1).val < 0 + 512; omega

/-! ## The pieces as the device uses them -/

def slotIx (c : Dev nD) : PP ⊕ Fin 4 → Fin 4 × Fin 4
  | .inl p => (wOf c p.2.succ, zOf c p.1)
  | .inr z => (wd c, z)
theorem slotIx_bij : Function.Bijective (slotIx c) := by
  refine (Fintype.bijective_iff_injective_and_card _).2 ⟨?_, rfl⟩
  revert c; decide +kernel
def slot2Ix (c : Dev nD) : Fin 3 ⊕ Unit → Fin 4
  | .inl k => gOf c k.succ
  | .inr _ => gd c
theorem slot2Ix_bij : Function.Bijective (slot2Ix c) := by
  refine (Fintype.bijective_iff_injective_and_card _).2 ⟨?_, rfl⟩
  revert c; decide +kernel
theorem zOf_bij : Function.Bijective (zOf c) := by
  refine (Fintype.bijective_iff_injective_and_card _).2 ⟨?_, rfl⟩
  revert c; decide +kernel
def blkIx (c : Dev nD) (q : BB) : Fin 4 × Fin 4 := (zOf c q.1, wOf c q.2)
theorem blkIx_bij : Function.Bijective (blkIx c) := by
  refine (Fintype.bijective_iff_injective_and_card _).2 ⟨?_, rfl⟩
  revert c; decide +kernel

/-- The slots the plane's other positions write; the four nobody writes. -/
def slotsR : sProp 𝕄 := bigSep Finset.univ fun p : PP => anyAt c (slotM (wOf c p.2.succ) (zOf c p.1))
def slots2R : sProp 𝕄 := bigSep Finset.univ fun k : Fin 3 => anyAt c (slot2M (gOf c k.succ))
def spareR : sProp 𝕄 := iprop((bigSep Finset.univ fun z : Fin 4 => anyAt c (slotM (wd c) z)) ∗ anyAt c (slot2M (gd c)))

omit [FloatOps F] in
theorem slots_sum : (bigSep Finset.univ fun q : Fin 4 × Fin 4 => (partAt c cc0_scratch4 (slotR q.1 q.2) : sProp 𝕄))
    = iprop(slotsR c ∗ bigSep Finset.univ fun z : Fin 4 => anyAt c (slotM (wd c) z)) := by
  rw [bigSep_univ_equiv (Equiv.ofBijective _ (slotIx_bij c)), bigSep_univ_sum]
  unfold slotsR
  simp only [slot_at]
  rfl
omit [FloatOps F] in
theorem slots2_sum : (bigSep Finset.univ fun q : Fin 4 => (partAt c cc0_scratch5 (slot2R q) : sProp 𝕄)) = iprop(slots2R c ∗ anyAt c (slot2M (gd c))) := by
  rw [bigSep_univ_equiv (Equiv.ofBijective _ (slot2Ix_bij c)), bigSep_univ_sum, show (Finset.univ : Finset Unit) = {()} from rfl, bigSep_singleton]
  unfold slots2R
  simp only [slot2_at]
  rfl

omit [FloatOps F] in
theorem r1_parts : (wholeAt c cc0_scratch4 : sProp 𝕄) ⊢ iprop(slotsR c ∗ bigSep Finset.univ fun z : Fin 4 => anyAt c (slotM (wd c) z)) :=
  (whole_parts c cc0_scratch4 (fun q : Fin 4 × Fin 4 => slotR q.1 q.2) slot_disj fun i => ⟨(i 0, i 1), slot_cov i⟩).trans (Entails.of_eq (slots_sum c))
omit [FloatOps F] in
theorem r1_whole : iprop(slotsR c ∗ bigSep Finset.univ fun z : Fin 4 => anyAt c (slotM (wd c) z)) ⊢ (wholeAt c cc0_scratch4 : sProp 𝕄) :=
  (Entails.of_eq (slots_sum c).symm).trans
    (parts_whole c cc0_scratch4 (fun q : Fin 4 × Fin 4 => slotR q.1 q.2) slot_disj fun i => ⟨(i 0, i 1), slot_cov i⟩)
omit [FloatOps F] in
theorem r2_parts : (wholeAt c cc0_scratch5 : sProp 𝕄) ⊢ iprop(slots2R c ∗ anyAt c (slot2M (gd c))) :=
  (whole_parts c cc0_scratch5 (fun q : Fin 4 => slot2R q) slot2_disj fun i => ⟨i 0, slot2_cov i⟩).trans (Entails.of_eq (slots2_sum c))
omit [FloatOps F] in
theorem r2_whole : iprop(slots2R c ∗ anyAt c (slot2M (gd c))) ⊢ (wholeAt c cc0_scratch5 : sProp 𝕄) :=
  (Entails.of_eq (slots2_sum c).symm).trans (parts_whole c cc0_scratch5 (fun q : Fin 4 => slot2R q) slot2_disj fun i => ⟨i 0, slot2_cov i⟩)
omit [FloatOps F] in
theorem ca_parts : (wholeAt c cc0_scratch3 : sProp 𝕄) ⊢ cuR c Finset.univ :=
  (whole_parts c cc0_scratch3 (fun k : Fin 3 => colR k) col_disj fun i => ⟨i 0, col_cov i⟩).trans (Entails.of_eq (by
    unfold cuR; simp only [col_at]))
omit [FloatOps F] in
theorem ca_whole : (cuR c Finset.univ : sProp 𝕄) ⊢ wholeAt c cc0_scratch3 :=
  (Entails.of_eq (by unfold cuR; simp only [col_at])).trans (parts_whole c cc0_scratch3 (fun k : Fin 3 => colR k) col_disj fun i => ⟨i 0, col_cov i⟩)
omit [FloatOps F] in
theorem pb_parts : (wholeAt c cc0_scratch2 : sProp 𝕄) ⊢ slR c Finset.univ :=
  (whole_parts c cc0_scratch2 (fun z : Fin 4 => slabR z) slab_disj slab_cov).trans (Entails.of_eq (by
    unfold slR; rw [bigSep_univ_equiv (Equiv.ofBijective _ (zOf_bij c))]; simp only [slab_at]; rfl))
omit [FloatOps F] in
theorem blks_sum : (bigSep Finset.univ fun q : Fin 4 × Fin 4 => (partAt c cc0_scratch2 (blkR q.1 q.2) : sProp 𝕄))
    = bigSep Finset.univ fun q : BB => anyAt c (blkM (zOf c q.1) (wOf c q.2)) := by
  rw [bigSep_univ_equiv (Equiv.ofBijective _ (blkIx_bij c)) fun q : Fin 4 × Fin 4 => (partAt c cc0_scratch2 (blkR q.1 q.2) : sProp 𝕄)]
  exact bigSep_congr fun q _ => (blk_at c (zOf c q.1) (wOf c q.2)).symm
omit [FloatOps F] in
theorem pb_whole : (bigSep Finset.univ fun q : BB => (anyAt c (blkM (zOf c q.1) (wOf c q.2)) : sProp 𝕄)) ⊢ wholeAt c cc0_scratch2 :=
  (Entails.of_eq (blks_sum c).symm).trans
    (parts_whole c cc0_scratch2 (fun q : Fin 4 × Fin 4 => blkR q.1 q.2) blk_disj blk_cov)

/-- What the six neighbours' barrier units hand over of this device. -/
theorem pay_plane (k : Fin 3) : (barPay (nbr (.mk false k) c) (back (.mk false k)) : sProp 𝕄)
    = bigSep Finset.univ fun zk : Fin 4 => anyAt c (slotM (wOf c k.succ) (zOf c zk)) := by
  unfold barPay
  rw [if_neg (by exact Bool.false_ne_true)]
  rw [nbr_back, wd_nbr]
  refine bigSep_congr fun zk _ => ?_
  rw [zOf_nbr]; rfl
theorem pay_cross (k : Fin 3) : (barPay (nbr (.mk true k) c) (back (.mk true k)) : sProp 𝕄) = anyAt c (slot2M (gOf c k.succ)) := by
  unfold barPay
  rw [if_pos (by rfl), nbr_back, gd_nbr']; rfl
theorem pays : iprop(slotsR c ∗ slots2R c) ⊢ (bigSep Finset.univ fun j : DD => barPay (F := F) (nbr j c) (back j)) := by
  rw [dd_split]
  simp only [pay_plane, pay_cross]
  unfold slotsR slots2R
  rw [bigSep_univ_prod, bigSep_univ_comm]

end Cert.Moe
-- ==== Proof.Device.lean ====
/-
# A device, from its launch holdings to its final ones
-/
module

public import proofs.«01_k».proof.Proof.Body2
public import proofs.«01_k».proof.Proof.Buffers

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) (c : Dev nD)

/-- A device's positions, one per cell. -/
def posn : sProp 𝕄 := bigSep Finset.univ fun i : Fin 41 => atPos ER (kcell (c, i)) 0 ∅ 0
def idleR : sProp 𝕄 := bigSep Finset.univ fun q : II => atPos ER ((c : Thread nD τ), idleSem c q) 0 ∅ 0
/-- Every counter of the device at zero. -/
def zeros : sProp 𝕄 := bigSep Finset.univ fun i : Fin 41 => semVal (kcell (c, i)) 0
/-- The scratch buffers. -/
def scr : sProp 𝕄 :=
  iprop(wholeAt c cc0_scratch0 ∗ wholeAt c cc0_scratch1 ∗ wholeAt c cc0_scratch2 ∗ wholeAt c cc0_scratch3 ∗ wholeAt c cc0_scratch4 ∗ wholeAt c cc0_scratch5)
/-- What a device starts from. -/
def start : sProp 𝕄 := iprop((∃ K, ctx A K) ∗ posn c ∗ payToks c ∗ credR c)

omit [FloatOps F] in
theorem w0_whole : (anyAt c w0M : sProp 𝕄) = wholeAt c cc0_scratch0 := by
  unfold anyAt wholeAt; rw [show (w0M : Memref sig .tc .vmem S512x1 .f32).view.set = Finset.univ from View.set_whole _]
omit [FloatOps F] in
theorem w1_whole : (anyAt c w1M : sProp 𝕄) = wholeAt c cc0_scratch1 := by
  unfold anyAt wholeAt; rw [show (w1M : Memref sig .tc .vmem S512x1 .f32).view.set = Finset.univ from View.set_whole _]
omit [FloatOps F] in
theorem pts_any {sh : Shape} {e : EltTy} (m : Memref sig .tc .vmem sh e) (f : Buf (Elt F) (m.view.loc (c : Thread nD τ))) :
    (ptsM c m f : sProp 𝕄) ⊢ anyAt c m := by
  unfold anyAt; iintro H; iexists f; iexact H

theorem posn_split : (posn c : sProp 𝕄) ⊢ iprop(atPos ER (barCell c) 0 ∅ 0 ∗ (bigSep Finset.univ fun p : PP => atPos ER (saCell c p) 0 ∅ 0)
    ∗ (bigSep Finset.univ fun p : PP => atPos ER (raCell c p) 0 ∅ 0) ∗ (bigSep Finset.univ fun k : Fin 3 => atPos ER (sbCell c k) 0 ∅ 0)
    ∗ (bigSep Finset.univ fun k : Fin 3 => atPos ER (rbCell c k) 0 ∅ 0) ∗ idleR c) :=
  Entails.of_eq (cells_split c fun g => atPos ER g 0 ∅ 0)

omit [FloatOps F] in
theorem fam_sep {I : Type} [DecidableEq I] (s : Finset I) (Φ Ψ : I → sProp 𝕄) : iprop(bigSep s Φ ∗ bigSep s Ψ) ⊢ bigSep s fun i => iprop(Φ i ∗ Ψ i) :=
  Entails.of_eq (bigSep_sep' s Φ Ψ).symm
omit [FloatOps F] in
theorem fam_empty {I : Type} (Φ : I → sProp 𝕄) : (bigSep (∅ : Finset I) Φ : sProp 𝕄) = iprop(emp) := bigSep_empty
omit [FloatOps F] in
/-- A family of pending and done things with all pending, and with all done. -/
theorem fam_start {I : Type} [DecidableEq I] [Fintype I] (Φ Ψ : I → sProp 𝕄) :
    bigSep Finset.univ Φ ⊢ iprop(bigSep Finset.univ Φ ∗ bigSep (Finset.univᶜ : Finset I) Ψ) := by
  rw [Finset.compl_univ, fam_empty]
  iintro H
  isplitl [H]; · iexact H
  iempintro
omit [FloatOps F] in
theorem fam_end {I : Type} [DecidableEq I] [Fintype I] (Φ Ψ : I → sProp 𝕄) :
    iprop(bigSep (∅ : Finset I) Φ ∗ bigSep ((∅ : Finset I)ᶜ) Ψ) ⊢ bigSep Finset.univ Ψ := by
  rw [Finset.compl_empty]
  iintro ⟨-, H⟩
  iexact H

theorem sgR_intro : iprop((bigSep Finset.univ fun j : DD => dutyTok ER (barCell (nbr j c)) 0 (back j))
    ∗ bigSep Finset.univ fun j : DD => barPay (F := F) (nbr j c) (back j)) ⊢ sgR c Finset.univ := by unfold sgR; exact fam_sep _ _ _
theorem rAR_intro : iprop((bigSep Finset.univ fun p : PP => cred (tallyAt (raCell c p) () N)) ∗ bigSep Finset.univ fun p : PP => atPos ER (raCell c p) 0 ∅ 0)
    ⊢ rAR A c Finset.univ := by unfold rAR; exact (fam_sep _ _ _).trans (fam_start _ _)
theorem rBR_intro : iprop((bigSep Finset.univ fun k : Fin 3 => cred (tallyAt (rbCell c k) () N)) ∗ bigSep Finset.univ fun k : Fin 3 => atPos ER (rbCell c k) 0 ∅ 0)
    ⊢ rBR A c Finset.univ := by unfold rBR; exact (fam_sep _ _ _).trans (fam_start _ _)
theorem wAR_intro : (bigSep Finset.univ fun p : PP => (atPos ER (saCell c p) 0 ∅ 0 : sProp 𝕄)) ⊢ wAR c Finset.univ := by unfold wAR; exact fam_start _ _
theorem wBR_intro : (bigSep Finset.univ fun k : Fin 3 => (atPos ER (sbCell c k) 0 ∅ 0 : sProp 𝕄)) ⊢ wBR c Finset.univ := by unfold wBR; exact fam_start _ _
theorem wAR_out : (wAR c ∅ : sProp 𝕄) ⊢ bigSep Finset.univ fun p : PP => semVal (saCell c p) 0 := by unfold wAR; exact fam_end _ _
theorem wBR_out : (wBR c ∅ : sProp 𝕄) ⊢ bigSep Finset.univ fun k : Fin 3 => semVal (sbCell c k) 0 := by unfold wBR; exact fam_end _ _
omit [FloatOps F] in
theorem fam_any {I : Type} [DecidableEq I] (s : Finset I) {Φ Ψ Ψ' : I → sProp 𝕄} (h : ∀ i, Ψ i ⊢ Ψ' i) :
    (bigSep s fun i => iprop(Φ i ∗ Ψ i)) ⊢ iprop(bigSep s Φ ∗ bigSep s Ψ') :=
  (Entails.of_eq (bigSep_sep' s Φ Ψ)).trans (sep_mono_right (bigSep_mono fun i _ => h i))
theorem rAR_out : (rAR A c ∅ : sProp 𝕄) ⊢ iprop((bigSep Finset.univ fun p : PP => semVal (raCell c p) 0) ∗ slotsR c) := by
  unfold rAR slotsR; exact (fam_end _ _).trans (fam_any _ fun p => own_any c _ _)
theorem rBR_out : (rBR A c ∅ : sProp 𝕄) ⊢ iprop((bigSep Finset.univ fun k : Fin 3 => semVal (rbCell c k) 0) ∗ slots2R c) := by
  unfold rBR slots2R; exact (fam_end _ _).trans (fam_any _ fun p => own_any c _ _)
theorem blR_out : (blR A c Finset.univ : sProp 𝕄) ⊢ wholeAt c cc0_scratch2 := by
  unfold blR; exact (show _ ⊢ _ from bigSep_mono fun q _ => own_any c _ _).trans (pb_whole c)
theorem chR_out : (chR A c Finset.univ : sProp 𝕄) ⊢ wholeAt c cc0_scratch3 := by
  exact (show (chR A c Finset.univ : sProp 𝕄) ⊢ cuR c Finset.univ from bigSep_mono fun q _ => own_any c _ _).trans (ca_whole c)
theorem w0R_out : (w0R A c true : sProp 𝕄) ⊢ wholeAt c cc0_scratch0 := by rw [← w0_whole, w0R_true]; exact pts_any c w0M _
theorem w1R_out : (w1R A c true : sProp 𝕄) ⊢ wholeAt c cc0_scratch1 := by rw [← w1_whole, w1R_true]; exact pts_any c w1M _
theorem blR_none : (blR A c ∅ : sProp 𝕄) = iprop(emp) := fam_empty _
theorem chR_none : (chR A c ∅ : sProp 𝕄) = iprop(emp) := fam_empty _
theorem cAR_none : (cAR c ∅ : sProp 𝕄) = iprop(emp) := fam_empty _
theorem cBR_none : (cBR c ∅ : sProp 𝕄) = iprop(emp) := fam_empty _

theorem enter (K : Dev nD × Fin 41 → ℕ) :
    iprop(ctx A K ∗ posn c ∗ payToks c ∗ credR c ∗ scr c ∗ inR A c ∗ owesE c Finset.univ Finset.univ Finset.univ ∗ anyAt c outM)
      ⊢ iprop(CR A K c S₀ ∗ idleR c ∗ spareR c) := by
  unfold payToks credR scr
  iintro ⟨Hc, Hpos, ⟨Ht1, Ht2, Ht3⟩, ⟨Hcb, Hca, Hcc⟩, ⟨Hw0, Hw1, Hpb, Hcol, Hr1, Hr2⟩, Hin, Ho, Hout⟩
  ihave Hpos := (posn_split c) $$ Hpos
  icases Hpos with ⟨Hp1, Hp2, Hp3, Hp4, Hp5, Hidle⟩
  ihave Hr1 := (r1_parts c) $$ Hr1
  icases Hr1 with ⟨Hr1, Hs1⟩
  ihave Hr2 := (r2_parts c) $$ Hr2
  icases Hr2 with ⟨Hr2, Hs2⟩
  ihave Hpay := (pays (F := F) c) $$ [Hr1 Hr2]
  · isplitl [Hr1] <;> iassumption
  ihave Hsg := (sgR_intro c) $$ [Ht1 Hpay]
  · isplitl [Ht1] <;> iassumption
  ihave Hra := (rAR_intro A c) $$ [Hca Hp3]
  · isplitl [Hca] <;> iassumption
  ihave Hrb := (rBR_intro A c) $$ [Hcc Hp5]
  · isplitl [Hcc] <;> iassumption
  ihave Hwa := (wAR_intro c) $$ Hp2
  ihave Hwb := (wBR_intro c) $$ Hp4
  ihave Hpb := (pb_parts c) $$ Hpb
  ihave Hcol := (ca_parts c) $$ Hcol
  ihave Hw0 := (Entails.of_eq (w0_whole c).symm) $$ Hw0
  ihave Hw1 := (Entails.of_eq (w1_whole c).symm) $$ Hw1
  isplitr [Hidle Hs1 Hs2]
  · isplitl [Hc]; · iexact Hc
    unfold Res S₀
    dsimp only
    isplitl [Hin]; · iexact Hin
    isplitl [Ho]; · iexact Ho
    isplitl [Hsg]; · iexact Hsg
    isplitl [Hcb Hp1]
    · unfold bpR; rw [if_neg Bool.false_ne_true]
      isplitl [Hcb] <;> iassumption
    isplitr; · unfold dAR; rw [if_neg Bool.false_ne_true]; iempintro
    isplitr; · unfold dBR; rw [if_neg Bool.false_ne_true]; iempintro
    isplitl [Hw0]; · rw [w0R_false]; iexact Hw0
    isplitl [Hw1]; · rw [w1R_false]; iexact Hw1
    isplitl [Hout]; · rw [oR_false]; iexact Hout
    isplitl [Hpb]; · iexact Hpb
    isplitr; · rw [blR_none]; iempintro
    isplitl [Ht2]; · iexact Ht2
    isplitr; · rw [cAR_none]; iempintro
    isplitl [Hwa]; · iexact Hwa
    isplitl [Hra]; · iexact Hra
    isplitl [Hcol]; · iexact Hcol
    isplitr; · rw [chR_none]; iempintro
    isplitl [Ht3]; · iexact Ht3
    isplitr; · rw [cBR_none]; iempintro
    isplitl [Hwb]; · iexact Hwb
    iexact Hrb
  · isplitl [Hidle]; · iexact Hidle
    unfold spareR
    isplitl [Hs1] <;> iassumption

/-- An unused cell closes at its first round. -/
theorem idle_duty (q : II) : ∃ k, kind (idleSem c q) = k ∧ dutyOf c k = ∅ := by
  rcases q with zk | z | _ | _
  · exact ⟨_, kind_sA 0 zk, by simp [dutyOf]⟩
  · exact ⟨_, kind_rA (wd c) z, by simp [dutyOf]⟩
  · exact ⟨_, kind_sB 3, by simp [dutyOf]⟩
  · exact ⟨_, kind_rB (gd c), by simp [dutyOf]⟩
theorem idle_named (q : II) : Named (idleSem c q) := by
  rcases q with zk | z | _ | _
  · exact named_sA 0 zk
  · exact named_rA (wd c) z
  · exact named_sB 3
  · exact named_rB (gd c)
theorem idle_one (K : Dev nD × Fin 41 → ℕ) (q : II) :
    iprop(ctx A K ∗ atPos ER ((c : Thread nD τ), idleSem c q) 0 ∅ 0) ⊢ (|={Set.univ}=> semVal ((c : Thread nD τ), idleSem c q) 0 : sProp 𝕄) := by
  obtain ⟨k, hk, hd⟩ := idle_duty c q
  iintro ⟨Hc, Hat⟩
  ihave Hi := (inv_at A K c (idle_named c q)) $$ Hc
  icases Hi with ⟨%κ, Hi⟩
  iapply (Rounds.cell_close ER (rd A) (Set.mem_univ κ) (fun h => h) (R := 0) (rd_idle A c (idleSem c q) hk hd))
  isplitl [Hi] <;> iassumption
theorem idle_close (K : Dev nD × Fin 41 → ℕ) :
    iprop(ctx A K ∗ idleR c) ⊢ (|={Set.univ}=> bigSep Finset.univ fun q : II => semVal ((c : Thread nD τ), idleSem c q) 0 : sProp 𝕄) := by
  unfold idleR
  exact (bigSep_with_persistent fun q _ => idle_one A c K q).trans (bigSep_fupd _ _)

theorem leave (K : Dev nD × Fin 41 → ℕ) :
    iprop(CR A K c S₁ ∗ idleR c ∗ spareR c)
      ⊢ (|={Set.univ}=> iprop(zeros c ∗ scr c ∗ inR A c ∗ owesE c ∅ ∅ ∅ ∗ ptsM c outM (outVal A c)) : sProp 𝕄) := by
  unfold CR Res S₁
  dsimp only
  iintro ⟨⟨#Hc, Hin, Ho, -, Hb, -, -, Hw0, Hw1, Hout, -, Hbl, -, -, Hza, Hra, -, Hch, -, -, Hzb, Hrb⟩, Hidle, Hs⟩
  imod (idle_close A c K) $$ [Hidle] with Hz
  · isplitr; · iexact Hc
    iexact Hidle
  imodintro
  ihave Hza := (wAR_out c) $$ Hza
  ihave Hzb := (wBR_out c) $$ Hzb
  ihave Hra := (rAR_out A c) $$ Hra
  icases Hra with ⟨Hzra, Hra⟩
  ihave Hrb := (rBR_out A c) $$ Hrb
  icases Hrb with ⟨Hzrb, Hrb⟩
  unfold spareR
  icases Hs with ⟨Hs1, Hs2⟩
  isplitl [Hb Hza Hzra Hzb Hzrb Hz]
  · unfold zeros
    iapply (Entails.of_eq (cells_split c fun g => (semVal g 0 : sProp 𝕄)).symm)
    isplitl [Hb]; · iapply (Entails.of_eq (if_pos rfl)); unfold bpR; iexact Hb
    isplitl [Hza]; · iexact Hza
    isplitl [Hzra]; · iexact Hzra
    isplitl [Hzb]; · iexact Hzb
    isplitl [Hzrb]; · iexact Hzrb
    iexact Hz
  isplitl [Hw0 Hw1 Hbl Hra Hch Hrb Hs1 Hs2]
  · unfold scr
    isplitl [Hw0]
    · iapply (w0R_out A c); iexact Hw0
    isplitl [Hw1]
    · iapply (w1R_out A c); iexact Hw1
    isplitl [Hbl]; · iapply (blR_out A c); iexact Hbl
    isplitl [Hch]; · iapply (chR_out A c); iexact Hch
    isplitl [Hra Hs1]
    · iapply (r1_whole c)
      isplitl [Hra] <;> iassumption
    · iapply (r2_whole c)
      isplitl [Hrb] <;> iassumption
  isplitl [Hin]; · iexact Hin
  isplitl [Ho]; · iexact Ho
  rw [← oR_true]; iexact Hout

theorem device_step (K : Dev nD × Fin 41 → ℕ) :
    iprop(CR A K c S₀ ∗ idleR c ∗ spareR c)
      ⊢ (WP c (on_ (cc0_body (F := F))) fun _ => iprop(zeros c ∗ scr c ∗ inR A c ∗ owesE c ∅ ∅ ∅ ∗ ptsM c outM (outVal A c)) : sProp 𝕄) :=
  (sep_mono_left (body_wp A K c (Q := fun _ => CR A K c S₁) .rfl)).trans
    ((wp_frame_r _ _ _).trans ((wp_mono _ _ _ fun _ => leave A c K).trans (wp_fupd _ _ _ _ _)))

/-- The body from the launch holdings to the final ones. -/
theorem device_wp :
    iprop(start A c ∗ scr c ∗ inR A c ∗ owesE c Finset.univ Finset.univ Finset.univ ∗ anyAt c outM)
      ⊢ (WP c (on_ (cc0_body (F := F))) fun _ => iprop(zeros c ∗ scr c ∗ inR A c ∗ owesE c ∅ ∅ ∅ ∗ ptsM c outM (outVal A c)) : sProp 𝕄) := by
  unfold start
  iintro ⟨⟨⟨%K, Hc⟩, Hpos, Ht, Hcr⟩, Hscr, Hin, Ho, Hout⟩
  ihave H := (enter A c K) $$ [Hc Hpos Ht Hcr Hscr Hin Ho Hout]
  · iframe
  iapply (device_step A c K)
  iexact H

end Cert.Moe
-- ==== Proof.Run.lean ====
/-
# The run of the kernel on the mesh
-/
module

public import proofs.«01_k».proof.Proof.Device
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- The staged arguments. -/
def args : Args F where
  x c := (win0_0.blk (0 : Fin 1)).view.read (Elt F) (m ((c : Thread nD τ).loc main_arg0))
  rw c := (win0_1.blk (0 : Fin 1)).view.read (Elt F) (m ((c : Thread nD τ).loc main_arg1))
  ri c := (win0_2.blk (0 : Fin 1)).view.read (Elt F) (m ((c : Thread nD τ).loc main_arg2))
  ew c := (win0_3.blk (0 : Fin 1)).view.read (Elt F) (m ((c : Thread nD τ).loc main_arg3))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (args m).x c
    | ⟨1, _⟩ => (args m).rw c
    | ⟨2, _⟩ => (args m).ri c
    | ⟨3, _⟩ => (args m).ew c
    | ⟨4, _⟩ => outVal (args m) c
  Φ t := match t with
    | ⟨0, _⟩ => iprop(start (args m) c ∗ scr c)
    | ⟨_ + 1, _⟩ => iprop(zeros c ∗ scr c)
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) :=
  bigSep_W0 Φ

def bodyPre (c : Dev nD) : sProp 𝕄 :=
  iprop((start (args m) c ∗ scr c) ∗ (dats m ρ 0 c).owesAt () t₀.castSucc
    ∗ (∃ d, stg c cc0_stg0_0 ((dats m ρ 0 c).before (0 : Fin 5) t₀ d)) ∗ (∃ d, stg c cc0_stg1_0 ((dats m ρ 0 c).before (1 : Fin 5) t₀ d))
    ∗ (∃ d, stg c cc0_stg2_0 ((dats m ρ 0 c).before (2 : Fin 5) t₀ d)) ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop((zeros c ∗ scr c) ∗ (dats m ρ 0 c).owesAt () t₀.succ ∗ stg c cc0_stg0_0 ((args m).x c) ∗ stg c cc0_stg1_0 ((args m).rw c)
    ∗ stg c cc0_stg2_0 ((args m).ri c) ∗ stg c cc0_stg3_0 ((args m).ew c) ∗ stg c cc0_stg4_0 (outVal (args m) c))

omit [FloatOps F] in
theorem stg_pts (c : Dev nD) (b : Ref sig .tc) (X : b.ty.Contents (Elt F)) :
    (stg c b X : sProp 𝕄) ⊢ ((Memref.whole b).view.loc (c : Thread nD τ) ↦[(Memref.whole b).view.set]{fullShare} X) := by
  rw [show (Memref.whole b).view.set = Finset.univ from View.set_whole b]
  iintro ⟨%f, %hf, H⟩
  subst hf
  iexact H
omit [FloatOps F] in
theorem pts_stg (c : Dev nD) (b : Ref sig .tc) (X : b.ty.Contents (Elt F)) :
    ((Memref.whole b).view.loc (c : Thread nD τ) ↦[(Memref.whole b).view.set]{fullShare} X : sProp 𝕄) ⊢ stg c b X := by
  rw [show (Memref.whole b).view.set = Finset.univ from View.set_whole b]
  iintro H
  iexists X
  isplitr; · (ipureintro; rfl)
  iexact H

theorem due_none (c : Dev nD) : due c ∅ ∅ ∅ = 0 := by unfold due; simp only [Finset.sum_empty, add_zero]

theorem before_0 (c : Dev nD) (d) : (dats m ρ 0 c).before (0 : Fin 5) t₀ d = (args m).x c := by unfold Dat.before; rw [if_pos (fetch0_0 t₀)]; rfl
theorem before_1 (c : Dev nD) (d) : (dats m ρ 0 c).before (1 : Fin 5) t₀ d = (args m).rw c := by unfold Dat.before; rw [if_pos (fetch0_1 t₀)]; rfl
theorem before_2 (c : Dev nD) (d) : (dats m ρ 0 c).before (2 : Fin 5) t₀ d = (args m).ri c := by unfold Dat.before; rw [if_pos (fetch0_2 t₀)]; rfl
theorem before_3 (c : Dev nD) (d) : (dats m ρ 0 c).before (3 : Fin 5) t₀ d = (args m).ew c := by unfold Dat.before; rw [if_pos (fetch0_3 t₀)]; rfl

theorem pre_in (c : Dev nD) : (bodyPre m ρ c : sProp 𝕄)
    ⊢ iprop(start (args m) c ∗ scr c ∗ inR (args m) c ∗ owesE c Finset.univ Finset.univ Finset.univ ∗ anyAt c outM) := by
  unfold bodyPre inR
  simp only [before_0, before_1, before_2, before_3]
  iintro ⟨⟨Hst, Hsc⟩, Ho, ⟨%_, H0⟩, ⟨%_, H1⟩, ⟨%_, H2⟩, ⟨%_, H3⟩, ⟨%_, H4⟩⟩
  isplitl [Hst]; · iexact Hst
  isplitl [Hsc]; · iexact Hsc
  isplitl [H0 H1 H2 H3]
  · isplitl [H0]; · iapply (stg_pts c cc0_stg0_0 _); iexact H0
    isplitl [H1]; · iapply (stg_pts c cc0_stg1_0 _); iexact H1
    isplitl [H2]; · iapply (stg_pts c cc0_stg2_0 _); iexact H2
    iapply (stg_pts c cc0_stg3_0 _); iexact H3
  isplitl [Ho]
  · unfold Dat.owesAt Pipeline.owesWithin owesE
    icases Ho with ⟨%W, -, HO⟩
    iexists W; iexact HO
  iapply (pts_any c outM _)
  iapply (stg_pts c cc0_stg4_0 _); iexact H4

theorem post_out (c : Dev nD) :
    iprop(zeros c ∗ scr c ∗ inR (args m) c ∗ owesE c ∅ ∅ ∅ ∗ ptsM c outM (outVal (args m) c)) ⊢ (bodyPost m ρ c : sProp 𝕄) := by
  unfold bodyPost inR
  iintro ⟨Hz, Hsc, ⟨H0, H1, H2, H3⟩, Ho, H4⟩
  isplitl [Hz Hsc]
  · isplitl [Hz] <;> iassumption
  isplitl [Ho]
  · unfold Dat.owesAt Pipeline.owesWithin owesE
    rw [due_none]
    icases Ho with ⟨%W, HO⟩
    iexists W
    isplitr; · ipureintro; exact fun _ _ => Or.inl trivial
    iexact HO
  isplitl [H0]; · iapply (pts_stg c cc0_stg0_0 _); iexact H0
  isplitl [H1]; · iapply (pts_stg c cc0_stg1_0 _); iexact H1
  isplitl [H2]; · iapply (pts_stg c cc0_stg2_0 _); iexact H2
  isplitl [H3]; · iapply (pts_stg c cc0_stg3_0 _); iexact H3
  iapply (pts_stg c cc0_stg4_0 _); iexact H4

set_option maxRecDepth 30000 in
/-- The body obligation of the pipeline on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ (on_ (cc0_body (F := F))) (fun _ => bodyPost m ρ c)
  exact ((pre_in m ρ c).trans (device_wp (args m) c)).trans (wp_mono _ _ _ fun _ => post_out m ρ c)

/-! ## The launch -/

set_option backward.proofsInPublic true in
/-- The kernel's own semaphores. -/
def osem (i : Fin 40) : SemLoc sig := csem i.succ
theorem ownSemFacts : Pipeline.OwnSemFacts cfg0.spec osem := by decide +kernel
theorem share_eq (c : Dev nD) (w : Fin cfg0.W) : (dats m ρ 0 c).share w = fullShare := by unfold Dat.share; split <;> rfl

def allCells : Finset (GSem nD τ sig) := Finset.univ.map ⟨kcell, kcell_inj⟩
abbrev tokOf (x : (Dev nD × Fin 41) × DD) : GSem nD τ sig × ℕ × DD := (kcell x.1, 0, x.2)
theorem tokOf_inj : Function.Injective tokOf := by
  rintro ⟨a, d⟩ ⟨a', d'⟩ h
  have h1 := kcell_inj (congrArg Prod.fst h)
  have h2 : d = d' := congrArg (fun x : GSem nD τ sig × ℕ × DD => x.2.2) h
  exact Prod.ext h1 h2
def allToks : Finset (GSem nD τ sig × ℕ × DD) := Finset.univ.map ⟨tokOf, tokOf_inj⟩

def u₀ : UU :=
  (initOf (Pipeline.cells cfgs cellOf_inj) (Pipeline.launchToks cfgs cellOf_inj), initOf allCells allToks)

/-- What the launch deals a device. -/
def G (c : Dev nD) : sProp 𝕄 :=
  iprop((bigSep Finset.univ fun i : Fin 41 => roundState ER (rd (args m)) (kcell (c, i)) 0)
    ∗ (posn c ∗ bigSep Finset.univ fun i : Fin 41 => reached ER (kcell (c, i)) 0) ∗ toks c)
/-- What the devices make of it together. -/
def G' (c : Dev nD) : sProp 𝕄 :=
  iprop((∃ K : Dev nD × Fin 41 → ℕ, (bigSep Finset.univ fun ci : Dev nD × Fin 41 => cellInv ER (rd (args m)) (K ci) (kcell ci)) ∗ bigSep Finset.univ fun ci : Dev nD × Fin 41 => reached ER (kcell ci) 0)
    ∗ posn c ∗ payToks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : Fin 41 => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod, bigSep_univ_prod]; rfl
  iintro HX
  imod (Rounds.fund ER (rd (args m)) allCells allToks) $$ HX with ⟨Hst, Hr, Hat, Htok⟩
  imodintro
  ihave Hst' := (Entails.of_eq (hX fun g => roundState ER (rd (args m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posn; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl
omit [FloatOps F] in
/-- The barrier semaphore and the kernel's own are the device's cells. -/
theorem sems0_eq (c : Dev nD) :
    (zeros c : sProp 𝕄) = iprop(unscopedSems0 c ∗ Pipeline.ownSems0 (Ix := Unit) (Name := ℕ) (U := UU) (Lvl := ℕ) (Val := Elt F) (τ := τ) osem c) := by
  rw [unscopedSems0_eq]
  unfold zeros Pipeline.ownSems0
  rw [bigSep_univ_equiv (finSumFinEquiv : Fin 1 ⊕ Fin 40 ≃ Fin (1 + 40)) (fun i : Fin 41 => (semVal (kcell (c, i)) 0 : sProp 𝕄)), bigSep_univ_sum,
    show (Finset.univ : Finset (Fin 1)) = {0} from rfl, bigSep_singleton]
  refine congrArg₂ _ rfl (bigSep_congr fun i _ => ?_)
  show (semVal ((c : Thread nD τ), csem (Fin.natAdd 1 i)) 0 : sProp 𝕄) = semVal ((c : Thread nD τ), csem i.succ) 0
  rw [show Fin.natAdd 1 i = i.succ from Fin.ext (Nat.add_comm 1 i.val)]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (rd (args m)) κ (kcell (c, i))))
          ∗ (posn c ∗ bigSep Finset.univ fun i : Fin 41 => reached ER (kcell (c, i)) 0) ∗ toks c) := by
  unfold G
  iintro ⟨Hos, Hus, Hst, Hat, Htok⟩
  ihave Hv := (Entails.of_eq (sems0_eq (F := F) c).symm) $$ [Hos Hus]
  · isplitl [Hus] <;> iassumption
  imod (show iprop(zeros c ∗ bigSep Finset.univ fun i : Fin 41 => roundState ER (rd (args m)) (kcell (c, i)) 0)
      ⊢ (|={Set.univ}=> bigSep Finset.univ fun i => iprop(∃ κ : ℕ, cellInv ER (rd (args m)) κ (kcell (c, i))) : sProp 𝕄) from by
        unfold zeros
        rw [← bigSep_sep']
        exact (bigSep_mono fun k _ => (Rounds.body_intro ER (rd (args m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 41 → ℕ) : sProp 𝕄 :=
  iprop((bigSep Finset.univ fun ci : Dev nD × Fin 41 => cellInv ER (rd (args m)) (K ci) (kcell ci)) ∗ bigSep Finset.univ fun ci : Dev nD × Fin 41 => reached ER (kcell ci) 0)
instance records_persistent (K : Dev nD × Fin 41 → ℕ) : BI.Persistent (records m K) := by unfold records; infer_instance
theorem ghost_intro (K : Dev nD × Fin 41 → ℕ) (c : Dev nD) : iprop(records m K ∗ posn c ∗ payToks c) ⊢ G' m c := by
  unfold G' records
  iintro ⟨HR, Hp⟩
  isplitl [HR]; · iexists K; iexact HR
  iexact Hp

theorem regroup :
    (bigSep Finset.univ fun c : Dev nD => iprop((bigSep Finset.univ fun i => iprop(∃ κ : ℕ, cellInv ER (rd (args m)) κ (kcell (c, i))))
          ∗ (posn c ∗ bigSep Finset.univ fun i : Fin 41 => reached ER (kcell (c, i)) 0) ∗ toks c) : sProp 𝕄)
      ⊢ bigSep Finset.univ (G' m) := by
  rw [bigSep_sep', bigSep_sep', bigSep_sep', ← bigSep_univ_prod (fun ci : Dev nD × Fin 41 => iprop(∃ κ : ℕ, cellInv ER (rd (args m)) κ (kcell ci))),
    ← bigSep_univ_prod (fun ci : Dev nD × Fin 41 => (reached ER (kcell ci) 0 : sProp 𝕄))]
  iintro ⟨HI, ⟨Hat, #HR⟩, Htok⟩
  ihave HK := (BI.bigSep_exists_pi Finset.univ (fun (ci : Dev nD × Fin 41) (κ : ℕ) => (cellInv ER (rd (args m)) κ (kcell ci) : sProp 𝕄))) $$ HI
  icases HK with ⟨%K, #HI⟩
  ihave Htk := (show (bigSep Finset.univ fun c : Dev nD => (toks c : sProp 𝕄)) ⊢ bigSep Finset.univ fun c : Dev nD => ownToks c from
    bigSep_mono fun c _ => toks_own c) $$ Htok
  ihave Htk := (toks_around (F := F)) $$ Htk
  iapply (bigSep_with_persistent (R := records m K) fun c _ => ghost_intro m K c)
  isplitr
  · unfold records; isplitl; · iexact HI
    iexact HR
  · iapply (Entails.of_eq (bigSep_sep' Finset.univ (fun c : Dev nD => (posn c : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start (args m) c ∗ emp) := by
  iintro ⟨-, Hlev, Hcr, -, HG⟩
  ihave Hc := (creds (F := F) c) $$ Hcr
  imodintro
  unfold start G'
  icases HG with ⟨⟨%K, HI, HR⟩, Hp, Ht⟩
  isplitl
  · isplitl [Hlev HI HR]
    · iexists K
      unfold ctx
      isplitl [HI]; · iexact HI
      isplitl [HR] <;> iassumption
    isplitl [Hp]; · iexact Hp
    isplitl [Ht] <;> iassumption
  · iempintro

theorem phi0_intro (c : Dev nD) :
    iprop(start (args m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start (args m) c ∗ scr c) from rfl, scopedRest0_eq]
  iintro ⟨Hs, -, Hr⟩
  isplitl [Hs]; · iexact Hs
  unfold scr wholeAt
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ scr c) from rfl, scopedRest0_eq]
  iintro ⟨Hz, Hs⟩
  ihave Hz := (Entails.of_eq (sems0_eq (F := F) c)) $$ Hz
  icases Hz with ⟨Hu, Ho⟩
  isplitl [Hu]; · iexact Hu
  isplitl [Ho]; · iexact Ho
  unfold scr wholeAt
  iexact Hs

theorem mayWait_stage (c : Dev nD) (q : DmaSem sig) (hq : kind (.dma q) = .none) (O : CellTallies nD τ sig Unit) (hO : O = O₀ c ∨ O = 0) :
    (levAts L lv : sProp 𝕄) ⊢ MayWait (c : Thread nD τ) (.dma q) () O := by
  rcases hO with rfl | rfl
  · refine mayWait c (.dma q) _ _ _ (.inr ?_) (.inr ?_) (.inr ?_) <;> (rw [hq]; decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair execution ends, with every array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start (args m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_in (c : Dev nD) (w : Fin cfg0.W) (h : (cfg0.win w).isOut = false) : finalA m ρ c w = m ((cfg0.win w).arr.view.loc (c : Thread nD τ)) :=
  (dats (F := F) m ρ 0 c).arrAt_in w h _

end Cert.Moe
-- ==== Proof.Frames.lean ====
/-
# The run read at the arguments and the result

The windows stage the whole arrays, so the staged contents are the arguments and the result array ends holding what the body
leaves in its staging buffer.
-/
module

public import proofs.«01_k».proof.Proof.Run
public import proofs.«01_k».proof.Defs
public import proofs.«01_k».proof.Proof.Gen.Kernel
public import proofs.«01_k».proof.Proof.Gen.KernelIdeal
public import Idealize.ShloMosaic.Lib.Pipeline.ValueKit.Geometry

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem args_x (c : Dev nD) : (args m).x c = m ((c : Thread nD τ).loc main_arg0) := by
  funext i
  show m ((c : Thread nD τ).loc main_arg0) ((win0_0.rect (0 : Fin 1)).emb i) = _
  exact congrArg _ (funext fun a => Fin.ext (win0_0.rect_emb_val_of_index_zero (0 : Fin 1) a rfl i))
omit [FloatOps F] in
theorem args_rw (c : Dev nD) : (args m).rw c = m ((c : Thread nD τ).loc main_arg1) := by
  funext i
  show m ((c : Thread nD τ).loc main_arg1) ((win0_1.rect (0 : Fin 1)).emb i) = _
  exact congrArg _ (funext fun a => Fin.ext (win0_1.rect_emb_val_of_index_zero (0 : Fin 1) a rfl i))
omit [FloatOps F] in
theorem args_ri (c : Dev nD) : (args m).ri c = m ((c : Thread nD τ).loc main_arg2) := by
  funext i
  show m ((c : Thread nD τ).loc main_arg2) ((win0_2.rect (0 : Fin 1)).emb i) = _
  exact congrArg _ (funext fun a => Fin.ext (win0_2.rect_emb_val_of_index_zero (0 : Fin 1) a rfl i))
omit [FloatOps F] in
theorem args_ew (c : Dev nD) : (args m).ew c = m ((c : Thread nD τ).loc main_arg3) := by
  funext i
  show m ((c : Thread nD τ).loc main_arg3) ((win0_3.rect (0 : Fin 1)).emb i) = _
  exact congrArg _ (funext fun a => Fin.ext (win0_3.rect_emb_val_of_index_zero (0 : Fin 1) a rfl i))

theorem final_out (c : Dev nD) : finalA m ρ c (4 : Fin 5) = outVal (args m) c := by
  refine (dats (F := F) m ρ 0 c).arrAt_eq_of_after_last (4 : Fin 5) t₀ (by decide +kernel) _ fun j => ?_
  rfl

/-- Every fair execution ends with every device's result at `outVal`, the arguments unchanged and every counter at zero. -/
theorem run_values : θ_run defs (onTc (τ := τ) (main (F := F))) (s₀ m ρ) (fun r =>
    (∀ c : Dev nD, r.2.mem ((c : Thread nD τ).loc main_v1) = outVal (args m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ ⟨h, hs⟩ => ⟨fun c => ⟨(h c (4 : Fin 5)).trans (final_out m ρ c),
    (h c (0 : Fin 5)).trans (final_in m ρ c (0 : Fin 5) rfl), (h c (1 : Fin 5)).trans (final_in m ρ c (1 : Fin 5) rfl),
    (h c (2 : Fin 5)).trans (final_in m ρ c (2 : Fin 5) rfl), (h c (3 : Fin 5)).trans (final_in m ρ c (3 : Fin 5) rfl)⟩, hs⟩) (run_main m ρ)

/-! ## The frames: the two programs are the same text -/

theorem defs₀_eq : Cert.Kernel.defs₀ (F := Bits) = Cert.KernelIdeal.defs₀ := by
  unfold Cert.Kernel.defs₀ Cert.KernelIdeal.defs₀
  refine congrArg Defs.onTc (funext fun l => funext fun a => ?_)
  obtain ⟨_ | l, hl⟩ := l
  · rfl
  · exact absurd hl (Nat.not_lt.2 (Nat.le_add_left _ _))

theorem defs_eq : Cert.Kernel.defs (F := Bits) = Cert.KernelIdeal.defs := by
  unfold Cert.Kernel.defs Cert.KernelIdeal.defs
  rw [defs₀_eq]
  rfl

theorem frame_kernel : Cert.quiescent_Kernel := fun m ρ _ => by
  have h := (θ_run Cert.KernelIdeal.defs _ _).mono (fun _ h => And.intro (fun c => (h.1 c).2) h.2) (run_values (F := Bits) m ρ)
  rw [← defs_eq] at h
  exact h

theorem frame_kernelIdeal : Cert.quiescent_KernelIdeal := fun m ρ _ =>
  (θ_run Cert.KernelIdeal.defs _ _).mono (fun _ h => ⟨fun c => (h.1 c).2, h.2⟩) (run_values (F := Ideal) m ρ)
theorem frame_kernelIdeal_pre [Cert.Pre_routed_KernelIdeal.Facts] : Cert.quiescent_KernelIdeal_pre_routed_KernelIdeal := fun m ρ _ =>
  frame_kernelIdeal m ρ trivial

end Cert.Moe
-- ==== Proof.RefFrame.lean ====
/-
# The reference's frame and the predicates' side conditions
-/
module

public import proofs.«01_k».proof.Defs
public import proofs.«01_k».proof.Proof.Gen.ReferenceIdeal
public import proofs.«01_k».proof.Proof.Gen.ReferenceIdeal.Run
public import Idealize.ShloMosaic.Lib.Quiescent

@[expose] public section

namespace Cert.Moe

open Idealize.ShloMosaic Idealize.SL.Sem

instance preKernel : Cert.Pre_routed_KernelIdeal.Facts where
  bcast_S_S512x2 := by decide
  bitsLt_bf16_f32 := by decide
  bcast_S_S512x256 := by decide
  bcast_S_S256x32 := by decide
instance preReference : Cert.Pre_routed_ReferenceIdeal.Facts where
  bcast_S_S512x2 := by decide
  bitsLt_bf16_f32 := by decide
  bcast_S_S512x256 := by decide
  bcast_S_S256x32 := by decide

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_pre : Cert.quiescent_ReferenceIdeal_pre_routed_ReferenceIdeal := fun m ρ _ => frame_reference m ρ trivial

end Cert.Moe
-- ==== Proof.ValueMath.lean ====
/-
# The arithmetic of the value claim

Everything here is about extended reals and 32-bit words alone: the weight of a route, the sum over all the experts that
leaves the two routed ones, and the softmax probabilities whose quotients the reference takes.
-/
module

public import Idealize.ShloMosaic.Lib.Pointwise

@[expose] public section

noncomputable section

namespace Cert.Moe

open Idealize.ShloMosaic

/-! ## Words -/

theorem ofNat_inj32 {a b : ℕ} (ha : a < 32) (hb : b < 32) : BitVec.ofNat 32 a = BitVec.ofNat 32 b ↔ a = b := by
  refine ⟨fun h => ?_, fun h => by rw [h]⟩
  have h' := congrArg BitVec.toNat h
  rw [BitVec.toNat_ofNat, BitVec.toNat_ofNat, Nat.mod_eq_of_lt (by omega), Nat.mod_eq_of_lt (by omega)] at h'
  exact h'

/-- A choice by an equality of two small words. -/
theorem select_eq_ofNat {α : Type} {a b : ℕ} (ha : a < 32) (hb : b < 32) (u v : α) :
    Scalar.select (IntOp.cmpi .eq (BitVec.ofNat 32 a) (BitVec.ofNat 32 b)) u v = if a = b then u else v := by
  by_cases h : a = b
  · subst h
    rw [if_pos rfl]
    unfold IntOp.cmpi Scalar.select
    simp
  · rw [if_neg h]
    have h' : ¬ BitVec.ofNat 32 a = BitVec.ofNat 32 b := fun e => h ((ofNat_inj32 ha hb).1 e)
    have hb' : (BitVec.ofNat 32 a == BitVec.ofNat 32 b) = false := beq_eq_false_iff_ne.2 h'
    unfold IntOp.cmpi Scalar.select
    simp only [hb']
    exact if_neg (by decide)

theorem toInt_ofNat32 {a : ℕ} (ha : a < 2 ^ 31) : (BitVec.ofNat 32 a).toInt = (a : ℤ) := by
  rw [BitVec.toInt_eq_toNat_cond, BitVec.toNat_ofNat, Nat.mod_eq_of_lt (by omega), if_pos (by omega)]

/-- Wrapping the negative values leaves a number that is not negative. -/
theorem select_wrap {a : ℕ} (ha : a < 2 ^ 31) (u : BitVec 32) :
    Scalar.select (IntOp.cmpi .slt (BitVec.ofNat 32 a) 0#32) u (BitVec.ofNat 32 a) = BitVec.ofNat 32 a := by
  have h : (BitVec.ofNat 32 a).slt 0#32 = false := by
    rw [← Bool.not_eq_true, BitVec.slt_iff_toInt_lt, toInt_ofNat32 ha]
    show ¬ (a : ℤ) < 0
    omega
  unfold IntOp.cmpi Scalar.select
  simp only [h]
  exact if_neg (by decide)

/-- A word in range is a small number. -/
theorem exists_route (w : BitVec 32) (h : IntOp.andi (IntOp.cmpi .sge w 0#32) (IntOp.cmpi .slt w 32#32) = 1#1) :
    ∃ e : Fin 32, w = BitVec.ofNat 32 e.val := by
  have hlt : w.toNat < 32 := by
    unfold IntOp.andi IntOp.cmpi at h
    have h1 : (0#32).sle w = true := by
      by_contra hn
      rw [Bool.not_eq_true] at hn
      simp [hn] at h
    have h2 : w.slt 32#32 = true := by
      by_contra hn
      rw [Bool.not_eq_true] at hn
      simp [hn] at h
    rw [BitVec.sle_iff_toInt_le] at h1
    rw [BitVec.slt_iff_toInt_lt] at h2
    have e0 : (0#32).toInt = 0 := rfl
    have e1 : (32#32).toInt = 32 := rfl
    rw [e0] at h1
    rw [e1] at h2
    have := w.isLt
    rw [BitVec.toInt_eq_toNat_cond] at h1 h2
    split at h1 <;> omega
  exact ⟨⟨w.toNat, hlt⟩, (BitVec.ofNat_toNat 32 w).symm ▸ by simp⟩

/-! ## Extended reals -/

theorem coe_sum {ι : Type} (s : Finset ι) (f : ι → ℝ) : ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

theorem mul_sum_of_nonneg {ι : Type} (s : Finset ι) {g : ℝ} (hg : 0 ≤ g) (f : ι → EReal) :
    (g : EReal) * ∑ i ∈ s, f i = ∑ i ∈ s, (g : EReal) * f i := by
  classical
  refine Finset.induction_on s ?_ ?_
  · simp
  · intro a s ha ih
    rw [Finset.sum_insert ha, Finset.sum_insert ha,
      EReal.left_distrib_of_nonneg_of_ne_top (EReal.coe_nonneg.2 hg) (EReal.coe_ne_top g), ih]

theorem div_coe_coe (a b : ℝ) (hb : b ≠ 0) : Ideal.div (a : EReal) (b : EReal) = ((a / b : ℝ) : EReal) := by
  rw [Ideal.div_coe hb, ← EReal.coe_mul, mul_one_div]

/-- A number whose magnitude is below the infinity is real. -/
theorem exists_real (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

/-- The greatest of a row of reals is real. -/
theorem exists_max {n : ℕ} (f : Fin (n + 1) → ℝ) :
    ∃ μ : ℝ, Finset.univ.fold max (⊥ : EReal) (fun e => (f e : EReal)) = (μ : EReal) := by
  have h1 : Finset.univ.fold max (⊥ : EReal) (fun e => (f e : EReal)) < ⊤ :=
    (Finset.fold_max_lt _).2 ⟨bot_lt_top, fun e _ => EReal.coe_lt_top _⟩
  have h2 : ⊥ < Finset.univ.fold max (⊥ : EReal) (fun e => (f e : EReal)) :=
    (Finset.lt_fold_max _).2 (.inr ⟨0, Finset.mem_univ _, EReal.bot_lt_coe _⟩)
  exact ⟨_, (EReal.coe_toReal h1.ne h2.ne').symm⟩

/-! ## The weight of a route -/

/-- The first route's weight: the logistic function of the difference of the two scores. -/
def gate (s0 s1 : ℝ) : ℝ := 1 / (1 + Real.exp (s1 - s0))

theorem gate_nonneg (s0 s1 : ℝ) : 0 ≤ gate s0 s1 := by unfold gate; positivity
theorem gate_le_one (s0 s1 : ℝ) : gate s0 s1 ≤ 1 := by
  unfold gate
  rw [div_le_one (by positivity)]
  have := Real.exp_pos (s1 - s0); linarith

theorem gate_eq (s0 s1 : ℝ) : Ideal.div 1 (1 + Ideal.exp ((s1 : EReal) - (s0 : EReal))) = (gate s0 s1 : EReal) := by
  have hp : (1 + Real.exp (s1 - s0) : ℝ) ≠ 0 := by positivity
  rw [← EReal.coe_sub, Ideal.exp_coe, ← EReal.coe_one, ← EReal.coe_add, div_coe_coe _ _ hp]
  rfl

/-- The weights of the two routes as quotients of their softmax probabilities. -/
theorem gate_eq_softmax (s0 s1 μ S : ℝ) (hS : 0 < S) :
    (Real.exp (s0 - μ) / S) / (Real.exp (s0 - μ) / S + Real.exp (s1 - μ) / S) = gate s0 s1 := by
  have e : Real.exp (s1 - s0) = Real.exp (s1 - μ) / Real.exp (s0 - μ) := by rw [← Real.exp_sub]; congr 1; ring
  have h0 := Real.exp_pos (s0 - μ)
  have h1 := Real.exp_pos (s1 - μ)
  unfold gate
  rw [e]
  field_simp
theorem one_sub_gate (s0 s1 μ S : ℝ) (hS : 0 < S) :
    (Real.exp (s1 - μ) / S) / (Real.exp (s0 - μ) / S + Real.exp (s1 - μ) / S) = 1 - gate s0 s1 := by
  rw [← gate_eq_softmax s0 s1 μ S hS]
  have h0 := Real.exp_pos (s0 - μ)
  have h1 := Real.exp_pos (s1 - μ)
  field_simp
  ring

/-! ## The sum over the experts -/

/-- The weight a token gives expert `e` when its routes are `e0` and `e1`. -/
def wt (g : ℝ) (e0 e1 e : Fin 32) : EReal := (if e0 = e then (g : EReal) else 0) + (if e1 = e then ((1 - g : ℝ) : EReal) else 0)

theorem sum_ite_route (e0 : Fin 32) {g : ℝ} (hg : 0 ≤ g) (x : Fin 256 → EReal) (W : Fin 32 → Fin 256 → EReal) :
    ∑ e, ∑ t, (if e0 = e then (g : EReal) else 0) * (x t * W e t) = (g : EReal) * ∑ t, x t * W e0 t := by
  rw [Finset.sum_eq_single e0, mul_sum_of_nonneg _ hg]
  · exact Finset.sum_congr rfl fun t _ => by rw [if_pos rfl]
  · intro e _ he
    exact Finset.sum_eq_zero fun t _ => by rw [if_neg (Ne.symm he), zero_mul]
  · exact fun h => absurd (Finset.mem_univ _) h

/-- The weighted products with all the experts are those with the two routed ones. -/
theorem sum_experts {g : ℝ} (h0 : 0 ≤ g) (h1 : g ≤ 1) (e0 e1 : Fin 32) (x : Fin 256 → EReal) (W : Fin 32 → Fin 256 → EReal) :
    ∑ e, ∑ t, (x t * wt g e0 e1 e) * W e t = (g : EReal) * ∑ t, x t * W e0 t + ((1 - g : ℝ) : EReal) * ∑ t, x t * W e1 t := by
  have h1' : 0 ≤ 1 - g := by linarith
  rw [← sum_ite_route e0 h0 x W, ← sum_ite_route e1 h1' x W, ← Finset.sum_add_distrib]
  refine Finset.sum_congr rfl fun e _ => ?_
  rw [← Finset.sum_add_distrib]
  refine Finset.sum_congr rfl fun t _ => ?_
  rw [← EReal.right_distrib_of_nonneg, mul_comm (x t), mul_assoc]
  · rfl
  · split
    · exact EReal.coe_nonneg.2 h0
    · exact le_rfl
  · split
    · exact EReal.coe_nonneg.2 h1'
    · exact le_rfl

/-- Two experts on each of sixteen devices. -/
theorem sum_pairs {M : Type} [AddCommMonoid M] (f : Fin 32 → M) :
    ∑ d : Fin 16, (f ⟨2 * d.val, by omega⟩ + f ⟨2 * d.val + 1, by omega⟩) = ∑ e, f e := by
  rw [← Equiv.sum_comp (finProdFinEquiv (m := 16) (n := 2)), Fintype.sum_prod_type]
  refine Finset.sum_congr rfl fun d _ => ?_
  rw [Fin.sum_univ_two]
  refine congrArg₂ (· + ·) (congrArg f (Fin.ext ?_)) (congrArg f (Fin.ext ?_))
  · show 2 * d.val = 0 + 2 * d.val; omega
  · show 2 * d.val + 1 = 1 + 2 * d.val; omega

end Cert.Moe
-- ==== Proof.ValueKernel.lean ====
/-
# The kernel's result at an index

A device's block of the result is the sum, over the sixteen devices, of their partial products on its rows; a partial product
weighs the device's two experts; together they are the weighted products with all thirty-two experts, of which only the two
routed ones remain.
-/
module

public import proofs.«01_k».proof.Proof.Sched
public import proofs.«01_k».proof.Proof.ValueMath

@[expose] public section

noncomputable section

namespace Cert.Moe

open Cert.KernelIdeal Cert.KernelIdeal.Gen
open Idealize.ShloMosaic
open Idealize.ShloMosaic.TcCoe

/-! ## The stages at an index -/

theorem scores_apply (x : Vec Ideal S512x256 .bf16) (rw : Vec Ideal S256x32 .bf16) (R : Fin 512) (e : Fin 32) :
    k0_pay1 (F := Ideal) x rw (ix2 R e) = ∑ t : Fin 256, x (ix2 R t) * rw (ix2 t e) := by
  pointwise [k0_pay1]

/-- A route's score, picked out of its row. -/
theorem pick_score (s : Fin 32 → EReal) (w : BitVec 32) (e : Fin 32) (h : w = BitVec.ofNat 32 e.val) :
    ∑ k : Fin 32, Scalar.select (IntOp.cmpi .eq (BitVec.ofNat 32 k.val) w) (s k) 0 = s e := by
  rw [Finset.sum_eq_single e]
  · rw [h, select_eq_ofNat e.isLt e.isLt, if_pos rfl]
  · intro k _ hk
    rw [h, select_eq_ofNat k.isLt e.isLt, if_neg fun h' => hk (Fin.ext h')]
  · exact fun h' => absurd (Finset.mem_univ _) h'

theorem score0_apply (x : Vec Ideal S512x256 .bf16) (rw : Vec Ideal S256x32 .bf16) (i : Vec Ideal S512x1 .i32) (R : Fin 512) (e : Fin 32)
    (h : i (ix2 R 0) = BitVec.ofNat 32 e.val) : k0_pay4 (F := Ideal) x rw i (ix2 R 0) = k0_pay1 (F := Ideal) x rw (ix2 R e) := by
  rw [← pick_score (fun k => k0_pay1 (F := Ideal) x rw (ix2 R k)) _ e h]
  pointwise [k0_pay4, k0_pay2]

/-- The first route's weight. -/
theorem gate_apply (s : FVec Ideal S512x32 .f32) (v : FVec Ideal S512x1 .f32) (i : Vec Ideal S512x1 .i32) (R : Fin 512) (e : Fin 32)
    (h : i (ix2 R 0) = BitVec.ofNat 32 e.val) :
    k0_pay7 (F := Ideal) s v (k0_pay5 (F := Ideal) i) (k0_pay6 (F := Ideal)) (ix2 R 0) = Ideal.div 1 (1 + Ideal.exp (s (ix2 R e) - v (ix2 R 0))) := by
  rw [← pick_score (fun k => s (ix2 R k)) _ e h]
  pointwise [k0_pay7, k0_pay5, k0_pay6, k0_pay3]

theorem weight0_apply (n : BitVec 32) (s : FVec Ideal S512x32 .f32) (i0 i1 : IVec S512x1 32) (v : FVec Ideal S512x1 .f32) (b : IVec S512x32 1)
    (o : FVec Ideal S512x32 .f32) (R : Fin 512) :
    k0_pay8 (F := Ideal) n s (k0_pay2 (F := Ideal) i0) (k0_pay3 (F := Ideal) i1) v b o (ix2 R 0)
      = Scalar.select (IntOp.cmpi .eq (i0 (ix2 R 0)) (Scalar.muli 2#32 n)) (k0_pay7 (F := Ideal) s v b o (ix2 R 0)) 0
        + Scalar.select (IntOp.cmpi .eq (i1 (ix2 R 0)) (Scalar.muli 2#32 n)) (1 - k0_pay7 (F := Ideal) s v b o (ix2 R 0)) 0 := by
  pointwise [k0_pay8, k0_pay2, k0_pay3]
theorem weight1_apply (n : BitVec 32) (s : FVec Ideal S512x32 .f32) (i0 i1 : IVec S512x1 32) (v : FVec Ideal S512x1 .f32) (b : IVec S512x32 1)
    (o : FVec Ideal S512x32 .f32) (R : Fin 512) :
    k0_pay9 (F := Ideal) n s (k0_pay2 (F := Ideal) i0) (k0_pay3 (F := Ideal) i1) v b o (ix2 R 0)
      = Scalar.select (IntOp.cmpi .eq (i0 (ix2 R 0)) (Scalar.addi (Scalar.muli 2#32 n) 1#32)) (k0_pay7 (F := Ideal) s v b o (ix2 R 0)) 0
        + Scalar.select (IntOp.cmpi .eq (i1 (ix2 R 0)) (Scalar.addi (Scalar.muli 2#32 n) 1#32)) (1 - k0_pay7 (F := Ideal) s v b o (ix2 R 0)) 0 := by
  pointwise [k0_pay9, k0_pay2, k0_pay3]

theorem product_apply (e0 e1 : Vec Ideal S1x256x512 .bf16) (x : Vec Ideal S128x256 .bf16) (w0 w1 : Vec Ideal S128x1 .f32) (p : Fin 128) (h : Fin 512) :
    k0_pay12 (F := Ideal) e0 e1 x w0 w1 (ix2 p h)
      = ∑ t : Fin 256, (x (ix2 p t) * w0 (ix2 p 0)) * e0 (ix3 0 t h) + ∑ t : Fin 256, (x (ix2 p t) * w1 (ix2 p 0)) * e1 (ix3 0 t h) := by
  pointwise [k0_pay12, k0_pay10, k0_pay11]

/-! ## The loads -/

variable (A : Args Ideal) (c : Dev nD)

/-- Row `p` of slab `z`. -/
def slabRow (z : Fin 4) (p : Fin 128) : Fin 512 := ⟨128 * z.val + p.val, by have := z.isLt; have := p.isLt; omega⟩

theorem xld_eq : xld A c = A.x c := by
  funext i
  refine congrArg (A.x c) (funext fun a => Fin.ext ?_)
  match a with
  | ⟨0, _⟩ => show 0 + 1 * (i 0).val = (i 0).val; omega
  | ⟨1, _⟩ => show 0 + 1 * (i 1).val = (i 1).val; omega
theorem rwld_eq : rwld A c = A.rw c := by
  funext i
  refine congrArg (A.rw c) (funext fun a => Fin.ext ?_)
  match a with
  | ⟨0, _⟩ => show 0 + 1 * (i 0).val = (i 0).val; omega
  | ⟨1, _⟩ => show 0 + 1 * (i 1).val = (i 1).val; omega
theorem i0ld_apply (R : Fin 512) : i0ld A c (ix2 R 0) = A.ri c (ix2 R 0) := by
  refine congrArg (A.ri c) (funext fun a => Fin.ext ?_)
  match a with
  | ⟨0, _⟩ => show 0 + 1 * R.val = R.val; omega
  | ⟨1, _⟩ => rfl
theorem i1ld_apply (R : Fin 512) : i1ld A c (ix2 R 0) = A.ri c (ix2 R 1) := by
  refine congrArg (A.ri c) (funext fun a => Fin.ext ?_)
  match a with
  | ⟨0, _⟩ => show 0 + 1 * R.val = R.val; omega
  | ⟨1, _⟩ => rfl
theorem e0ld_apply (t : Fin 256) (h : Fin 512) : e0ld A c (ix3 0 t h) = A.ew c (ix3 0 t h) := by
  refine congrArg (A.ew c) (funext fun a => Fin.ext ?_)
  match a with
  | ⟨0, _⟩ => rfl
  | ⟨1, _⟩ => show 0 + 1 * t.val = t.val; omega
  | ⟨2, _⟩ => show 0 + 1 * h.val = h.val; omega
theorem e1ld_apply (t : Fin 256) (h : Fin 512) : e1ld A c (ix3 0 t h) = A.ew c (ix3 1 t h) := by
  refine congrArg (A.ew c) (funext fun a => Fin.ext ?_)
  match a with
  | ⟨0, _⟩ => rfl
  | ⟨1, _⟩ => show 0 + 1 * t.val = t.val; omega
  | ⟨2, _⟩ => show 0 + 1 * h.val = h.val; omega
theorem xzld_apply (z : Fin 4) (p : Fin 128) (t : Fin 256) : xzld A c z (ix2 p t) = A.x c (ix2 (slabRow z p) t) := by
  refine congrArg (A.x c) (funext fun a => Fin.ext ?_)
  match a with
  | ⟨0, _⟩ => show 128 * z.val + 1 * p.val = 128 * z.val + p.val; omega
  | ⟨1, _⟩ => show 0 + 1 * t.val = t.val; omega
theorem w0ld_apply (z : Fin 4) (p : Fin 128) : w0ld A c z (ix2 p 0) = w0Val A c (ix2 (slabRow z p) 0) := by
  refine congrArg (w0Val A c) (funext fun a => Fin.ext ?_)
  match a with
  | ⟨0, _⟩ => show 128 * z.val + 1 * p.val = 128 * z.val + p.val; omega
  | ⟨1, _⟩ => rfl
theorem w1ld_apply (z : Fin 4) (p : Fin 128) : w1ld A c z (ix2 p 0) = w1Val A c (ix2 (slabRow z p) 0) := by
  refine congrArg (w1Val A c) (funext fun a => Fin.ext ?_)
  match a with
  | ⟨0, _⟩ => show 128 * z.val + 1 * p.val = 128 * z.val + p.val; omega
  | ⟨1, _⟩ => rfl

/-! ## The device's experts and its weights -/

theorem two_dev_lt (c : Dev nD) : 2 * c.val < 32 := by have : c.val < 16 := c.isLt; omega
theorem two_dev_lt' (c : Dev nD) : 2 * c.val + 1 < 32 := by have : c.val < 16 := c.isLt; omega
abbrev exp0 (c : Dev nD) : Fin 32 := ⟨2 * c.val, two_dev_lt c⟩
abbrev exp1 (c : Dev nD) : Fin 32 := ⟨2 * c.val + 1, two_dev_lt' c⟩

theorem word0 (c : Dev nD) : Scalar.muli 2#32 (v2w c) = BitVec.ofNat 32 (2 * c.val) := by revert c; decide +kernel
theorem word1 (c : Dev nD) : Scalar.addi (Scalar.muli 2#32 (v2w c)) 1#32 = BitVec.ofNat 32 (2 * c.val + 1) := by revert c; decide +kernel

/-- What is known of a token's row: its scores are real and its routes are in range. -/
structure Row (R : Fin 512) (sr : Fin 32 → ℝ) (e0 e1 : Fin 32) : Prop where
  score : ∀ e, ∑ t : Fin 256, A.x c (ix2 R t) * A.rw c (ix2 t e) = (sr e : EReal)
  r0 : A.ri c (ix2 R 0) = BitVec.ofNat 32 e0.val
  r1 : A.ri c (ix2 R 1) = BitVec.ofNat 32 e1.val

variable {A c} {R : Fin 512} {sr : Fin 32 → ℝ} {e0 e1 : Fin 32}

theorem gate_row (H : Row A c R sr e0 e1) :
    k0_pay7 (F := Ideal) (k0_pay1 (xld A c) (rwld A c)) (k0_pay4 (xld A c) (rwld A c) (i0ld A c)) (k0_pay5 (F := Ideal) (i1ld A c))
      (k0_pay6 (F := Ideal)) (ix2 R 0) = (gate (sr e0) (sr e1) : EReal) := by
  rw [gate_apply _ _ _ R e1 ((i1ld_apply A c R).trans H.r1), score0_apply _ _ _ R e0 ((i0ld_apply A c R).trans H.r0), scores_apply, scores_apply,
    xld_eq, rwld_eq, H.score e0, H.score e1]
  exact gate_eq _ _

theorem ite_val {α : Type} (a b : Fin 32) (u v : α) : (if a.val = b.val then u else v) = if a = b then u else v := by
  by_cases h : a = b
  · rw [if_pos h, if_pos (congrArg Fin.val h)]
  · rw [if_neg h, if_neg fun h' => h (Fin.ext h')]

theorem one_sub_coe (g : ℝ) : (1 : EReal) - (g : EReal) = ((1 - g : ℝ) : EReal) := by rw [EReal.coe_sub, EReal.coe_one]

theorem w0Val_row (H : Row A c R sr e0 e1) : w0Val A c (ix2 R 0) = wt (gate (sr e0) (sr e1)) e0 e1 (exp0 c) := by
  unfold w0Val
  rw [weight0_apply, gate_row H, i0ld_apply, i1ld_apply, H.r0, H.r1, word0, select_eq_ofNat e0.isLt (two_dev_lt c),
    select_eq_ofNat e1.isLt (two_dev_lt c), one_sub_coe]
  exact congrArg₂ (· + ·) (ite_val e0 (exp0 c) _ _) (ite_val e1 (exp0 c) _ _)
theorem w1Val_row (H : Row A c R sr e0 e1) : w1Val A c (ix2 R 0) = wt (gate (sr e0) (sr e1)) e0 e1 (exp1 c) := by
  unfold w1Val
  rw [weight1_apply, gate_row H, i0ld_apply, i1ld_apply, H.r0, H.r1, word1, select_eq_ofNat e0.isLt (two_dev_lt' c),
    select_eq_ofNat e1.isLt (two_dev_lt' c), one_sub_coe]
  exact congrArg₂ (· + ·) (ite_val e0 (exp1 c) _ _) (ite_val e1 (exp1 c) _ _)

/-- The device's partial product on a row of a slab. -/
theorem slabVal_row {z : Fin 4} {p : Fin 128} (H : Row A c (slabRow z p) sr e0 e1) (h : Fin 512) :
    slabVal A c z (ix2 p h)
      = ∑ t : Fin 256, (A.x c (ix2 (slabRow z p) t) * wt (gate (sr e0) (sr e1)) e0 e1 (exp0 c)) * A.ew c (ix3 0 t h)
        + ∑ t : Fin 256, (A.x c (ix2 (slabRow z p) t) * wt (gate (sr e0) (sr e1)) e0 e1 (exp1 c)) * A.ew c (ix3 1 t h) := by
  unfold slabVal
  rw [product_apply, w0ld_apply, w1ld_apply, w0Val_row H, w1Val_row H]
  refine congrArg₂ (· + ·) (Finset.sum_congr rfl fun t _ => ?_) (Finset.sum_congr rfl fun t _ => ?_)
  · rw [xzld_apply, e0ld_apply]
  · rw [xzld_apply, e1ld_apply]

/-! ## The exchange as a sum over the devices -/

/-- The devices by distance: planes from `a`, positions from `b`. -/
def byDistance (a b : Fin 4) : Fin 4 × Fin 4 ≃ Dev nD :=
  ((Equiv.addLeft a).prodCongr (Equiv.addLeft b)).trans
    ⟨fun q => mk q.1 q.2, fun d => (gd d, wd d), fun q => Prod.ext (gd_mk q.1 q.2) (wd_mk q.1 q.2), fun d => mk_gd_wd d⟩

theorem sum_over_devices {M : Type} [AddCommMonoid M] (a b : Fin 4) (f : Dev nD → M) :
    ∑ k : Fin 4, ∑ j : Fin 4, f (mk (a + k) (b + j)) = ∑ d, f d := by
  rw [← Equiv.sum_comp (byDistance a b) f, Fintype.sum_prod_type]
  rfl

theorem addb_apply (a : FVec Ideal S32x512 .f32) (b : FVec Ideal S32x512 .bf16) (i : S32x512.Idx) : addb a b i = a i + b i := rfl

/-- The sum over a device's plane. -/
theorem own3_apply (A : Args Ideal) (c : Dev nD) (z : Fin 4) (i : S32x512.Idx) :
    own3 A c z i = ∑ j : Fin 4, blkVal A (mk (gd c) (wd c + j)) z (wd c) i := by
  rw [Fin.sum_univ_four]
  show ((blkVal A c z (wd c + 0) i + _) + _) + _ = _
  rw [add_zero, mk_gd_wd]
  rfl

/-- The device's block of the result: the sum over all the devices of their blocks for it. -/
theorem outVal_apply (A : Args Ideal) (c : Dev nD) (i : S32x512.Idx) : outVal A c i = ∑ d, blkVal A d (gd c) (wd c) i := by
  rw [← sum_over_devices (gd c) (wd c)]
  have hk : ∀ k : Fin 4, own3 A (mk (gd c + k) (wd c)) (gd c) i = ∑ j : Fin 4, blkVal A (mk (gd c + k) (wd c + j)) (gd c) (wd c) i := fun k => by
    rw [own3_apply, gd_mk, wd_mk]
  rw [Finset.sum_congr rfl fun k _ => (hk k).symm, Fin.sum_univ_four, add_zero, mk_gd_wd]
  rfl

/-! ## The result -/

/-- Row `r` of position `w`'s block of a slab. -/
def subOf (w : Fin 4) (r : Fin 32) : Fin 128 := ⟨32 * w.val + r.val, by have := w.isLt; have := r.isLt; omega⟩

theorem blkVal_apply (A : Args Ideal) (d : Dev nD) (z w : Fin 4) (r : Fin 32) (h : Fin 512) :
    blkVal A d z w (ix2 r h) = slabVal A d z (ix2 (subOf w r) h) := by
  refine congrArg (slabVal A d z) (funext fun a => Fin.ext ?_)
  match a with
  | ⟨0, _⟩ => show 32 * w.val + 1 * r.val = 32 * w.val + r.val; omega
  | ⟨1, _⟩ => show 0 + 1 * h.val = h.val; omega

/-- The token of row `r` of a device's block. -/
def tokenOf (c : Dev nD) (r : Fin 32) : Fin 512 := slabRow (gd c) (subOf (wd c) r)
theorem tokenOf_val (c : Dev nD) (r : Fin 32) : (tokenOf c r).val = 32 * c.val + r.val := by
  show 128 * (c.val / 4) + (32 * (c.val % 4) + r.val) = 32 * c.val + r.val
  omega

/-- The block of the result at an index: the token's products with its two routed experts under its weights. The devices hold one
    token array `x`, and device `d` holds experts `2 d` and `2 d + 1` of `W`. -/
theorem outVal_row (A : Args Ideal) (c : Dev nD) (r : Fin 32) (h : Fin 512) (x : Fin 256 → EReal) (W : Fin 32 → Fin 256 → EReal)
    (hx : ∀ d t, A.x d (ix2 (tokenOf c r) t) = x t)
    (hW0 : ∀ d t, A.ew d (ix3 0 t h) = W (exp0 d) t) (hW1 : ∀ d t, A.ew d (ix3 1 t h) = W (exp1 d) t)
    (sr : Fin 32 → ℝ) (e0 e1 : Fin 32) (H : ∀ d, Row A d (tokenOf c r) sr e0 e1) :
    outVal A c (ix2 r h)
      = (gate (sr e0) (sr e1) : EReal) * ∑ t, x t * W e0 t + ((1 - gate (sr e0) (sr e1) : ℝ) : EReal) * ∑ t, x t * W e1 t := by
  rw [outVal_apply, ← sum_experts (gate_nonneg _ _) (gate_le_one _ _) e0 e1 x W, ← sum_pairs]
  refine Finset.sum_congr rfl fun d _ => ?_
  rw [blkVal_apply, slabVal_row (H d)]
  refine congrArg₂ (· + ·) (Finset.sum_congr rfl fun t _ => ?_) (Finset.sum_congr rfl fun t _ => ?_)
  · rw [hW0]; exact congrArg (· * _ * _) (hx d t)
  · rw [hW1]; exact congrArg (· * _ * _) (hx d t)

end Cert.Moe
-- ==== Proof.ValueRef.lean ====
/-
# The reference's result at an index

The reference's composed term is cut into its stages: scores, exponentials, probabilities, the two routes' columns, and the
products. Each is read at an index, and together they give the two routed products under the weights `gate` and its complement.
-/
module

public import proofs.«01_k».proof.Proof.ValueMath
public import proofs.«01_k».proof.Proof.Gen.ReferenceIdeal
public import proofs.«01_k».proof.Proof.Gen.ReferenceIdeal.Run
public import Idealize.ShloMosaic.Lib.Pointwise

@[expose] public section

noncomputable section

namespace Cert.Moe.Ref

open Cert.ReferenceIdeal Cert.ReferenceIdeal.Gen
open Idealize.ShloMosaic
open Idealize.ShloMosaic.TcCoe

/-- The scores. -/
def scoreV (x : FVec Ideal S512x256 .bf16) (rw : FVec Ideal S256x32 .bf16) : FVec Ideal S512x32 .f32 :=
  Host.dotGeneral dot_S512x256_S256x32_S512x32_1_0_0_1_n_n none (extf .f32 x bitsLt_bf16_f32) (extf .f32 rw bitsLt_bf16_f32)
/-- The exponentials of the scores less their row's maximum. -/
def expV (s : FVec Ideal S512x32 .f32) : FVec Ideal S512x32 .f32 :=
  Host.exp (subf s (broadcastInDim S512x32 ![0, 1] bcast_S512x1_S512x32_0_1 (broadcastInDim S512x1 ![0] bcast_S512_S512x1_0
    (Host.reduce FloatOps.maximumf s (constant S_ .f32 0xFF800000#32) reducesTo_S512x32_S512_d1 h_S_))))
/-- The rows divided by their sums. -/
def probV (e : FVec Ideal S512x32 .f32) : FVec Ideal S512x32 .f32 :=
  Host.divf e (broadcastInDim S512x32 ![0, 1] bcast_S512x1_S512x32_0_1 (broadcastInDim S512x1 ![0] bcast_S512_S512x1_0
    (Host.reduceAdd e (constant S_ .f32 0x00000000#32) reducesTo_S512x32_S512_d1 h_S_)))
/-- An index with its negative values wrapped around `n`. -/
def wrapV (n : BitVec 32) (i : IVec S512 32) : IVec S512 32 :=
  select (cmpi .slt i (broadcastInDim S512 ![] bcast_S_S512 (constantI S_ 32 0#32))) (addi i (broadcastInDim S512 ![] bcast_S_S512 (constantI S_ 32 n))) i
/-- The two columns of the routes. -/
def col0V (ri : IVec S512x2 32) : IVec S512 32 := shapeCast _ (extractStridedSlice S512x1 ![0, 0] ri slices_S512x2_S512x1_0_0) shapeCasts_S512x1_S512
def col1V (ri : IVec S512x2 32) : IVec S512 32 := shapeCast _ (extractStridedSlice S512x1 ![0, 1] ri slices_S512x2_S512x1_0_1) shapeCasts_S512x1_S512
/-- The probabilities at a column of routes. -/
def pickV (p : FVec Ideal S512x32 .f32) (i : IVec S512 32) : FVec Ideal S512x1 .f32 :=
  broadcastInDim S512x1 ![0] bcast_S512_S512x1_0 (Host.gather gather_S512x32_S512x2_S512_n_01_n_n_01_1_11 p
    (concatenate S512x2 1 [⟨S512x1, (broadcastInDim S512x1 ![0] bcast_S512_S512x1_0 (wrapV 512#32 (iotaInDim S512 32 0)))⟩,
      ⟨S512x1, (broadcastInDim S512x1 ![0] bcast_S512_S512x1_0 (wrapV 32#32 i))⟩] concatenates_S512x1_S512x1_S512x2_d1))
/-- The products with a column's experts. -/
def prodV (x : FVec Ideal S512x256 .bf16) (ew : FVec Ideal S32x256x512 .bf16) (i : IVec S512 32) : FVec Ideal S512x512 .f32 :=
  Host.dotGeneral dot_S512x256_S512x256x512_S512x512_1_1_n_2_0_0 none (extf .f32 x bitsLt_bf16_f32)
    (Host.gather gather_S32x256x512_S512x1_S512x256x512_12_0_n_n_0_1_1256512 (extf .f32 ew bitsLt_bf16_f32)
      (broadcastInDim S512x1 ![0] bcast_S512_S512x1_0 (wrapV 32#32 i)))
/-- One route's term. -/
def termV (g g0 g1 : FVec Ideal S512x1 .f32) (y : FVec Ideal S512x512 .f32) : FVec Ideal S512x512 .f32 :=
  mulf (broadcastInDim S512x512 ![0, 1] bcast_S512x1_S512x512_0_1 (Host.divf g (addf g0 g1))) y
/-- The reference's result. -/
def outV (x : FVec Ideal S512x256 .bf16) (rw : FVec Ideal S256x32 .bf16) (ri : IVec S512x2 32) (ew : FVec Ideal S32x256x512 .bf16) :
    FVec Ideal S512x512 .f32 :=
  addf (termV (pickV (probV (expV (scoreV x rw))) (col0V ri)) (pickV (probV (expV (scoreV x rw))) (col0V ri))
      (pickV (probV (expV (scoreV x rw))) (col1V ri)) (prodV x ew (col0V ri)))
    (termV (pickV (probV (expV (scoreV x rw))) (col1V ri)) (pickV (probV (expV (scoreV x rw))) (col0V ri))
      (pickV (probV (expV (scoreV x rw))) (col1V ri)) (prodV x ew (col1V ri)))

theorem res_eq (m : (ℓ : Loc nD τ sig) → Buf (Elt Ideal) ℓ) (c : Dev nD) :
    Cert.ReferenceIdeal.Value.res_main_v71 (F := Ideal) m c
      = outV (m ((c.tc : Thread nD τ).loc main_arg0)) (m ((c.tc : Thread nD τ).loc main_arg1)) (m ((c.tc : Thread nD τ).loc main_arg2))
          (m ((c.tc : Thread nD τ).loc main_arg3)) := by
  unfold Cert.ReferenceIdeal.Value.res_main_v71
  rfl

/-! ## The stages at an index -/

theorem scoreV_apply (x : FVec Ideal S512x256 .bf16) (rw : FVec Ideal S256x32 .bf16) (R : Fin 512) (e : Fin 32) :
    scoreV x rw (ix2 R e) = ∑ t : Fin 256, x (ix2 R t) * rw (ix2 t e) := by
  pointwise [scoreV]

theorem expV_apply (s : FVec Ideal S512x32 .f32) (R : Fin 512) (e : Fin 32) :
    expV s (ix2 R e) = Ideal.exp (s (ix2 R e) - Finset.univ.fold max (Ideal.ofBits .f32 0xFF800000#32) fun k => s (ix2 R k)) := by
  pointwise [expV]

theorem probV_apply (s : FVec Ideal S512x32 .f32) (R : Fin 512) (e : Fin 32) :
    probV s (ix2 R e) = Ideal.div (s (ix2 R e)) (∑ k : Fin 32, s (ix2 R k)) := by
  pointwise [probV]

theorem col0V_apply (ri : IVec S512x2 32) (R : Fin 512) : col0V ri (ix1 R) = ri (ix2 R 0) := by pointwise [col0V]
theorem col1V_apply (ri : IVec S512x2 32) (R : Fin 512) : col1V ri (ix1 R) = ri (ix2 R 1) := by pointwise [col1V]

theorem wrapV_apply (n : BitVec 32) (i : IVec S512 32) (R : Fin 512) {a : ℕ} (ha : a < 2 ^ 31) (h : i (ix1 R) = BitVec.ofNat 32 a) :
    wrapV n i (ix1 R) = BitVec.ofNat 32 a := by
  have e : wrapV n i (ix1 R) = Scalar.select (IntOp.cmpi .slt (i (ix1 R)) 0#32) (IntOp.addi (i (ix1 R)) n) (i (ix1 R)) := by
    pointwise [wrapV]
  rw [e, h]
  exact select_wrap ha _

/-! ## The gathers -/

theorem clamp_eq {w : BitVec 32} {a n : ℕ} (hw : w = BitVec.ofNat 32 a) (ha : a ≤ n) (hn : n < 2 ^ 31) : min w.toInt.toNat n = a := by
  rw [hw, toInt_ofNat32 (by omega), Int.toNat_natCast, Nat.min_eq_left ha]

theorem gather_entry (p : FVec Ideal S512x32 .f32) (i : IVec S512x2 32) (R : Fin 512) (e : Fin 32) (h0 : i (ix2 R 0) = BitVec.ofNat 32 R.val)
    (h1 : i (ix2 R 1) = BitVec.ofNat 32 e.val) :
    Host.gather gather_S512x32_S512x2_S512_n_01_n_n_01_1_11 p i (ix1 R) = p (ix2 R e) := by
  unfold Host.gather
  refine congrArg p (funext fun a => Fin.ext ?_)
  match a with
  | ⟨0, _⟩ =>
    refine clamp_eq (n := 511) (Eq.trans (congrArg i (funext fun b => ?_)) h0) (Nat.le_of_lt_succ R.isLt) (by decide)
    match b with
    | ⟨0, _⟩ => rfl
    | ⟨1, _⟩ => rfl
  | ⟨1, _⟩ =>
    refine clamp_eq (n := 31) (Eq.trans (congrArg i (funext fun b => ?_)) h1) (Nat.le_of_lt_succ e.isLt) (by decide)
    match b with
    | ⟨0, _⟩ => rfl
    | ⟨1, _⟩ => rfl

theorem gather_expert (w : FVec Ideal S32x256x512 .f32) (i : IVec S512x1 32) (R : Fin 512) (t : Fin 256) (h : Fin 512) (e : Fin 32)
    (h0 : i (ix2 R 0) = BitVec.ofNat 32 e.val) :
    Host.gather gather_S32x256x512_S512x1_S512x256x512_12_0_n_n_0_1_1256512 w i (ix3 R t h) = w (ix3 e t h) := by
  unfold Host.gather
  refine congrArg w (funext fun a => Fin.ext ?_)
  match a with
  | ⟨0, _⟩ =>
    refine clamp_eq (n := 31) (Eq.trans (congrArg i (funext fun b => ?_)) h0) (Nat.le_of_lt_succ e.isLt) (by decide)
    match b with
    | ⟨0, _⟩ => rfl
    | ⟨1, _⟩ => rfl
  | ⟨1, _⟩ => show 0 + 0 + t.val = t.val; omega
  | ⟨2, _⟩ => show 0 + 0 + h.val = h.val; omega

theorem pickV_apply (p : FVec Ideal S512x32 .f32) (i : IVec S512 32) (R : Fin 512) (e : Fin 32) (h : i (ix1 R) = BitVec.ofNat 32 e.val) :
    pickV p i (ix2 R 0) = p (ix2 R e) := by
  have hR := R.isLt
  have he := e.isLt
  pointwise [pickV]
  refine gather_entry p _ R e ?_ ?_
  · pointwise
    exact wrapV_apply 512#32 _ R (by omega) rfl
  · pointwise
    exact wrapV_apply 32#32 _ R (by omega) h

theorem prodV_apply (x : FVec Ideal S512x256 .bf16) (ew : FVec Ideal S32x256x512 .bf16) (i : IVec S512 32) (R h : Fin 512) (e : Fin 32)
    (hi : i (ix1 R) = BitVec.ofNat 32 e.val) : prodV x ew i (ix2 R h) = ∑ t : Fin 256, x (ix2 R t) * ew (ix3 e t h) := by
  have he := e.isLt
  pointwise [prodV]
  refine Finset.sum_congr rfl fun t _ => congrArg (x (ix2 R t) * ·) ?_
  refine gather_expert _ _ R t h e ?_
  pointwise
  exact wrapV_apply 32#32 _ R (by omega) hi

theorem termV_apply (g g0 g1 : FVec Ideal S512x1 .f32) (y : FVec Ideal S512x512 .f32) (R h : Fin 512) :
    termV g g0 g1 y (ix2 R h) = Ideal.div (g (ix2 R 0)) (g0 (ix2 R 0) + g1 (ix2 R 0)) * y (ix2 R h) := by
  pointwise [termV]

/-! ## The probabilities -/

theorem negInf : Ideal.ofBits .f32 0xFF800000#32 = ⊥ := by
  simp [Ideal.ofBits, Ideal.ieee]

/-- A row of real scores: its probabilities are quotients of exponentials. -/
theorem prob_row (s : FVec Ideal S512x32 .f32) (R : Fin 512) (sr : Fin 32 → ℝ) (hs : ∀ e, s (ix2 R e) = (sr e : EReal)) :
    ∃ μ S : ℝ, 0 < S ∧ ∀ e, probV (expV s) (ix2 R e) = ((Real.exp (sr e - μ) / S : ℝ) : EReal) := by
  obtain ⟨μ, hμ⟩ := exists_max sr
  have he : ∀ e, expV s (ix2 R e) = (Real.exp (sr e - μ) : EReal) := fun e => by
    rw [expV_apply, negInf]
    have : (fun k => s (ix2 R k)) = fun k => (sr k : EReal) := funext hs
    rw [this, hμ, hs e, ← EReal.coe_sub, Ideal.exp_coe]
  have hS : 0 < ∑ k, Real.exp (sr k - μ) := Finset.sum_pos (fun k _ => Real.exp_pos _) ⟨0, Finset.mem_univ _⟩
  refine ⟨μ, ∑ k, Real.exp (sr k - μ), hS, fun e => ?_⟩
  rw [probV_apply, he e, Finset.sum_congr rfl fun k _ => he k, ← coe_sum, div_coe_coe _ _ hS.ne']

/-- The result at an index, where the token's row, the router and the routes are as named. -/
theorem outV_apply (x : FVec Ideal S512x256 .bf16) (rw : FVec Ideal S256x32 .bf16) (ri : IVec S512x2 32) (ew : FVec Ideal S32x256x512 .bf16)
    (R h : Fin 512) (sr : Fin 32 → ℝ) (hs : ∀ e, ∑ t : Fin 256, x (ix2 R t) * rw (ix2 t e) = (sr e : EReal)) (e0 e1 : Fin 32)
    (h0 : ri (ix2 R 0) = BitVec.ofNat 32 e0.val) (h1 : ri (ix2 R 1) = BitVec.ofNat 32 e1.val) :
    outV x rw ri ew (ix2 R h)
      = (gate (sr e0) (sr e1) : EReal) * ∑ t : Fin 256, x (ix2 R t) * ew (ix3 e0 t h)
        + ((1 - gate (sr e0) (sr e1) : ℝ) : EReal) * ∑ t : Fin 256, x (ix2 R t) * ew (ix3 e1 t h) := by
  obtain ⟨μ, S, hS, hp⟩ := prob_row (scoreV x rw) R sr fun e => (scoreV_apply x rw R e).trans (hs e)
  have c0 : col0V ri (ix1 R) = BitVec.ofNat 32 e0.val := (col0V_apply ri R).trans h0
  have c1 : col1V ri (ix1 R) = BitVec.ofNat 32 e1.val := (col1V_apply ri R).trans h1
  have hne : Real.exp (sr e0 - μ) / S + Real.exp (sr e1 - μ) / S ≠ 0 := by positivity
  show termV _ _ _ _ (ix2 R h) + termV _ _ _ _ (ix2 R h) = _
  rw [termV_apply, termV_apply, pickV_apply _ _ R e0 c0, pickV_apply _ _ R e1 c1, prodV_apply x ew _ R h e0 c0, prodV_apply x ew _ R h e1 c1,
    hp e0, hp e1, ← EReal.coe_add, div_coe_coe _ _ hne, div_coe_coe _ _ hne, gate_eq_softmax _ _ _ _ hS, one_sub_gate _ _ _ _ hS]

end Cert.Moe.Ref
-- ==== Proof.Value.lean ====
/-
# The kernel computes the reference

Under the precondition the routes are expert numbers and the scores are real; then a device's block of the kernel's result is its
block of the reference's.
-/
module

public import proofs.«01_k».proof.Proof.Frames
public import proofs.«01_k».proof.Proof.RefFrame
public import proofs.«01_k».proof.Proof.ValueKernel
public import proofs.«01_k».proof.Proof.ValueRef

@[expose] public section

noncomputable section

namespace Cert.Moe

open Idealize.ShloMosaic Idealize.SL.Sem

/-! ## The precondition at an index -/

section Pre
open Cert.Pre_routed_KernelIdeal

theorem posInf : Ideal.ofBits .f32 0x7F800000#32 = ⊤ := by
  simp [Ideal.ofBits, Ideal.ieee]

variable {x : FVec Ideal S512x256 .bf16} {rw : FVec Ideal S256x32 .bf16} {ri : IVec S512x2 32} {ew : FVec Ideal S2x256x512 .bf16}

theorem pre_route (h : (Cert.Pre_routed_KernelIdeal.fn (F := Ideal) x rw ri ew).1 = fun _ => 1#1) (R : Fin 512) (k : Fin 2) :
    ∃ e : Fin 32, ri (ix2 R k) = BitVec.ofNat 32 e.val :=
  exists_route _ (Eq.trans (by pointwise [Cert.Pre_routed_KernelIdeal.fn]) (congrFun h (ix2 R k)))

theorem pre_x (h : (Cert.Pre_routed_KernelIdeal.fn (F := Ideal) x rw ri ew).2.1 = fun _ => 1#1) (R : Fin 512) (t : Fin 256) :
    ∃ r : ℝ, x (ix2 R t) = (r : EReal) :=
  exists_real _ (Eq.trans (by rw [← posInf]; pointwise [Cert.Pre_routed_KernelIdeal.fn]; rfl) (congrFun h (ix2 R t)))

theorem pre_rw (h : (Cert.Pre_routed_KernelIdeal.fn (F := Ideal) x rw ri ew).2.2 = fun _ => 1#1) (t : Fin 256) (e : Fin 32) :
    ∃ r : ℝ, rw (ix2 t e) = (r : EReal) :=
  exists_real _ (Eq.trans (by rw [← posInf]; pointwise [Cert.Pre_routed_KernelIdeal.fn]; rfl) (congrFun h (ix2 t e)))

end Pre

/-! ## The claim -/

/-- A row of real numbers times a real matrix is real. -/
theorem exists_scores (x : Fin 256 → EReal) (w : Fin 256 → Fin 32 → EReal) (hx : ∀ t, ∃ r : ℝ, x t = (r : EReal))
    (hw : ∀ t e, ∃ r : ℝ, w t e = (r : EReal)) : ∃ sr : Fin 32 → ℝ, ∀ e, ∑ t, x t * w t e = (sr e : EReal) := by
  choose xr hx using hx
  choose wr hw using hw
  refine ⟨fun e => ∑ t, xr t * wr t e, fun e => ?_⟩
  rw [coe_sum]
  exact Finset.sum_congr rfl fun t _ => by rw [hx, hw, EReal.coe_mul]

/-- A device's block of the kernel's result is its block of the reference's. -/
theorem outVal_eq_block (A : Args Ideal) (x : FVec Ideal Cert.ReferenceIdeal.S512x256 .bf16) (rw : FVec Ideal Cert.ReferenceIdeal.S256x32 .bf16)
    (ri : IVec Cert.ReferenceIdeal.S512x2 32) (ew : FVec Ideal Cert.ReferenceIdeal.S32x256x512 .bf16)
    (hAx : ∀ d, A.x d = x) (hArw : ∀ d, A.rw d = rw) (hAri : ∀ d, A.ri d = ri)
    (hAew : ∀ d, A.ew d = Layout.block ⟨3, ![2, 256, 512]⟩ ⟨3, ![32, 256, 512]⟩ 0 16 d ew)
    (hroute : ∀ R k, ∃ e : Fin 32, ri (ix2 R k) = BitVec.ofNat 32 e.val)
    (hx : ∀ R t, ∃ r : ℝ, x (ix2 R t) = (r : EReal)) (hrw : ∀ t e, ∃ r : ℝ, rw (ix2 t e) = (r : EReal)) (c : Dev Cert.KernelIdeal.nD) :
    outVal A c = Layout.block ⟨2, ![32, 512]⟩ ⟨2, ![512, 512]⟩ 0 16 c (Ref.outV x rw ri ew) := by
  funext i
  obtain ⟨r, h, rfl⟩ : ∃ (r : Fin 32) (h : Fin 512), i = ix2 r h := ⟨i 0, i 1, funext fun a => match a with | ⟨0, _⟩ => rfl | ⟨1, _⟩ => rfl⟩
  obtain ⟨e0, h0⟩ := hroute (tokenOf c r) 0
  obtain ⟨e1, h1⟩ := hroute (tokenOf c r) 1
  obtain ⟨sr, hs⟩ := exists_scores (fun t => x (ix2 (tokenOf c r) t)) (fun t e => rw (ix2 t e)) (hx _) hrw
  have hrow : ∀ d, Row A d (tokenOf c r) sr e0 e1 := fun d =>
    ⟨fun e => by rw [hAx d, hArw d]; exact hs e, by rw [hAri d]; exact h0, by rw [hAri d]; exact h1⟩
  have hidx : (Layout.block ⟨2, ![32, 512]⟩ ⟨2, ![512, 512]⟩ 0 16 c (Ref.outV x rw ri ew) : FVec Ideal ⟨2, ![32, 512]⟩ .f32) (ix2 r h) =
      Ref.outV x rw ri ew (ix2 (tokenOf c r) h) := by
    refine congrArg (Ref.outV x rw ri ew) (funext fun a => Fin.ext ?_)
    match a with
    | ⟨0, _⟩ => rw [Layout.Tiles.idx_val]; show c.val * 32 + r.val = (tokenOf c r).val; rw [tokenOf_val]; omega
    | ⟨1, _⟩ => rfl
  have hW0 : ∀ d t, A.ew d (ix3 0 t h) = ew (ix3 (exp0 d) t h) := fun d t => by
    rw [hAew d]
    refine congrArg ew (funext fun a => Fin.ext ?_)
    match a with
    | ⟨0, _⟩ => rw [Layout.Tiles.idx_val]; show d.val * 2 + 0 = 2 * d.val; omega
    | ⟨1, _⟩ => rfl
    | ⟨2, _⟩ => rfl
  have hW1 : ∀ d t, A.ew d (ix3 1 t h) = ew (ix3 (exp1 d) t h) := fun d t => by
    rw [hAew d]
    refine congrArg ew (funext fun a => Fin.ext ?_)
    match a with
    | ⟨0, _⟩ => rw [Layout.Tiles.idx_val]; show d.val * 2 + 1 = 2 * d.val + 1; omega
    | ⟨1, _⟩ => rfl
    | ⟨2, _⟩ => rfl
  rw [hidx, Ref.outV_apply x rw ri ew (tokenOf c r) h sr hs e0 e1 h0 h1]
  exact outVal_row A c r h (fun t => x (ix2 (tokenOf c r) t)) (fun e t => ew (ix3 e t h)) (fun d t => by rw [hAx d]) hW0 hW1 sr e0 e1 hrow

theorem algebraic : Cert.algebraic_KernelIdeal_ReferenceIdeal_pre_routed_KernelIdeal := by
  intro m g m' g' hpre hargs
  refine ⟨Cert.ReferenceIdeal.Value.res_main_v71 (F := Ideal) m' 0, ?_, ?_⟩
  · refine (θ_run _ _ _).mono (fun r hr c => ?_) (run_values (F := Ideal) m g)
    refine ⟨(hr.1 c).1.trans ?_, (hr.1 c).2⟩
    rw [Ref.res_eq]
    obtain ⟨hp1, hp2, hp3⟩ := hpre c
    rw [(hargs c).1] at hp1 hp2 hp3
    rw [(hargs c).2.1] at hp1 hp2 hp3
    rw [(hargs c).2.2.1] at hp1 hp2 hp3
    exact outVal_eq_block (args m) _ _ _ _ (fun d => (args_x m d).trans (hargs d).1) (fun d => (args_rw m d).trans (hargs d).2.1)
      (fun d => (args_ri m d).trans (hargs d).2.2.1) (fun d => (args_ew m d).trans (hargs d).2.2.2)
      (pre_route hp1) (pre_x hp2) (pre_rw hp3) c
  · exact (θ_run _ _ _).mono (fun r hr => hr 0) (Cert.ReferenceIdeal.Value.run (F := Ideal) m' g')

end Cert.Moe
-- ==== Proof.lean ====
/-
# The claims assembled
-/
module

public import proofs.«01_k».proof.Defs
public import proofs.«01_k».proof.Proof.Gen.ReferenceIdeal.Run
public import proofs.«01_k».proof.Proof.Frames
public import proofs.«01_k».proof.Proof.RefFrame
public import proofs.«01_k».proof.Proof.Value

@[expose] public section

namespace Cert.Proof

theorem claim : Cert.Claim :=
  ⟨Cert.Kernel.Gen.facts, Cert.KernelIdeal.Gen.facts, Cert.ReferenceIdeal.Gen.facts, Cert.Moe.preKernel, Cert.Moe.preReference,
    Cert.Moe.frame_kernel, Cert.Moe.frame_kernelIdeal, Cert.Moe.frame_kernelIdeal_pre, Cert.Moe.frame_reference,
    Cert.Moe.frame_reference_pre, trivial, Cert.Moe.algebraic⟩

end Cert.Proof
